-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)) →
    ∃ (v0 : (c : Dev Cert.Kernel2Ideal.nD) → Buf (Elt Ideal) ((c.tc : Thread Cert.Kernel2Ideal.nD Cert.Kernel2Ideal.τ).loc Cert.Kernel2Ideal.main_v23_0)) (v1 : (c : Dev Cert.Kernel2Ideal.nD) → Buf (Elt Ideal) ((c.tc : Thread Cert.Kernel2Ideal.nD Cert.Kernel2Ideal.τ).loc Cert.Kernel2Ideal.main_v23_3)) (v2 : (c : Dev Cert.Kernel2Ideal.nD) → Buf (Elt Ideal) ((c.tc : Thread Cert.Kernel2Ideal.nD Cert.Kernel2Ideal.τ).loc Cert.Kernel2Ideal.main_v23_6)) (v3 : (c : Dev Cert.Kernel2Ideal.nD) → Buf (Elt Ideal) ((c.tc : Thread Cert.Kernel2Ideal.nD Cert.Kernel2Ideal.τ).loc Cert.Kernel2Ideal.main_v23_2)) (v4 : (c : Dev Cert.Kernel2Ideal.nD) → Buf (Elt Ideal) ((c.tc : Thread Cert.Kernel2Ideal.nD Cert.Kernel2Ideal.τ).loc Cert.Kernel2Ideal.main_v23_4)) (v5 : (c : Dev Cert.Kernel2Ideal.nD) → Buf (Elt Ideal) ((c.tc : Thread Cert.Kernel2Ideal.nD Cert.Kernel2Ideal.τ).loc Cert.Kernel2Ideal.main_v23_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v23_0) = v0 c
          ∧ r.2.mem ((c.tc : Thread Cert.Kernel2Ideal.nD Cert.Kernel2Ideal.τ).loc Cert.Kernel2Ideal.main_v23_3) = v1 c
          ∧ r.2.mem ((c.tc : Thread Cert.Kernel2Ideal.nD Cert.Kernel2Ideal.τ).loc Cert.Kernel2Ideal.main_v23_6) = v2 c
          ∧ r.2.mem ((c.tc : Thread Cert.Kernel2Ideal.nD Cert.Kernel2Ideal.τ).loc Cert.Kernel2Ideal.main_v23_2) = v3 c
          ∧ r.2.mem ((c.tc : Thread Cert.Kernel2Ideal.nD Cert.Kernel2Ideal.τ).loc Cert.Kernel2Ideal.main_v23_4) = v4 c
          ∧ r.2.mem ((c.tc : Thread Cert.Kernel2Ideal.nD Cert.Kernel2Ideal.τ).loc Cert.Kernel2Ideal.main_v23_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v215) = v0 c
          ∧ r.2.mem ((c.tc : Thread Cert.Reference2Ideal.nD Cert.Reference2Ideal.τ).loc Cert.Reference2Ideal.main_v218) = v1 c
          ∧ r.2.mem ((c.tc : Thread Cert.Reference2Ideal.nD Cert.Reference2Ideal.τ).loc Cert.Reference2Ideal.main_v220) = v2 c
          ∧ r.2.mem ((c.tc : Thread Cert.Reference2Ideal.nD Cert.Reference2Ideal.τ).loc Cert.Reference2Ideal.main_v222) = v3 c
          ∧ r.2.mem ((c.tc : Thread Cert.Reference2Ideal.nD Cert.Reference2Ideal.τ).loc Cert.Reference2Ideal.main_v225) = v4 c
          ∧ r.2.mem ((c.tc : Thread Cert.Reference2Ideal.nD Cert.Reference2Ideal.τ).loc Cert.Reference2Ideal.main_v227) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v6) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v11) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Kernel.lean ====
abbrev S4x4096x2048 : Shape := ⟨3, ![4, 4096, 2048]⟩
abbrev S4x18432 : Shape := ⟨2, ![4, 18432]⟩
abbrev S1x2048 : Shape := ⟨2, ![1, 2048]⟩
abbrev S1x2048x5632 : Shape := ⟨3, ![1, 2048, 5632]⟩
abbrev S1x5632x2048 : Shape := ⟨3, ![1, 5632, 2048]⟩
abbrev S16384x2048 : Shape := ⟨2, ![16384, 2048]⟩
abbrev S4x9x2048 : Shape := ⟨3, ![4, 9, 2048]⟩
abbrev S2048x5632 : Shape := ⟨2, ![2048, 5632]⟩
abbrev S5632x2048 : Shape := ⟨2, ![5632, 2048]⟩
abbrev S1024x2048 : Shape := ⟨2, ![1024, 2048]⟩
abbrev S1x9x2048 : Shape := ⟨3, ![1, 9, 2048]⟩
abbrev S2048x512 : Shape := ⟨2, ![2048, 512]⟩
abbrev S512x2048 : Shape := ⟨2, ![512, 2048]⟩
abbrev S1x1x2048 : Shape := ⟨3, ![1, 1, 2048]⟩
abbrev S16x2048 : Shape := ⟨2, ![16, 2048]⟩
abbrev S16 : Shape := ⟨1, ![16]⟩
abbrev S16x1 : Shape := ⟨2, ![16, 1]⟩
abbrev S2048x256 : Shape := ⟨2, ![2048, 256]⟩
abbrev S1024x256 : Shape := ⟨2, ![1024, 256]⟩
abbrev S256x2048 : Shape := ⟨2, ![256, 2048]⟩

abbrev nBuf : Space → Nat
  | .hbm => 15
  | .vmem => 14
  | .smem => 0
  | _ => 0

abbrev bufTy : (tb : Table) → Fin (tcTables nBuf tb) → BufTy
  | .hbm, ⟨0, _⟩ => ⟨S4x4096x2048, .f32⟩
  | .hbm, ⟨1, _⟩ => ⟨S4x18432, .f32⟩
  | .hbm, ⟨2, _⟩ => ⟨S1x2048, .f32⟩
  | .hbm, ⟨3, _⟩ => ⟨S1x2048x5632, .f32⟩
  | .hbm, ⟨4, _⟩ => ⟨S1x2048x5632, .f32⟩
  | .hbm, ⟨5, _⟩ => ⟨S1x5632x2048, .f32⟩
  | .hbm, ⟨6, _⟩ => ⟨S16384x2048, .f32⟩
  | .hbm, ⟨7, _⟩ => ⟨S4x9x2048, .f32⟩
  | .hbm, ⟨8, _⟩ => ⟨S2048x5632, .f32⟩
  | .hbm, ⟨9, _⟩ => ⟨S2048x5632, .bf16⟩
  | .hbm, ⟨10, _⟩ => ⟨S2048x5632, .f32⟩
  | .hbm, ⟨11, _⟩ => ⟨S2048x5632, .bf16⟩
  | .hbm, ⟨12, _⟩ => ⟨S5632x2048, .f32⟩
  | .hbm, ⟨13, _⟩ => ⟨S5632x2048, .bf16⟩
  | .hbm, ⟨14, _⟩ => ⟨S16384x2048, .f32⟩
  | .local _ .vmem, ⟨0, _⟩ => ⟨S1024x2048, .f32⟩
  | .local _ .vmem, ⟨1, _⟩ => ⟨S1024x2048, .f32⟩
  | .local _ .vmem, ⟨2, _⟩ => ⟨S1x9x2048, .f32⟩
  | .local _ .vmem, ⟨3, _⟩ => ⟨S1x9x2048, .f32⟩
  | .local _ .vmem, ⟨4, _⟩ => ⟨S1x2048, .f32⟩
  | .local _ .vmem, ⟨5, _⟩ => ⟨S2048x512, .bf16⟩
  | .local _ .vmem, ⟨6, _⟩ => ⟨S2048x512, .bf16⟩
  | .local _ .vmem, ⟨7, _⟩ => ⟨S2048x512, .bf16⟩
  | .local _ .vmem, ⟨8, _⟩ => ⟨S2048x512, .bf16⟩
  | .local _ .vmem, ⟨9, _⟩ => ⟨S512x2048, .bf16⟩
  | .local _ .vmem, ⟨10, _⟩ => ⟨S512x2048, .bf16⟩
  | .local _ .vmem, ⟨11, _⟩ => ⟨S1024x2048, .f32⟩
  | .local _ .vmem, ⟨12, _⟩ => ⟨S1024x2048, .f32⟩
  | .local _ .vmem, ⟨13, _⟩ => ⟨S1024x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![16, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_30 : BitVec 32 := 0#32
  let c64_i32 : BitVec 32 := 64#32
  let v46 : BitVec 32 := Scalar.addi c0_i32_30 c64_i32
  let c1_i32 : BitVec 32 := 1#32
  ⟨c0_i32_30, v46, c1_i32⟩
def k0_mult1 (k0_t1 : Fin k0_t1_loop.trips) : BitVec 32 :=
  let c0_i32_30 : BitVec 32 := 0#32
  let c1_i32 : BitVec 32 := 1#32
  let arg10 : BitVec 32 := Scf.iv c0_i32_30 c1_i32 k0_t1
  let c16_i32 : BitVec 32 := 16#32
  let v47 : BitVec 32 := Scalar.muli arg10 c16_i32
  v47
def k0_off1 (k0_t1 : Fin k0_t1_loop.trips) : Fin 2 → Nat :=
  let c0_i32_30 : BitVec 32 := 0#32
  let c1_i32 : BitVec 32 := 1#32
  let arg10 : BitVec 32 := Scf.iv c0_i32_30 c1_i32 k0_t1
  let c16_i32 : BitVec 32 := 16#32
  let v47 : BitVec 32 := Scalar.muli arg10 c16_i32
  let v48 : BitVec 32 := v47
  let v49 : Index := Scalar.indexCast v48
  let c0_32 : Index := 0#32
  ![v49.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S4x4096x2048 : Shape := ⟨3, ![4, 4096, 2048]⟩
abbrev S4x18432 : Shape := ⟨2, ![4, 18432]⟩
abbrev S1x2048 : Shape := ⟨2, ![1, 2048]⟩
abbrev S1x2048x5632 : Shape := ⟨3, ![1, 2048, 5632]⟩
abbrev S1x5632x2048 : Shape := ⟨3, ![1, 5632, 2048]⟩
abbrev S4x2048 : Shape := ⟨2, ![4, 2048]⟩
abbrev S_ : Shape := ⟨0, ![]⟩
abbrev S4x4096 : Shape := ⟨2, ![4, 4096]⟩
abbrev S4x4096x1 : Shape := ⟨3, ![4, 4096, 1]⟩
abbrev S2048 : Shape := ⟨1, ![2048]⟩
abbrev S1x1x2048 : Shape := ⟨3, ![1, 1, 2048]⟩
abbrev S4x1x2048 : Shape := ⟨3, ![4, 1, 2048]⟩
abbrev S2048x5632 : Shape := ⟨2, ![2048, 5632]⟩
abbrev S4x4096x5632 : Shape := ⟨3, ![4, 4096, 5632]⟩
abbrev S5632x2048 : Shape := ⟨2, ![5632, 2048]⟩
abbrev S16384x2048 : Shape := ⟨2, ![16384, 2048]⟩

abbrev nBuf : Space → Nat
  | .hbm => 59
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x18432, .f32⟩
  | .hbm, ⟨2, _⟩ => ⟨S1x2048, .f32⟩
  | .hbm, ⟨3, _⟩ => ⟨S1x2048x5632, .f32⟩
  | .hbm, ⟨4, _⟩ => ⟨S1x2048x5632, .f32⟩
  | .hbm, ⟨5, _⟩ => ⟨S1x5632x2048, .f32⟩
  | .hbm, ⟨6, _⟩ => ⟨S4x2048, .f32⟩
  | .hbm, ⟨7, _⟩ => ⟨S4x2048, .f32⟩
  | .hbm, ⟨8, _⟩ => ⟨S4x2048, .f32⟩
  | .hbm, ⟨9, _⟩ => ⟨S4x4096x2048, .f32⟩
  | .hbm, ⟨10, _⟩ => ⟨S_, .f32⟩
  | .hbm, ⟨11, _⟩ => ⟨S4x4096, .f32⟩
  | .hbm, ⟨12, _⟩ => ⟨S4x4096x1, .f32⟩
  | .hbm, ⟨13, _⟩ => ⟨S_, .f32⟩
  | .hbm, ⟨14, _⟩ => ⟨S4x4096x1, .f32⟩
  | .hbm, ⟨15, _⟩ => ⟨S4x4096x1, .f32⟩
  | .hbm, ⟨16, _⟩ => ⟨S_, .f32⟩
  | .hbm, ⟨17, _⟩ => ⟨S4x4096x1, .f32⟩
  | .hbm, ⟨18, _⟩ => ⟨S4x4096x1, .f32⟩
  | .hbm, ⟨19, _⟩ => ⟨S4x4096x1, .f32⟩
  | .hbm, ⟨20, _⟩ => ⟨S4x4096x2048, .f32⟩
  | .hbm, ⟨21, _⟩ => ⟨S4x4096x2048, .f32⟩
  | .hbm, ⟨22, _⟩ => ⟨S2048, .f32⟩
  | .hbm, ⟨23, _⟩ => ⟨S1x1x2048, .f32⟩
  | .hbm, ⟨24, _⟩ => ⟨S4x4096x2048, .f32⟩
  | .hbm, ⟨25, _⟩ => ⟨S4x4096x2048, .f32⟩
  | .hbm, ⟨26, _⟩ => ⟨S4x1x2048, .f32⟩
  | .hbm, ⟨27, _⟩ => ⟨S_, .f32⟩
  | .hbm, ⟨28, _⟩ => ⟨S4x1x2048, .f32⟩
  | .hbm, ⟨29, _⟩ => ⟨S4x1x2048, .f32⟩
  | .hbm, ⟨30, _⟩ => ⟨S4x4096x2048, .f32⟩
  | .hbm, ⟨31, _⟩ => ⟨S4x4096x2048, .f32⟩
  | .hbm, ⟨32, _⟩ => ⟨S4x1x2048, .f32⟩
  | .hbm, ⟨33, _⟩ => ⟨S4x4096x2048, .f32⟩
  | .hbm, ⟨34, _⟩ => ⟨S4x4096x2048, .f32⟩
  | .hbm, ⟨35, _⟩ => ⟨S2048x5632, .f32⟩
  | .hbm, ⟨36, _⟩ => ⟨S4x4096x5632, .f32⟩
  | .hbm, ⟨37, _⟩ => ⟨S4x4096x5632, .f32⟩
  | .hbm, ⟨38, _⟩ => ⟨S4x4096x5632, .f32⟩
  | .hbm, ⟨39, _⟩ => ⟨S_, .f32⟩
  | .hbm, ⟨40, _⟩ => ⟨S4x4096x5632, .f32⟩
  | .hbm, ⟨41, _⟩ => ⟨S4x4096x5632, .f32⟩
  | .hbm, ⟨42, _⟩ => ⟨S_, .f32⟩
  | .hbm, ⟨43, _⟩ => ⟨S4x4096x5632, .f32⟩
  | .hbm, ⟨44, _⟩ => ⟨S4x4096x5632, .f32⟩
  | .hbm, ⟨45, _⟩ => ⟨S4x4096x5632, .f32⟩
  | .hbm, ⟨46, _⟩ => ⟨S2048x5632, .f32⟩
  | .hbm, ⟨47, _⟩ => ⟨S4x4096x5632, .f32⟩
  | .hbm, ⟨48, _⟩ => ⟨S4x4096x5632, .f32⟩
  | .hbm, ⟨49, _⟩ => ⟨S5632x2048, .f32⟩
  | .hbm, ⟨50, _⟩ => ⟨S4x4096x2048, .f32⟩
  | .hbm, ⟨51, _⟩ => ⟨S4x1x2048, .f32⟩
  | .hbm, ⟨52, _⟩ => ⟨S_, .f32⟩
  | .hbm, ⟨53, _⟩ => ⟨S4x1x2048, .f32⟩
  | .hbm, ⟨54, _⟩ => ⟨S4x1x2048, .f32⟩
  | .hbm, ⟨55, _⟩ => ⟨S4x4096x2048, .f32⟩
  | .hbm, ⟨56, _⟩ => ⟨S4x4096x2048, .f32⟩
  | .hbm, ⟨57, _⟩ => ⟨S4x4096x2048, .f32⟩
  | .hbm, ⟨58, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩

abbrev nD : Nat := 1
abbrev τ : Topo := Topo.v7x

variable {F : FTy → Type} [FloatOps F]
-- ==== Kernel2.lean ====
abbrev S4x4096x2048 : Shape := ⟨3, ![4, 4096, 2048]⟩
abbrev S4x18432 : Shape := ⟨2, ![4, 18432]⟩
abbrev S1x2048 : Shape := ⟨2, ![1, 2048]⟩
abbrev S4x4096 : Shape := ⟨2, ![4, 4096]⟩
abbrev S1x2048x6224 : Shape := ⟨3, ![1, 2048, 6224]⟩
abbrev S1x1024 : Shape := ⟨2, ![1, 1024]⟩
abbrev S1x8x128x128 : Shape := ⟨4, ![1, 8, 128, 128]⟩
abbrev S1x8x128 : Shape := ⟨3, ![1, 8, 128]⟩
abbrev S1x128 : Shape := ⟨2, ![1, 128]⟩
abbrev S8x128 : Shape := ⟨2, ![8, 128]⟩
abbrev S2048x6224 : Shape := ⟨2, ![2048, 6224]⟩
abbrev S_ : Shape := ⟨0, ![]⟩
abbrev S2048x176 : Shape := ⟨2, ![2048, 176]⟩
abbrev S2048x6400 : Shape := ⟨2, ![2048, 6400]⟩
abbrev S2048 : Shape := ⟨1, ![2048]⟩
abbrev S8x128x1 : Shape := ⟨3, ![8, 128, 1]⟩
abbrev S8x128x128 : Shape := ⟨3, ![8, 128, 128]⟩
abbrev S16384x2048 : Shape := ⟨2, ![16384, 2048]⟩
abbrev S4x9x2048 : Shape := ⟨3, ![4, 9, 2048]⟩
abbrev S16384x1 : Shape := ⟨2, ![16384, 1]⟩
abbrev S1024 : Shape := ⟨1, ![1024]⟩
abbrev S128 : Shape := ⟨1, ![128]⟩
abbrev S2x128 : Shape := ⟨2, ![2, 128]⟩
abbrev S16384x1024 : Shape := ⟨2, ![16384, 1024]⟩
abbrev S1024x16384 : Shape := ⟨2, ![1024, 16384]⟩
abbrev S64x1024x256 : Shape := ⟨3, ![64, 1024, 256]⟩
abbrev S16x64x16384 : Shape := ⟨3, ![16, 64, 16384]⟩
abbrev S16384x64 : Shape := ⟨2, ![16384, 64]⟩
abbrev S16x16384 : Shape := ⟨2, ![16, 16384]⟩
abbrev S512x2048 : Shape := ⟨2, ![512, 2048]⟩
abbrev S1x9x2048 : Shape := ⟨3, ![1, 9, 2048]⟩
abbrev S512x1 : Shape := ⟨2, ![512, 1]⟩
abbrev S512x1024 : Shape := ⟨2, ![512, 1024]⟩
abbrev S1024x512 : Shape := ⟨2, ![1024, 512]⟩
abbrev S2x1024x256 : Shape := ⟨3, ![2, 1024, 256]⟩
abbrev S16x64x512 : Shape := ⟨3, ![16, 64, 512]⟩
abbrev S512x64 : Shape := ⟨2, ![512, 64]⟩
abbrev S16x512 : Shape := ⟨2, ![16, 512]⟩
abbrev S512 : Shape := ⟨1, ![512]⟩
abbrev S1x1x2048 : Shape := ⟨3, ![1, 1, 2048]⟩
abbrev S512x128 : Shape := ⟨2, ![512, 128]⟩
abbrev S2048x1280 : Shape := ⟨2, ![2048, 1280]⟩
abbrev S2048x512 : Shape := ⟨2, ![2048, 512]⟩
abbrev S512x512 : Shape := ⟨2, ![512, 512]⟩
abbrev S128x512 : Shape := ⟨2, ![128, 512]⟩
abbrev S64x512 : Shape := ⟨2, ![64, 512]⟩
abbrev S1x64x512 : Shape := ⟨3, ![1, 64, 512]⟩
abbrev S2048x256 : Shape := ⟨2, ![2048, 256]⟩
abbrev S512x256 : Shape := ⟨2, ![512, 256]⟩
abbrev S2048x3072 : Shape := ⟨2, ![2048, 3072]⟩
abbrev S128x256 : Shape := ⟨2, ![128, 256]⟩
abbrev S1x128x256 : Shape := ⟨3, ![1, 128, 256]⟩
abbrev S128x128 : Shape := ⟨2, ![128, 128]⟩
abbrev S2048x1024 : Shape := ⟨2, ![2048, 1024]⟩
abbrev S1x128x128 : Shape := ⟨3, ![1, 128, 128]⟩
abbrev S128x1 : Shape := ⟨2, ![128, 1]⟩

abbrev nBuf : Space → Nat
  | .hbm => 44
  | .vmem => 30
  | .smem => 0
  | _ => 0

abbrev bufTy : (tb : Table) → Fin (tcTables nBuf tb) → BufTy
  | .hbm, ⟨0, _⟩ => ⟨S4x4096x2048, .f32⟩
  | .hbm, ⟨1, _⟩ => ⟨S4x18432, .f32⟩
  | .hbm, ⟨2, _⟩ => ⟨S1x2048, .f32⟩
  | .hbm, ⟨3, _⟩ => ⟨S4x4096, .i32⟩
  | .hbm, ⟨4, _⟩ => ⟨S1x2048x6224, .f32⟩
  | .hbm, ⟨5, _⟩ => ⟨S1x1024, .f32⟩
  | .hbm, ⟨6, _⟩ => ⟨S1x8x128x128, .f32⟩
  | .hbm, ⟨7, _⟩ => ⟨S1x8x128, .f32⟩
  | .hbm, ⟨8, _⟩ => ⟨S1x2048, .f32⟩
  | .hbm, ⟨9, _⟩ => ⟨S1x128, .f32⟩
  | .hbm, ⟨10, _⟩ => ⟨S1x128, .f32⟩
  | .hbm, ⟨11, _⟩ => ⟨S8x128, .f32⟩
  | .hbm, ⟨12, _⟩ => ⟨S8x128, .f32⟩
  | .hbm, ⟨13, _⟩ => ⟨S2048x6224, .f32⟩
  | .hbm, ⟨14, _⟩ => ⟨S2048x6224, .bf16⟩
  | .hbm, ⟨15, _⟩ => ⟨S_, .bf16⟩
  | .hbm, ⟨16, _⟩ => ⟨S2048x176, .bf16⟩
  | .hbm, ⟨17, _⟩ => ⟨S2048x6400, .bf16⟩
  | .hbm, ⟨18, _⟩ => ⟨S2048, .f32⟩
  | .hbm, ⟨19, _⟩ => ⟨S1x2048, .f32⟩
  | .hbm, ⟨20, _⟩ => ⟨S8x128, .f32⟩
  | .hbm, ⟨21, _⟩ => ⟨S8x128x1, .f32⟩
  | .hbm, ⟨22, _⟩ => ⟨S8x128x128, .f32⟩
  | .hbm, ⟨23, _⟩ => ⟨S16384x2048, .f32⟩
  | .hbm, ⟨24, _⟩ => ⟨S4x9x2048, .f32⟩
  | .hbm, ⟨25, _⟩ => ⟨S16384x1, .i32⟩
  | .hbm, ⟨26, _⟩ => ⟨S1024, .f32⟩
  | .hbm, ⟨27, _⟩ => ⟨S1x1024, .f32⟩
  | .hbm, ⟨28, _⟩ => ⟨S8x128x128, .f32⟩
  | .hbm, ⟨29, _⟩ => ⟨S2048, .f32⟩
  | .hbm, ⟨30, _⟩ => ⟨S1024, .f32⟩
  | .hbm, ⟨31, _⟩ => ⟨S1x1024, .f32⟩
  | .hbm, ⟨32, _⟩ => ⟨S128, .f32⟩
  | .hbm, ⟨33, _⟩ => ⟨S128, .f32⟩
  | .hbm, ⟨34, _⟩ => ⟨S1x128, .f32⟩
  | .hbm, ⟨35, _⟩ => ⟨S1x128, .f32⟩
  | .hbm, ⟨36, _⟩ => ⟨S2x128, .f32⟩
  | .hbm, ⟨37, _⟩ => ⟨S16384x1024, .bf16⟩
  | .hbm, ⟨38, _⟩ => ⟨S1024x16384, .bf16⟩
  | .hbm, ⟨39, _⟩ => ⟨S16384x1024, .bf16⟩
  | .hbm, ⟨40, _⟩ => ⟨S64x1024x256, .bf16⟩
  | .hbm, ⟨41, _⟩ => ⟨S16x64x16384, .bf16⟩
  | .hbm, ⟨42, _⟩ => ⟨S16384x64, .bf16⟩
  | .hbm, ⟨43, _⟩ => ⟨S16x16384, .f32⟩
  | .local _ .vmem, ⟨0, _⟩ => ⟨S512x2048, .f32⟩
  | .local _ .vmem, ⟨1, _⟩ => ⟨S512x2048, .f32⟩
  | .local _ .vmem, ⟨2, _⟩ => ⟨S1x9x2048, .f32⟩
  | .local _ .vmem, ⟨3, _⟩ => ⟨S1x9x2048, .f32⟩
  | .local _ .vmem, ⟨4, _⟩ => ⟨S1x2048, .f32⟩
  | .local _ .vmem, ⟨5, _⟩ => ⟨S512x1, .i32⟩
  | .local _ .vmem, ⟨6, _⟩ => ⟨S512x1, .i32⟩
  | .local _ .vmem, ⟨7, _⟩ => ⟨S8x128, .f32⟩
  | .local _ .vmem, ⟨8, _⟩ => ⟨S8x128, .f32⟩
  | .local _ .vmem, ⟨9, _⟩ => ⟨S2048x6400, .bf16⟩
  | .local _ .vmem, ⟨10, _⟩ => ⟨S1x1024, .f32⟩
  | .local _ .vmem, ⟨11, _⟩ => ⟨S8x128x128, .f32⟩
  | .local _ .vmem, ⟨12, _⟩ => ⟨S8x128x128, .f32⟩
  | .local _ .vmem, ⟨13, _⟩ => ⟨S1x1024, .f32⟩
  | .local _ .vmem, ⟨14, _⟩ => ⟨S2x128, .f32⟩
  | .local _ .vmem, ⟨15, _⟩ => ⟨S512x1024, .bf16⟩
  | .local _ .vmem, ⟨16, _⟩ => ⟨S512x1024, .bf16⟩
  | .local _ .vmem, ⟨17, _⟩ => ⟨S1024x512, .bf16⟩
  | .local _ .vmem, ⟨18, _⟩ => ⟨S1024x512, .bf16⟩
  | .local _ .vmem, ⟨19, _⟩ => ⟨S512x1024, .bf16⟩
  | .local _ .vmem, ⟨20, _⟩ => ⟨S512x1024, .bf16⟩
  | .local _ .vmem, ⟨21, _⟩ => ⟨S2x1024x256, .bf16⟩
  | .local _ .vmem, ⟨22, _⟩ => ⟨S2x1024x256, .bf16⟩
  | .local _ .vmem, ⟨23, _⟩ => ⟨S16x64x512, .bf16⟩
  | .local _ .vmem, ⟨24, _⟩ => ⟨S16x64x512, .bf16⟩
  | .local _ .vmem, ⟨25, _⟩ => ⟨S512x64, .bf16⟩
  | .local _ .vmem, ⟨26, _⟩ => ⟨S512x64, .bf16⟩
  | .local _ .vmem, ⟨27, _⟩ => ⟨S16x512, .f32⟩
  | .local _ .vmem, ⟨28, _⟩ => ⟨S16x512, .f32⟩
  | .local _ .vmem, ⟨29, _⟩ => ⟨S512x2048, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_v0 : Ref sig .tc := ⟨.hbm, 13, rfl⟩
abbrev main_v1 : Ref sig .tc := ⟨.hbm, 14, rfl⟩
abbrev main_cst_1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23_0 : Ref sig .tc := ⟨.hbm, 37, rfl⟩
abbrev main_v23_1 : Ref sig .tc := ⟨.hbm, 38, rfl⟩
abbrev main_v23_2 : Ref sig .tc := ⟨.hbm, 39, rfl⟩
abbrev main_v23_3 : Ref sig .tc := ⟨.hbm, 40, rfl⟩
abbrev main_v23_4 : Ref sig .tc := ⟨.hbm, 41, rfl⟩
abbrev main_v23_5 : Ref sig .tc := ⟨.hbm, 42, rfl⟩
abbrev main_v23_6 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_scratch0 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21
abbrev cc0_sem15_1 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x6400 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S8x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S2x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1024x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x1024x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S16x64x512 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x64 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S16x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference2Ideal.lean ====
abbrev S4x4096x2048 : Shape := ⟨3, ![4, 4096, 2048]⟩
abbrev S4x18432 : Shape := ⟨2, ![4, 18432]⟩
abbrev S1x2048 : Shape := ⟨2, ![1, 2048]⟩
abbrev S4x4096 : Shape := ⟨2, ![4, 4096]⟩
abbrev S1x2048x6224 : Shape := ⟨3, ![1, 2048, 6224]⟩
abbrev S1x1024 : Shape := ⟨2, ![1, 1024]⟩
abbrev S1x8x128x128 : Shape := ⟨4, ![1, 8, 128, 128]⟩
abbrev S1x8x128 : Shape := ⟨3, ![1, 8, 128]⟩
abbrev S1x128 : Shape := ⟨2, ![1, 128]⟩
abbrev S16 : Shape := ⟨1, ![16]⟩
abbrev S8 : Shape := ⟨1, ![8]⟩
abbrev S4x2048 : Shape := ⟨2, ![4, 2048]⟩
abbrev S2048 : Shape := ⟨1, ![2048]⟩
abbrev S_ : Shape := ⟨0, ![]⟩
abbrev S4x4096x1 : Shape := ⟨3, ![4, 4096, 1]⟩
abbrev S1x1x2048 : Shape := ⟨3, ![1, 1, 2048]⟩
abbrev S4x1x2048 : Shape := ⟨3, ![4, 1, 2048]⟩
abbrev S2048x6224 : Shape := ⟨2, ![2048, 6224]⟩
abbrev S4x4096x6224 : Shape := ⟨3, ![4, 4096, 6224]⟩
abbrev S4x4096x1024 : Shape := ⟨3, ![4, 4096, 1024]⟩
abbrev S4x4096x16 : Shape := ⟨3, ![4, 4096, 16]⟩
abbrev S4x32x128x8x128 : Shape := ⟨5, ![4, 32, 128, 8, 128]⟩
abbrev S1024 : Shape := ⟨1, ![1024]⟩
abbrev S8x128 : Shape := ⟨2, ![8, 128]⟩
abbrev S4x32x128x8 : Shape := ⟨4, ![4, 32, 128, 8]⟩
abbrev S4x32x128x8x1 : Shape := ⟨5, ![4, 32, 128, 8, 1]⟩
abbrev S1x1x1x8x128 : Shape := ⟨5, ![1, 1, 1, 8, 128]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩
abbrev S8x128x128 : Shape := ⟨3, ![8, 128, 128]⟩
abbrev S8x4x32x128x128 : Shape := ⟨5, ![8, 4, 32, 128, 128]⟩
abbrev S128x8 : Shape := ⟨2, ![128, 8]⟩
abbrev S1x1x128x8x1 : Shape := ⟨5, ![1, 1, 128, 8, 1]⟩
abbrev S4x4096x8x128 : Shape := ⟨4, ![4, 4096, 8, 128]⟩
abbrev S16x128 : Shape := ⟨2, ![16, 128]⟩
abbrev S4x4096x8 : Shape := ⟨3, ![4, 4096, 8]⟩
abbrev S4x4096x8x1 : Shape := ⟨4, ![4, 4096, 8, 1]⟩
abbrev S1x1x8x128 : Shape := ⟨4, ![1, 1, 8, 128]⟩
abbrev S4x4096x64 : Shape := ⟨3, ![4, 4096, 64]⟩
abbrev S1x1x1x128 : Shape := ⟨4, ![1, 1, 1, 128]⟩
abbrev S1x1x16 : Shape := ⟨3, ![1, 1, 16]⟩
abbrev S4x4096x1x16 : Shape := ⟨4, ![4, 4096, 1, 16]⟩
abbrev S4x4096x8x32 : Shape := ⟨4, ![4, 4096, 8, 32]⟩
abbrev S4x4096x8x16 : Shape := ⟨4, ![4, 4096, 8, 16]⟩
abbrev S4x4096x8x96 : Shape := ⟨4, ![4, 4096, 8, 96]⟩
abbrev S4x4096x16x64 : Shape := ⟨4, ![4, 4096, 16, 64]⟩
abbrev S1x1x8 : Shape := ⟨3, ![1, 1, 8]⟩
abbrev S4x4096x1x8 : Shape := ⟨4, ![4, 4096, 1, 8]⟩
abbrev S4x4096x16x16 : Shape := ⟨4, ![4, 4096, 16, 16]⟩
abbrev S4x4096x16x8 : Shape := ⟨4, ![4, 4096, 16, 8]⟩
abbrev S4x4096x16x48 : Shape := ⟨4, ![4, 4096, 16, 48]⟩
abbrev S4x4096x1x64 : Shape := ⟨4, ![4, 4096, 1, 64]⟩
abbrev S4x4096x1x48 : Shape := ⟨4, ![4, 4096, 1, 48]⟩
abbrev S16384x1024 : Shape := ⟨2, ![16384, 1024]⟩
abbrev S64x256x1024 : Shape := ⟨3, ![64, 256, 1024]⟩
abbrev S64x1024x256 : Shape := ⟨3, ![64, 1024, 256]⟩
abbrev S16384x16 : Shape := ⟨2, ![16384, 16]⟩
abbrev S16x16384 : Shape := ⟨2, ![16, 16384]⟩
abbrev S16384x16x64 : Shape := ⟨3, ![16384, 16, 64]⟩
abbrev S16x64x16384 : Shape := ⟨3, ![16, 64, 16384]⟩
abbrev S16384x64 : Shape := ⟨2, ![16384, 64]⟩

abbrev nBuf : Space → Nat
  | .hbm => 304
  | .vmem => 0
  | .smem => 0
  | _ => 0

abbrev hbmTy0_0 (i : Nat) : BufTy := match i % 128 with
  | 0 => ⟨S4x4096x2048, .f32⟩
  | 1 => ⟨S4x18432, .f32⟩
  | 2 => ⟨S1x2048, .f32⟩
  | 3 => ⟨S4x4096, .i32⟩
  | 4 => ⟨S1x2048x6224, .f32⟩
  | 5 => ⟨S1x1024, .f32⟩
  | 6 => ⟨S1x8x128x128, .f32⟩
  | 7 => ⟨S1x8x128, .f32⟩
  | 8 => ⟨S1x2048, .f32⟩
  | 9 => ⟨S1x128, .f32⟩
  | 10 => ⟨S1x128, .f32⟩
  | 11 => ⟨S16, .f32⟩
  | 12 => ⟨S8, .f32⟩
  | 13 => ⟨S8, .f32⟩
  | 14 => ⟨S4x2048, .f32⟩
  | 15 => ⟨S4x2048, .f32⟩
  | 16 => ⟨S2048, .f32⟩
  | 17 => ⟨S4x4096x2048, .f32⟩
  | 18 => ⟨S_, .f32⟩
  | 19 => ⟨S4x4096, .f32⟩
  | 20 => ⟨S4x4096x1, .f32⟩
  | 21 => ⟨S_, .f32⟩
  | 22 => ⟨S4x4096x1, .f32⟩
  | 23 => ⟨S4x4096x1, .f32⟩
  | 24 => ⟨S_, .f32⟩
  | 25 => ⟨S4x4096x1, .f32⟩
  | 26 => ⟨S4x4096x1, .f32⟩
  | 27 => ⟨S4x4096x1, .f32⟩
  | 28 => ⟨S4x4096x2048, .f32⟩
  | 29 => ⟨S4x4096x2048, .f32⟩
  | 30 => ⟨S1x1x2048, .f32⟩
  | 31 => ⟨S4x4096x2048, .f32⟩
  | 32 => ⟨S4x4096x2048, .f32⟩
  | 33 => ⟨S4x1x2048, .f32⟩
  | 34 => ⟨S_, .f32⟩
  | 35 => ⟨S4x1x2048, .f32⟩
  | 36 => ⟨S4x1x2048, .f32⟩
  | 37 => ⟨S4x4096x2048, .f32⟩
  | 38 => ⟨S4x4096x2048, .f32⟩
  | 39 => ⟨S4x1x2048, .f32⟩
  | 40 => ⟨S4x4096x2048, .f32⟩
  | 41 => ⟨S4x4096x2048, .f32⟩
  | 42 => ⟨S2048x6224, .f32⟩
  | 43 => ⟨S4x4096x6224, .f32⟩
  | 44 => ⟨S4x4096x1024, .f32⟩
  | 45 => ⟨S4x4096x1024, .f32⟩
  | 46 => ⟨S4x4096x1024, .f32⟩
  | 47 => ⟨S4x4096x16, .f32⟩
  | 48 => ⟨S4x4096x1024, .f32⟩
  | 49 => ⟨S4x4096x1024, .f32⟩
  | 50 => ⟨S_, .f32⟩
  | 51 => ⟨S4x4096x1024, .f32⟩
  | 52 => ⟨S4x4096x1024, .f32⟩
  | 53 => ⟨S4x4096x1024, .f32⟩
  | 54 => ⟨S_, .f32⟩
  | 55 => ⟨S4x4096x1024, .f32⟩
  | 56 => ⟨S4x4096x1024, .f32⟩
  | 57 => ⟨S4x4096x1024, .f32⟩
  | 58 => ⟨S_, .f32⟩
  | 59 => ⟨S4x4096x1024, .f32⟩
  | 60 => ⟨S4x4096x1024, .f32⟩
  | 61 => ⟨S_, .f32⟩
  | 62 => ⟨S4x4096x1024, .f32⟩
  | 63 => ⟨S4x4096x1024, .f32⟩
  | 64 => ⟨S4x4096x1024, .f32⟩
  | 65 => ⟨S4x4096x1024, .f32⟩
  | 66 => ⟨S4x4096x1024, .f32⟩
  | 67 => ⟨S_, .f32⟩
  | 68 => ⟨S4x4096x1024, .f32⟩
  | 69 => ⟨S4x4096x1024, .f32⟩
  | 70 => ⟨S4x4096x1024, .f32⟩
  | 71 => ⟨S_, .f32⟩
  | 72 => ⟨S4x4096x1024, .f32⟩
  | 73 => ⟨S4x4096x1024, .f32⟩
  | 74 => ⟨S4x4096x1024, .f32⟩
  | 75 => ⟨S_, .f32⟩
  | 76 => ⟨S4x4096x1024, .f32⟩
  | 77 => ⟨S4x4096x1024, .f32⟩
  | 78 => ⟨S_, .f32⟩
  | 79 => ⟨S4x4096x1024, .f32⟩
  | 80 => ⟨S4x4096x1024, .f32⟩
  | 81 => ⟨S4x4096x1024, .f32⟩
  | 82 => ⟨S4x32x128x8x128, .f32⟩
  | 83 => ⟨S1024, .f32⟩
  | 84 => ⟨S8x128, .f32⟩
  | 85 => ⟨S_, .f32⟩
  | 86 => ⟨S4x32x128x8, .f32⟩
  | 87 => ⟨S4x32x128x8x1, .f32⟩
  | 88 => ⟨S_, .f32⟩
  | 89 => ⟨S4x32x128x8x1, .f32⟩
  | 90 => ⟨S4x32x128x8x1, .f32⟩
  | 91 => ⟨S4x32x128x8x128, .f32⟩
  | 92 => ⟨S4x32x128x8x128, .f32⟩
  | 93 => ⟨S4x32x128x8x128, .f32⟩
  | 94 => ⟨S_, .f32⟩
  | 95 => ⟨S4x32x128x8, .f32⟩
  | 96 => ⟨S4x32x128x8x1, .f32⟩
  | 97 => ⟨S_, .f32⟩
  | 98 => ⟨S4x32x128x8x1, .f32⟩
  | 99 => ⟨S4x32x128x8x1, .f32⟩
  | 100 => ⟨S4x32x128x8x128, .f32⟩
  | 101 => ⟨S4x32x128x8x128, .f32⟩
  | 102 => ⟨S_, .f32⟩
  | 103 => ⟨S4x32x128x8x1, .f32⟩
  | 104 => ⟨S4x32x128x8x1, .f32⟩
  | 105 => ⟨S4x32x128x8x1, .f32⟩
  | 106 => ⟨S4x32x128x8x128, .f32⟩
  | 107 => ⟨S4x32x128x8x128, .f32⟩
  | 108 => ⟨S1x1x1x8x128, .f32⟩
  | 109 => ⟨S4x32x128x8x128, .f32⟩
  | 110 => ⟨S4x32x128x8x128, .f32⟩
  | 111 => ⟨S128, .i32⟩
  | 112 => ⟨S1x128, .i32⟩
  | 113 => ⟨S_, .i32⟩
  | 114 => ⟨S_, .i32⟩
  | 115 => ⟨S1x128, .i32⟩
  | 116 => ⟨S1x128, .i32⟩
  | 117 => ⟨S1x128, .i32⟩
  | 118 => ⟨S_, .i32⟩
  | 119 => ⟨S1x128, .i32⟩
  | 120 => ⟨S1x128, .i1⟩
  | 121 => ⟨S1x128, .i32⟩
  | 122 => ⟨S1x128, .i32⟩
  | 123 => ⟨S_, .i32⟩
  | 124 => ⟨S1x128, .i32⟩
  | 125 => ⟨S1x128, .i1⟩
  | 126 => ⟨S1x128, .i1⟩
  | 127 => ⟨S_, .i32⟩
  | _ => ⟨S4x4096x2048, .f32⟩

abbrev hbmTy0_1 (i : Nat) : BufTy := match i % 128 with
  | 0 => ⟨S1x128, .i32⟩
  | 1 => ⟨S1x128, .i32⟩
  | 2 => ⟨S1x128, .i32⟩
  | 3 => ⟨S128x1, .i32⟩
  | 4 => ⟨S_, .i32⟩
  | 5 => ⟨S_, .i32⟩
  | 6 => ⟨S128x1, .i32⟩
  | 7 => ⟨S128x1, .i32⟩
  | 8 => ⟨S128x1, .i32⟩
  | 9 => ⟨S_, .i32⟩
  | 10 => ⟨S128x1, .i32⟩
  | 11 => ⟨S128x1, .i1⟩
  | 12 => ⟨S128x1, .i32⟩
  | 13 => ⟨S128x1, .i32⟩
  | 14 => ⟨S_, .i32⟩
  | 15 => ⟨S128x1, .i32⟩
  | 16 => ⟨S128x1, .i1⟩
  | 17 => ⟨S128x1, .i1⟩
  | 18 => ⟨S_, .i32⟩
  | 19 => ⟨S128x1, .i32⟩
  | 20 => ⟨S128x1, .i32⟩
  | 21 => ⟨S128x1, .i32⟩
  | 22 => ⟨S128x128, .i32⟩
  | 23 => ⟨S128x128, .i32⟩
  | 24 => ⟨S128x128, .i1⟩
  | 25 => ⟨S1x128x128, .i1⟩
  | 26 => ⟨S8x128x128, .f32⟩
  | 27 => ⟨S_, .f32⟩
  | 28 => ⟨S_, .f32⟩
  | 29 => ⟨S8x128x128, .i1⟩
  | 30 => ⟨S8x128x128, .f32⟩
  | 31 => ⟨S8x128x128, .f32⟩
  | 32 => ⟨S8x4x32x128x128, .f32⟩
  | 33 => ⟨S4x32x128x8x128, .f32⟩
  | 34 => ⟨S8x128, .f32⟩
  | 35 => ⟨S128x8, .f32⟩
  | 36 => ⟨S1x1x128x8x1, .f32⟩
  | 37 => ⟨S4x32x128x8x128, .f32⟩
  | 38 => ⟨S4x32x128x8x128, .f32⟩
  | 39 => ⟨S4x4096x1024, .f32⟩
  | 40 => ⟨S4x4096x1024, .f32⟩
  | 41 => ⟨S4x4096x8x128, .f32⟩
  | 42 => ⟨S2048, .f32⟩
  | 43 => ⟨S16x128, .f32⟩
  | 44 => ⟨S8x128, .f32⟩
  | 45 => ⟨S4x4096x8x128, .f32⟩
  | 46 => ⟨S_, .f32⟩
  | 47 => ⟨S4x4096x8, .f32⟩
  | 48 => ⟨S4x4096x8x1, .f32⟩
  | 49 => ⟨S_, .f32⟩
  | 50 => ⟨S4x4096x8x1, .f32⟩
  | 51 => ⟨S4x4096x8x1, .f32⟩
  | 52 => ⟨S_, .f32⟩
  | 53 => ⟨S4x4096x8x1, .f32⟩
  | 54 => ⟨S4x4096x8x1, .f32⟩
  | 55 => ⟨S4x4096x8x1, .f32⟩
  | 56 => ⟨S4x4096x8x128, .f32⟩
  | 57 => ⟨S4x4096x8x128, .f32⟩
  | 58 => ⟨S1x1x8x128, .f32⟩
  | 59 => ⟨S4x4096x8x128, .f32⟩
  | 60 => ⟨S4x4096x8x128, .f32⟩
  | 61 => ⟨S_, .f32⟩
  | 62 => ⟨S4x4096x16, .f32⟩
  | 63 => ⟨S4x4096x16, .f32⟩
  | 64 => ⟨S4x4096x1024, .f32⟩
  | 65 => ⟨S4x4096x1024, .f32⟩
  | 66 => ⟨S4x4096x64, .f32⟩
  | 67 => ⟨S4x4096x8x128, .f32⟩
  | 68 => ⟨S128, .f32⟩
  | 69 => ⟨S4x4096x8x128, .f32⟩
  | 70 => ⟨S_, .f32⟩
  | 71 => ⟨S4x4096x8, .f32⟩
  | 72 => ⟨S4x4096x8x1, .f32⟩
  | 73 => ⟨S_, .f32⟩
  | 74 => ⟨S4x4096x8x1, .f32⟩
  | 75 => ⟨S4x4096x8x1, .f32⟩
  | 76 => ⟨S_, .f32⟩
  | 77 => ⟨S4x4096x8x1, .f32⟩
  | 78 => ⟨S4x4096x8x1, .f32⟩
  | 79 => ⟨S4x4096x8x1, .f32⟩
  | 80 => ⟨S4x4096x8x128, .f32⟩
  | 81 => ⟨S4x4096x8x128, .f32⟩
  | 82 => ⟨S1x1x1x128, .f32⟩
  | 83 => ⟨S4x4096x8x128, .f32⟩
  | 84 => ⟨S4x4096x8x128, .f32⟩
  | 85 => ⟨S4x4096, .f32⟩
  | 86 => ⟨S4x4096x1, .f32⟩
  | 87 => ⟨S1x1x16, .f32⟩
  | 88 => ⟨S4x4096x16, .f32⟩
  | 89 => ⟨S4x4096x16, .f32⟩
  | 90 => ⟨S4x4096x16, .f32⟩
  | 91 => ⟨S4x4096x16, .f32⟩
  | 92 => ⟨S4x4096x1x16, .f32⟩
  | 93 => ⟨S4x4096x16, .f32⟩
  | 94 => ⟨S4x4096x1x16, .f32⟩
  | 95 => ⟨S4x4096x8x32, .f32⟩
  | 96 => ⟨S4x4096x8x16, .f32⟩
  | 97 => ⟨S4x4096x8x16, .f32⟩
  | 98 => ⟨S4x4096x8x16, .f32⟩
  | 99 => ⟨S4x4096x8x16, .f32⟩
  | 100 => ⟨S4x4096x8x16, .f32⟩
  | 101 => ⟨S4x4096x8x16, .f32⟩
  | 102 => ⟨S4x4096x8x16, .f32⟩
  | 103 => ⟨S4x4096x8x16, .f32⟩
  | 104 => ⟨S4x4096x8x16, .f32⟩
  | 105 => ⟨S4x4096x8x16, .f32⟩
  | 106 => ⟨S4x4096x8x16, .f32⟩
  | 107 => ⟨S4x4096x8x16, .f32⟩
  | 108 => ⟨S4x4096x8x32, .f32⟩
  | 109 => ⟨S4x4096x8x96, .f32⟩
  | 110 => ⟨S4x4096x8x128, .f32⟩
  | 111 => ⟨S4x4096x16x64, .f32⟩
  | 112 => ⟨S4x4096, .f32⟩
  | 113 => ⟨S4x4096x1, .f32⟩
  | 114 => ⟨S1x1x8, .f32⟩
  | 115 => ⟨S4x4096x8, .f32⟩
  | 116 => ⟨S4x4096x8, .f32⟩
  | 117 => ⟨S4x4096x8, .f32⟩
  | 118 => ⟨S4x4096x8, .f32⟩
  | 119 => ⟨S4x4096x1x8, .f32⟩
  | 120 => ⟨S4x4096x8, .f32⟩
  | 121 => ⟨S4x4096x1x8, .f32⟩
  | 122 => ⟨S4x4096x16x16, .f32⟩
  | 123 => ⟨S4x4096x16x8, .f32⟩
  | 124 => ⟨S4x4096x16x8, .f32⟩
  | 125 => ⟨S4x4096x16x8, .f32⟩
  | 126 => ⟨S4x4096x16x8, .f32⟩
  | 127 => ⟨S4x4096x16x8, .f32⟩
  | _ => ⟨S4x4096x2048, .f32⟩

abbrev hbmTy0_2 (i : Nat) : BufTy := match i % 128 with
  | 0 => ⟨S4x4096x16x8, .f32⟩
  | 1 => ⟨S4x4096x16x8, .f32⟩
  | 2 => ⟨S4x4096x16x8, .f32⟩
  | 3 => ⟨S4x4096x16x8, .f32⟩
  | 4 => ⟨S4x4096x16x8, .f32⟩
  | 5 => ⟨S4x4096x16x8, .f32⟩
  | 6 => ⟨S4x4096x16x8, .f32⟩
  | 7 => ⟨S4x4096x16x16, .f32⟩
  | 8 => ⟨S4x4096x16x48, .f32⟩
  | 9 => ⟨S4x4096x16x64, .f32⟩
  | 10 => ⟨S4x4096x1x64, .f32⟩
  | 11 => ⟨S4x4096, .f32⟩
  | 12 => ⟨S4x4096x1, .f32⟩
  | 13 => ⟨S1x1x8, .f32⟩
  | 14 => ⟨S4x4096x8, .f32⟩
  | 15 => ⟨S4x4096x8, .f32⟩
  | 16 => ⟨S4x4096x8, .f32⟩
  | 17 => ⟨S4x4096x8, .f32⟩
  | 18 => ⟨S4x4096x1x8, .f32⟩
  | 19 => ⟨S4x4096x8, .f32⟩
  | 20 => ⟨S4x4096x1x8, .f32⟩
  | 21 => ⟨S4x4096x1x16, .f32⟩
  | 22 => ⟨S4x4096x1x8, .f32⟩
  | 23 => ⟨S4x4096x1x8, .f32⟩
  | 24 => ⟨S4x4096x1x8, .f32⟩
  | 25 => ⟨S4x4096x1x8, .f32⟩
  | 26 => ⟨S4x4096x1x8, .f32⟩
  | 27 => ⟨S4x4096x1x8, .f32⟩
  | 28 => ⟨S4x4096x1x8, .f32⟩
  | 29 => ⟨S4x4096x1x8, .f32⟩
  | 30 => ⟨S4x4096x1x16, .f32⟩
  | 31 => ⟨S4x4096x1x48, .f32⟩
  | 32 => ⟨S4x4096x1x64, .f32⟩
  | 33 => ⟨S4x4096x64, .f32⟩
  | 34 => ⟨S16384x1024, .f32⟩
  | 35 => ⟨S16384x1024, .bf16⟩
  | 36 => ⟨S64x256x1024, .f32⟩
  | 37 => ⟨S64x1024x256, .f32⟩
  | 38 => ⟨S64x1024x256, .bf16⟩
  | 39 => ⟨S16384x16, .f32⟩
  | 40 => ⟨S16x16384, .f32⟩
  | 41 => ⟨S16384x1024, .f32⟩
  | 42 => ⟨S16384x1024, .bf16⟩
  | 43 => ⟨S16384x16x64, .f32⟩
  | 44 => ⟨S16x64x16384, .f32⟩
  | 45 => ⟨S16x64x16384, .bf16⟩
  | 46 => ⟨S16384x64, .f32⟩
  | 47 => ⟨S16384x64, .bf16⟩
  | _ => ⟨S4x4096x2048, .f32⟩

abbrev hbmTy (i : Nat) : BufTy := match i / 128 with
  | 0 => hbmTy0_0 i
  | 1 => hbmTy0_1 i
  | 2 => hbmTy0_2 i
  | _ => ⟨S4x4096x2048, .f32⟩

abbrev bufTy : (tb : Table) → Fin (tcTables nBuf tb) → BufTy
  | .hbm, ⟨i, _⟩ => hbmTy i
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_cst_0 : Ref sig .tc := ⟨.hbm, 12, rfl⟩
abbrev main_cst_1 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_2 : Ref sig .tc := ⟨.hbm, 18, rfl⟩
abbrev main_v4 : Ref sig .tc := ⟨.hbm, 19, rfl⟩
abbrev main_v5 : Ref sig .tc := ⟨.hbm, 20, rfl⟩
abbrev main_cst_3 : Ref sig .tc := ⟨.hbm, 21, rfl⟩
abbrev main_v6 : Ref sig .tc := ⟨.hbm, 22, rfl⟩
abbrev main_v7 : Ref sig .tc := ⟨.hbm, 23, rfl⟩
abbrev main_cst_4 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst_5 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_cst_12 : Ref sig .tc := ⟨.hbm, 75, rfl⟩
abbrev main_v51 : Ref sig .tc := ⟨.hbm, 76, rfl⟩
abbrev main_v52 : Ref sig .tc := ⟨.hbm, 77, rfl⟩
abbrev main_cst_13 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_cst_14 : Ref sig .tc := ⟨.hbm, 85, rfl⟩
abbrev main_v59 : Ref sig .tc := ⟨.hbm, 86, rfl⟩
abbrev main_v60 : Ref sig .tc := ⟨.hbm, 87, rfl⟩
abbrev main_cst_15 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_16 : Ref sig .tc := ⟨.hbm, 94, rfl⟩
abbrev main_v66 : Ref sig .tc := ⟨.hbm, 95, rfl⟩
abbrev main_v67 : Ref sig .tc := ⟨.hbm, 96, rfl⟩
abbrev main_cst_17 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_18 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_c : Ref sig .tc := ⟨.hbm, 113, rfl⟩
abbrev main_call0_v0 : Ref sig .tc := ⟨.hbm, 114, rfl⟩
abbrev main_call0_v1 : Ref sig .tc := ⟨.hbm, 115, rfl⟩
abbrev main_call0_v2 : Ref sig .tc := ⟨.hbm, 116, rfl⟩
abbrev main_call0_v3 : Ref sig .tc := ⟨.hbm, 117, rfl⟩
abbrev main_call0_v4 : Ref sig .tc := ⟨.hbm, 118, rfl⟩
abbrev main_call0_v5 : Ref sig .tc := ⟨.hbm, 119, rfl⟩
abbrev main_call0_v6 : Ref sig .tc := ⟨.hbm, 120, rfl⟩
abbrev main_call0_v7 : Ref sig .tc := ⟨.hbm, 121, rfl⟩
abbrev main_call0_v8 : Ref sig .tc := ⟨.hbm, 122, rfl⟩
abbrev main_call0_c : Ref sig .tc := ⟨.hbm, 123, rfl⟩
abbrev main_call0_v9 : Ref sig .tc := ⟨.hbm, 124, rfl⟩
abbrev main_call0_v10 : Ref sig .tc := ⟨.hbm, 125, rfl⟩
abbrev main_call0_v11 : Ref sig .tc := ⟨.hbm, 126, rfl⟩
abbrev main_call0_c_0 : Ref sig .tc := ⟨.hbm, 127, rfl⟩
abbrev main_call0_v12 : Ref sig .tc := ⟨.hbm, 128, rfl⟩
abbrev main_call0_v13 : Ref sig .tc := ⟨.hbm, 129, rfl⟩
abbrev main_v82 : Ref sig .tc := ⟨.hbm, 130, rfl⟩
abbrev main_v83 : Ref sig .tc := ⟨.hbm, 131, rfl⟩
abbrev main_c_19 : Ref sig .tc := ⟨.hbm, 132, rfl⟩
abbrev main_call1_v0 : Ref sig .tc := ⟨.hbm, 133, rfl⟩
abbrev main_call1_v1 : Ref sig .tc := ⟨.hbm, 134, rfl⟩
abbrev main_call1_v2 : Ref sig .tc := ⟨.hbm, 135, rfl⟩
abbrev main_call1_v3 : Ref sig .tc := ⟨.hbm, 136, rfl⟩
abbrev main_call1_v4 : Ref sig .tc := ⟨.hbm, 137, rfl⟩
abbrev main_call1_v5 : Ref sig .tc := ⟨.hbm, 138, rfl⟩
abbrev main_call1_v6 : Ref sig .tc := ⟨.hbm, 139, rfl⟩
abbrev main_call1_v7 : Ref sig .tc := ⟨.hbm, 140, rfl⟩
abbrev main_call1_v8 : Ref sig .tc := ⟨.hbm, 141, rfl⟩
abbrev main_call1_c : Ref sig .tc := ⟨.hbm, 142, rfl⟩
abbrev main_call1_v9 : Ref sig .tc := ⟨.hbm, 143, rfl⟩
abbrev main_call1_v10 : Ref sig .tc := ⟨.hbm, 144, rfl⟩
abbrev main_call1_v11 : Ref sig .tc := ⟨.hbm, 145, rfl⟩
abbrev main_call1_c_0 : Ref sig .tc := ⟨.hbm, 146, rfl⟩
abbrev main_call1_v12 : Ref sig .tc := ⟨.hbm, 147, rfl⟩
abbrev main_call1_v13 : Ref sig .tc := ⟨.hbm, 148, rfl⟩
abbrev main_v84 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_v89 : Ref sig .tc := ⟨.hbm, 154, rfl⟩
abbrev main_cst_20 : Ref sig .tc := ⟨.hbm, 155, rfl⟩
abbrev main_call2_v0 : Ref sig .tc := ⟨.hbm, 156, rfl⟩
abbrev main_call2_v1 : Ref sig .tc := ⟨.hbm, 157, rfl⟩
abbrev main_call2_v2 : Ref sig .tc := ⟨.hbm, 158, rfl⟩
abbrev main_v90 : Ref sig .tc := ⟨.hbm, 159, rfl⟩
abbrev main_v91 : Ref sig .tc := ⟨.hbm, 160, rfl⟩
abbrev main_v92 : Ref sig .tc := ⟨.hbm, 161, rfl⟩
abbrev main_v93 : Ref sig .tc := ⟨.hbm, 162, rfl⟩
abbrev main_v94 : Ref sig .tc := ⟨.hbm, 163, rfl⟩
abbrev main_v95 : Ref sig .tc := ⟨.hbm, 164, rfl⟩
abbrev main_v96 : Ref sig .tc := ⟨.hbm, 165, rfl⟩
abbrev main_v97 : Ref sig .tc := ⟨.hbm, 166, rfl⟩
abbrev main_v98 : Ref sig .tc := ⟨.hbm, 167, rfl⟩
abbrev main_v99 : Ref sig .tc := ⟨.hbm, 168, rfl⟩
abbrev main_v100 : Ref sig .tc := ⟨.hbm, 169, rfl⟩
abbrev main_v101 : Ref sig .tc := ⟨.hbm, 170, rfl⟩
abbrev main_v102 : Ref sig .tc := ⟨.hbm, 171, rfl⟩
abbrev main_v103 : Ref sig .tc := ⟨.hbm, 172, rfl⟩
abbrev main_v104 : Ref sig .tc := ⟨.hbm, 173, rfl⟩
abbrev main_cst_21 : Ref sig .tc := ⟨.hbm, 174, rfl⟩
abbrev main_v105 : Ref sig .tc := ⟨.hbm, 175, rfl⟩
abbrev main_v106 : Ref sig .tc := ⟨.hbm, 176, rfl⟩
abbrev main_cst_22 : Ref sig .tc := ⟨.hbm, 177, rfl⟩
abbrev main_v107 : Ref sig .tc := ⟨.hbm, 178, rfl⟩
abbrev main_v108 : Ref sig .tc := ⟨.hbm, 179, rfl⟩
abbrev main_cst_23 : Ref sig .tc := ⟨.hbm, 180, rfl⟩
abbrev main_v109 : Ref sig .tc := ⟨.hbm, 181, rfl⟩
abbrev main_v110 : Ref sig .tc := ⟨.hbm, 182, rfl⟩
abbrev main_v111 : Ref sig .tc := ⟨.hbm, 183, rfl⟩
abbrev main_v112 : Ref sig .tc := ⟨.hbm, 184, rfl⟩
abbrev main_v113 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_cst_24 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_v124 : Ref sig .tc := ⟨.hbm, 197, rfl⟩
abbrev main_cst_25 : Ref sig .tc := ⟨.hbm, 198, rfl⟩
abbrev main_v125 : Ref sig .tc := ⟨.hbm, 199, rfl⟩
abbrev main_v126 : Ref sig .tc := ⟨.hbm, 200, rfl⟩
abbrev main_cst_26 : Ref sig .tc := ⟨.hbm, 201, rfl⟩
abbrev main_v127 : Ref sig .tc := ⟨.hbm, 202, rfl⟩
abbrev main_v128 : Ref sig .tc := ⟨.hbm, 203, rfl⟩
abbrev main_cst_27 : Ref sig .tc := ⟨.hbm, 204, rfl⟩
abbrev main_v129 : Ref sig .tc := ⟨.hbm, 205, rfl⟩
abbrev main_v130 : Ref sig .tc := ⟨.hbm, 206, rfl⟩
abbrev main_v131 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_v136 : Ref sig .tc := ⟨.hbm, 212, rfl⟩
abbrev main_v137 : Ref sig .tc := ⟨.hbm, 213, rfl⟩
abbrev main_v138 : Ref sig .tc := ⟨.hbm, 214, rfl⟩
abbrev main_v139 : Ref sig .tc := ⟨.hbm, 215, rfl⟩
abbrev main_v140 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_v144 : Ref sig .tc := ⟨.hbm, 220, rfl⟩
abbrev main_v145 : Ref sig .tc := ⟨.hbm, 221, rfl⟩
abbrev main_v146 : Ref sig .tc := ⟨.hbm, 222, rfl⟩
abbrev main_v147 : Ref sig .tc := ⟨.hbm, 223, rfl⟩
abbrev main_v148 : Ref sig .tc := ⟨.hbm, 224, rfl⟩
abbrev main_v149 : Ref sig .tc := ⟨.hbm, 225, rfl⟩
abbrev main_v150 : Ref sig .tc := ⟨.hbm, 226, rfl⟩
abbrev main_v151 : Ref sig .tc := ⟨.hbm, 227, rfl⟩
abbrev main_v152 : Ref sig .tc := ⟨.hbm, 228, rfl⟩
abbrev main_v153 : Ref sig .tc := ⟨.hbm, 229, rfl⟩
abbrev main_v154 : Ref sig .tc := ⟨.hbm, 230, rfl⟩
abbrev main_v155 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_v159 : Ref sig .tc := ⟨.hbm, 235, rfl⟩
abbrev main_v160 : Ref sig .tc := ⟨.hbm, 236, rfl⟩
abbrev main_v161 : Ref sig .tc := ⟨.hbm, 237, rfl⟩
abbrev main_v162 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_v175 : Ref sig .tc := ⟨.hbm, 251, rfl⟩
abbrev main_v176 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_v184 : Ref sig .tc := ⟨.hbm, 260, rfl⟩
abbrev main_v185 : Ref sig .tc := ⟨.hbm, 261, rfl⟩
abbrev main_v186 : Ref sig .tc := ⟨.hbm, 262, rfl⟩
abbrev main_v187 : Ref sig .tc := ⟨.hbm, 263, rfl⟩
abbrev main_v188 : Ref sig .tc := ⟨.hbm, 264, rfl⟩
abbrev main_v189 : Ref sig .tc := ⟨.hbm, 265, rfl⟩
abbrev main_v190 : Ref sig .tc := ⟨.hbm, 266, rfl⟩
abbrev main_v191 : Ref sig .tc := ⟨.hbm, 267, rfl⟩
abbrev main_v192 : Ref sig .tc := ⟨.hbm, 268, rfl⟩
abbrev main_v193 : Ref sig .tc := ⟨.hbm, 269, rfl⟩
abbrev main_v194 : Ref sig .tc := ⟨.hbm, 270, rfl⟩
abbrev main_v195 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_v201 : Ref sig .tc := ⟨.hbm, 277, rfl⟩
abbrev main_v202 : Ref sig .tc := ⟨.hbm, 278, rfl⟩
abbrev main_v203 : Ref sig .tc := ⟨.hbm, 279, rfl⟩
abbrev main_v204 : Ref sig .tc := ⟨.hbm, 280, rfl⟩
abbrev main_v205 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_v209 : Ref sig .tc := ⟨.hbm, 285, rfl⟩
abbrev main_v210 : Ref sig .tc := ⟨.hbm, 286, rfl⟩
abbrev main_v211 : Ref sig .tc := ⟨.hbm, 287, rfl⟩
abbrev main_v212 : Ref sig .tc := ⟨.hbm, 288, rfl⟩
abbrev main_v213 : Ref sig .tc := ⟨.hbm, 289, rfl⟩
abbrev main_v214 : Ref sig .tc := ⟨.hbm, 290, rfl⟩
abbrev main_v215 : Ref sig .tc := ⟨.hbm, 291, rfl⟩
abbrev main_v216 : Ref sig .tc := ⟨.hbm, 292, rfl⟩
abbrev main_v217 : Ref sig .tc := ⟨.hbm, 293, rfl⟩
abbrev main_v218 : Ref sig .tc := ⟨.hbm, 294, rfl⟩
abbrev main_v219 : Ref sig .tc := ⟨.hbm, 295, rfl⟩
abbrev main_v220 : Ref sig .tc := ⟨.hbm, 296, rfl⟩
abbrev main_v221 : Ref sig .tc := ⟨.hbm, 297, rfl⟩
abbrev main_v222 : Ref sig .tc := ⟨.hbm, 298, rfl⟩
abbrev main_v223 : Ref sig .tc := ⟨.hbm, 299, rfl⟩
abbrev main_v224 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩

abbrev nD : Nat := 1
abbrev τ : Topo := Topo.v7x

variable {F : FTy → Type} [FloatOps F]
-- ==== Kernel3.lean ====
abbrev S4x4096x2048 : Shape := ⟨3, ![4, 4096, 2048]⟩
abbrev S4x18432 : Shape := ⟨2, ![4, 18432]⟩
abbrev S16384x1024 : Shape := ⟨2, ![16384, 1024]⟩
abbrev S1x2048x2048 : Shape := ⟨3, ![1, 2048, 2048]⟩
abbrev S16384x2048 : Shape := ⟨2, ![16384, 2048]⟩
abbrev S4x9x2048 : Shape := ⟨3, ![4, 9, 2048]⟩
abbrev S2048x2048 : Shape := ⟨2, ![2048, 2048]⟩
abbrev S512x2048 : Shape := ⟨2, ![512, 2048]⟩
abbrev S1x9x2048 : Shape := ⟨3, ![1, 9, 2048]⟩
abbrev S512x1024 : Shape := ⟨2, ![512, 1024]⟩
abbrev S1024x2048 : Shape := ⟨2, ![1024, 2048]⟩
abbrev S1x1x2048 : Shape := ⟨3, ![1, 1, 2048]⟩
abbrev S1x2048 : Shape := ⟨2, ![1, 2048]⟩

abbrev nBuf : Space → Nat
  | .hbm => 12
  | .vmem => 11
  | .smem => 0
  | _ => 0

abbrev bufTy : (tb : Table) → Fin (tcTables nBuf tb) → BufTy
  | .hbm, ⟨0, _⟩ => ⟨S4x4096x2048, .f32⟩
  | .hbm, ⟨1, _⟩ => ⟨S4x18432, .f32⟩
  | .hbm, ⟨2, _⟩ => ⟨S16384x1024, .f32⟩
  | .hbm, ⟨3, _⟩ => ⟨S16384x1024, .f32⟩
  | .hbm, ⟨4, _⟩ => ⟨S1x2048x2048, .f32⟩
  | .hbm, ⟨5, _⟩ => ⟨S16384x2048, .f32⟩
  | .hbm, ⟨6, _⟩ => ⟨S4x9x2048, .f32⟩
  | .hbm, ⟨7, _⟩ => ⟨S16384x1024, .bf16⟩
  | .hbm, ⟨8, _⟩ => ⟨S16384x1024, .bf16⟩
  | .hbm, ⟨9, _⟩ => ⟨S2048x2048, .f32⟩
  | .hbm, ⟨10, _⟩ => ⟨S2048x2048, .bf16⟩
  | .hbm, ⟨11, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S1x9x2048, .f32⟩
  | .local _ .vmem, ⟨3, _⟩ => ⟨S1x9x2048, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S2048x2048, .bf16⟩
  | .local _ .vmem, ⟨9, _⟩ => ⟨S512x2048, .f32⟩
  | .local _ .vmem, ⟨10, _⟩ => ⟨S512x2048, .f32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x9x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S4x4096x2048 : Shape := ⟨3, ![4, 4096, 2048]⟩
abbrev S4x18432 : Shape := ⟨2, ![4, 18432]⟩
abbrev S16384x1024 : Shape := ⟨2, ![16384, 1024]⟩
abbrev S1x2048x2048 : Shape := ⟨3, ![1, 2048, 2048]⟩
abbrev S4x2048 : Shape := ⟨2, ![4, 2048]⟩
abbrev S4x4096x8x128 : Shape := ⟨4, ![4, 4096, 8, 128]⟩
abbrev S4x4096x16x128 : Shape := ⟨4, ![4, 4096, 16, 128]⟩
abbrev S2048x2048 : Shape := ⟨2, ![2048, 2048]⟩
abbrev S4x1x2048 : Shape := ⟨3, ![4, 1, 2048]⟩
abbrev S16384x2048 : Shape := ⟨2, ![16384, 2048]⟩

abbrev nBuf : Space → Nat
  | .hbm => 17
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S4x18432, .f32⟩
  | .hbm, ⟨2, _⟩ => ⟨S16384x1024, .f32⟩
  | .hbm, ⟨3, _⟩ => ⟨S16384x1024, .f32⟩
  | .hbm, ⟨4, _⟩ => ⟨S1x2048x2048, .f32⟩
  | .hbm, ⟨5, _⟩ => ⟨S4x2048, .f32⟩
  | .hbm, ⟨6, _⟩ => ⟨S4x4096x8x128, .f32⟩
  | .hbm, ⟨7, _⟩ => ⟨S4x4096x8x128, .f32⟩
  | .hbm, ⟨8, _⟩ => ⟨S4x4096x16x128, .f32⟩
  | .hbm, ⟨9, _⟩ => ⟨S4x4096x2048, .f32⟩
  | .hbm, ⟨10, _⟩ => ⟨S2048x2048, .f32⟩
  | .hbm, ⟨11, _⟩ => ⟨S4x4096x2048, .f32⟩
  | .hbm, ⟨12, _⟩ => ⟨S4x1x2048, .f32⟩
  | .hbm, ⟨13, _⟩ => ⟨S4x4096x2048, .f32⟩
  | .hbm, ⟨14, _⟩ => ⟨S4x4096x2048, .f32⟩
  | .hbm, ⟨15, _⟩ => ⟨S4x4096x2048, .f32⟩
  | .hbm, ⟨16, _⟩ => ⟨S16384x2048, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel4.lean ====
abbrev S4x2048 : Shape := ⟨2, ![4, 2048]⟩
abbrev S1x2048x18432 : Shape := ⟨3, ![1, 2048, 18432]⟩
abbrev S1x18432 : Shape := ⟨2, ![1, 18432]⟩
abbrev S_ : Shape := ⟨0, ![]⟩
abbrev S8x2048 : Shape := ⟨2, ![8, 2048]⟩
abbrev S1 : Shape := ⟨1, ![1]⟩
abbrev S2048x18432 : Shape := ⟨2, ![2048, 18432]⟩
abbrev S18432 : Shape := ⟨1, ![18432]⟩
abbrev S8x18432 : Shape := ⟨2, ![8, 18432]⟩
abbrev S2048x1024 : Shape := ⟨2, ![2048, 1024]⟩
abbrev S1x1024 : Shape := ⟨2, ![1, 1024]⟩
abbrev S8x1024 : Shape := ⟨2, ![8, 1024]⟩
abbrev S4x18432 : Shape := ⟨2, ![4, 18432]⟩

abbrev nBuf : Space → Nat
  | .hbm => 13
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S1x2048x18432, .f32⟩
  | .hbm, ⟨2, _⟩ => ⟨S1x18432, .f32⟩
  | .hbm, ⟨3, _⟩ => ⟨S_, .f32⟩
  | .hbm, ⟨4, _⟩ => ⟨S8x2048, .f32⟩
  | .hbm, ⟨5, _⟩ => ⟨S_, .i32⟩
  | .hbm, ⟨6, _⟩ => ⟨S1, .i32⟩
  | .hbm, ⟨7, _⟩ => ⟨S8x2048, .f32⟩
  | .hbm, ⟨8, _⟩ => ⟨S2048x18432, .f32⟩
  | .hbm, ⟨9, _⟩ => ⟨S18432, .f32⟩
  | .hbm, ⟨10, _⟩ => ⟨S1x18432, .f32⟩
  | .hbm, ⟨11, _⟩ => ⟨S8x18432, .f32⟩
  | .hbm, ⟨12, _⟩ => ⟨S4x18432, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S4x2048 : Shape := ⟨2, ![4, 2048]⟩
abbrev S1x2048x18432 : Shape := ⟨3, ![1, 2048, 18432]⟩
abbrev S1x18432 : Shape := ⟨2, ![1, 18432]⟩
abbrev S_ : Shape := ⟨0, ![]⟩
abbrev S2048x18432 : Shape := ⟨2, ![2048, 18432]⟩
abbrev S4x18432 : Shape := ⟨2, ![4, 18432]⟩
abbrev S18432 : Shape := ⟨1, ![18432]⟩

abbrev nBuf : Space → Nat
  | .hbm => 18
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S1x2048x18432, .f32⟩
  | .hbm, ⟨2, _⟩ => ⟨S1x18432, .f32⟩
  | .hbm, ⟨3, _⟩ => ⟨S4x2048, .f32⟩
  | .hbm, ⟨4, _⟩ => ⟨S4x2048, .f32⟩
  | .hbm, ⟨5, _⟩ => ⟨S_, .f32⟩
  | .hbm, ⟨6, _⟩ => ⟨S4x2048, .f32⟩
  | .hbm, ⟨7, _⟩ => ⟨S4x2048, .f32⟩
  | .hbm, ⟨8, _⟩ => ⟨S_, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S2048x18432, .f32⟩
  | .hbm, ⟨13, _⟩ => ⟨S4x18432, .f32⟩
  | .hbm, ⟨14, _⟩ => ⟨S18432, .f32⟩
  | .hbm, ⟨15, _⟩ => ⟨S1x18432, .f32⟩
  | .hbm, ⟨16, _⟩ => ⟨S4x18432, .f32⟩
  | .hbm, ⟨17, _⟩ => ⟨S4x18432, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩

abbrev nD : Nat := 1
abbrev τ : Topo := Topo.v7x

variable {F : FTy → Type} [FloatOps F]
-- ==== Proof.FfnBlocks.lean ====
module

public import proofs.«01_k».proof.Proof.Gen.KernelIdeal.Value
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Ffn

open Cert.KernelIdeal Cert.KernelIdeal.Gen Idealize.ShloMosaic Idealize.ShloMosaic.TcCoe Idealize.SL.Sem
open Idealize.ShloMosaic.Pipeline (Dat)

/-- Row `r` of row block `q`, among the 16384 rows. -/
def row (q r : ℕ) : Fin 16384 := ⟨(q * 1024 + r) % 16384, Nat.mod_lt _ (by decide)⟩
/-- Column `f` of column block `s`, among the 5632 hidden columns. -/
def col (s f : ℕ) : Fin 5632 := ⟨(s * 512 + f) % 5632, Nat.mod_lt _ (by decide)⟩
/-- The sequence a row lies in. -/
def bat (R : Fin 16384) : Fin 4 := ⟨R / 4096, by omega⟩
/-- The place of a row in its sequence. -/
def pos (R : Fin 16384) : Fin 4096 := ⟨R % 4096, by omega⟩

/-- The normalised and modulated row: what the two up-projections read. -/
def hid (X : FVec Ideal S4x4096x2048 .f32) (M : FVec Ideal S4x18432 .f32) (G : FVec Ideal S1x2048 .f32) (R : Fin 16384) (d : Fin 2048) : EReal :=
  X (ix3 (bat R) (pos R) d)
      * Ideal.rsqrt (Ideal.div (∑ k : Fin 2048, X (ix3 (bat R) (pos R) k) * X (ix3 (bat R) (pos R) k)) (Ideal.ofBits .f32 0x45000000#32)
          + Ideal.ofBits .f32 0x358637BD#32)
      * (G (ix2 0 d) * (1 + M (ix2 (bat R) ⟨14336 + d, by omega⟩)))
    + M (ix2 (bat R) ⟨12288 + d, by omega⟩)

/-- One entry of an up-projection of the modulated row. -/
def up (X : FVec Ideal S4x4096x2048 .f32) (M : FVec Ideal S4x18432 .f32) (G : FVec Ideal S1x2048 .f32) (W : FVec Ideal S1x2048x5632 .f32) (R : Fin 16384) (f : Fin 5632) : EReal :=
  ∑ k : Fin 2048, hid X M G R k * W (ix3 0 k f)

/-- One entry of the gated hidden row. -/
def act (X : FVec Ideal S4x4096x2048 .f32) (M : FVec Ideal S4x18432 .f32) (G : FVec Ideal S1x2048 .f32) (W1 W3 : FVec Ideal S1x2048x5632 .f32) (R : Fin 16384) (f : Fin 5632) : EReal :=
  (up X M G W1 R f * Ideal.logistic (up X M G W1 R f)) * up X M G W3 R f

/-- What column block `s` adds to the down-projection of row `R` at output column `d`. -/
def part (X : FVec Ideal S4x4096x2048 .f32) (M : FVec Ideal S4x18432 .f32) (G : FVec Ideal S1x2048 .f32) (W1 W3 : FVec Ideal S1x2048x5632 .f32) (W2 : FVec Ideal S1x5632x2048 .f32)
    (R : Fin 16384) (s : ℕ) (d : Fin 2048) : EReal :=
  ∑ f : Fin 512, act X M G W1 W3 R (col s f) * W2 (ix3 0 (col s f) d)

variable (m : (ℓ : Loc nD τ sig) → Buf (Elt Ideal) ℓ)

/-- The block each window shows at each grid point. -/
theorem idx : ∀ t : Fin cfg0.N, win0_0.index t = ![t.val / 11, 0] ∧ win0_1.index t = ![t.val / 44, 0, 0] ∧ win0_2.index t = ![0, 0]
    ∧ win0_3.index t = ![0, t.val % 11] ∧ win0_4.index t = ![0, t.val % 11] ∧ win0_5.index t = ![t.val % 11, 0] :=
  (by decide +kernel : ∀ t : Fin grid0.N, _)

/-- The block of the stream at a point, as rows of the input. -/
theorem blk_x (c : Dev nD) (t : Fin cfg0.N) (r : Fin 1024) (d : Fin 2048) :
    (iblk m c 0 t : FVec Ideal S1024x2048 .f32) (ix2 r d) = (m ((c : Thread nD τ).loc main_arg0) : FVec Ideal S4x4096x2048 .f32) (ix3 (bat (row (t.val / 11) r)) (pos (row (t.val / 11) r)) d) := by
  have ht : t.val < 176 := lt_of_lt_of_eq t.isLt N_0
  blk_simp [iblk, idx t]
  entry_read
  pointwise
  blk_ext [idx t, bat, pos, row, col]

/-- The modulation block at a point: the nine rows of its sequence. -/
theorem blk_m (c : Dev nD) (t : Fin cfg0.N) (k : Fin 9) (d : Fin 2048) :
    (iblk m c 1 t : FVec Ideal S1x9x2048 .f32) (ix3 0 k d) = (m ((c : Thread nD τ).loc main_arg1) : FVec Ideal S4x18432 .f32) (ix2 (bat (row (t.val / 11) 0)) ⟨k * 2048 + d, by omega⟩) := by
  have ht : t.val < 176 := lt_of_lt_of_eq t.isLt N_0
  blk_simp [iblk, idx t]
  entry_read
  pointwise
  blk_ext [idx t, bat, pos, row, col]

/-- The gain block is the gain. -/
theorem blk_g (c : Dev nD) (t : Fin cfg0.N) (d : Fin 2048) :
    (iblk m c 2 t : FVec Ideal S1x2048 .f32) (ix2 0 d) = (m ((c : Thread nD τ).loc main_arg2) : FVec Ideal S1x2048 .f32) (ix2 0 d) := by
  blk_ext [iblk, idx t, V]

/-- The first weight's block at a point: its column block. -/
theorem blk_w1 (c : Dev nD) (t : Fin cfg0.N) (k : Fin 2048) (f : Fin 512) :
    (iblk m c 3 t : FVec Ideal S2048x512 .bf16) (ix2 k f) = (m ((c : Thread nD τ).loc main_arg3) : FVec Ideal S1x2048x5632 .f32) (ix3 0 k (col (t.val % 11) f)) := by
  have ht : t.val < 176 := lt_of_lt_of_eq t.isLt N_0
  blk_simp [iblk, idx t]
  entry_read
  pointwise
  blk_ext [idx t, bat, pos, row, col]

/-- The second weight's block at a point: its column block. -/
theorem blk_w3 (c : Dev nD) (t : Fin cfg0.N) (k : Fin 2048) (f : Fin 512) :
    (iblk m c 4 t : FVec Ideal S2048x512 .bf16) (ix2 k f) = (m ((c : Thread nD τ).loc main_arg4) : FVec Ideal S1x2048x5632 .f32) (ix3 0 k (col (t.val % 11) f)) := by
  have ht : t.val < 176 := lt_of_lt_of_eq t.isLt N_0
  blk_simp [iblk, idx t]
  entry_read
  pointwise
  blk_ext [idx t, bat, pos, row, col]

/-- The third weight's block at a point: its row block. -/
theorem blk_w2 (c : Dev nD) (t : Fin cfg0.N) (f : Fin 512) (d : Fin 2048) :
    (iblk m c 5 t : FVec Ideal S512x2048 .bf16) (ix2 f d) = (m ((c : Thread nD τ).loc main_arg5) : FVec Ideal S1x5632x2048 .f32) (ix3 0 (col (t.val % 11) f) d) := by
  have ht : t.val < 176 := lt_of_lt_of_eq t.isLt N_0
  blk_simp [iblk, idx t]
  entry_read
  pointwise
  blk_ext [idx t, bat, pos, row, col]

end Cert.KernelIdeal.Ffn
-- ==== Proof.FfnLoop.lean ====
module

public import proofs.«01_k».proof.Proof.Gen.KernelIdeal.Value
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Ffn

open Cert.KernelIdeal Cert.KernelIdeal.Gen Idealize.ShloMosaic Idealize.ShloMosaic.TcCoe Idealize.SL.Sem
open Idealize.ShloMosaic.Pipeline (Dat)

/-- The rows of a block, normalised, scaled by the gain and the scale, and shifted. -/
def rowsH (x : FVec Ideal S1024x2048 .f32) (g : FVec Ideal S1x2048 .f32) (sc sh : FVec Ideal S1x1x2048 .f32) : FVec Ideal S1024x2048 .bf16 := fun j =>
  x (ix2 (j 0) (j 1))
      * Ideal.rsqrt (Ideal.div (∑ k : Fin 2048, x (ix2 (j 0) k) * x (ix2 (j 0) k)) (Ideal.ofBits .f32 0x45000000#32)
          + Ideal.ofBits .f32 0x358637BD#32)
      * (g (ix2 0 (j 1)) * (1 + sc (ix3 0 0 (j 1))))
    + sh (ix3 0 0 (j 1))

/-- The place of a sixteen-row piece's index in the block. -/
theorem emb_rows (n : ℕ) (inb : ∀ a, (![n, 0] : Fin 2 → ℕ) a + (![16, 2048] : Fin 2 → ℕ) a ≤ S1024x2048.size a) (y : S16x2048.Idx) :
    (Rect.unit (s := S1024x2048) ![n, 0] ![16, 2048] inb).emb y
      = ix2 (⟨n + (y 0 : ℕ), by have h := inb 0; have hy := (y 0).isLt; simp at h hy; omega⟩ : Fin 1024) (y 1 : Fin 2048) := by
  funext a
  apply Fin.ext
  rw [ValueKit.rect_emb_unit_val]
  match a with
  | ⟨0, _⟩ => rfl
  | ⟨1, _⟩ => show 0 + (y 1 : ℕ) = (y 1 : ℕ); omega

/-- One trip of the normalising loop stores rows of `rowsH`. -/
theorem trip_rows (𝒱 : Variants) (c : Dev nD) (bd : Option 𝒱.V) (i : grid0.Coords) (arg2 : Memref sig .tc .vmem S1024x2048 .f32) (harg2 : arg2.IsWhole) (arg3 : Memref sig .tc .vmem S1x9x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S1024x2048 .f32) (harg8 : arg8.IsWhole) (arg9 : Memref sig .tc .vmem S1024x2048 .bf16) (harg9 : arg9.IsWhole) (k0_h1 : k0_cond1 i = 1#1) (g : Vec Ideal S1x2048 .f32) (sc : Vec Ideal S1x1x2048 .f32) (sh : Vec Ideal S1x1x2048 .f32) (X : BufTy.Contents (Elt Ideal) arg2.view.ty) (k : Fin k0_t1_loop.trips) :
    ∀ p ∈ (tripL_k0_t1 (F := Ideal) 𝒱 c bd i arg2 harg2 arg3 harg3 arg4 harg4 arg5 harg5 arg6 harg6 arg7 harg7 arg8 harg8 arg9 harg9 k0_h1 g sc sh X k).2, ∀ y : p.1.shape.Idx, p.2 y = rowsH (arg2.view.read (Elt Ideal) X) g sc sh (p.1.emb y) := by
  unfold tripL_k0_t1 trip_k0_t1
  dsimp only
  sl_unfold_words
  simp only [View.readAt_eq_ld, List.mem_singleton]
  intro p hp y
  subst hp
  dsimp only at y ⊢
  generalize View.read (Elt Ideal) arg2.view X = x
  refine Eq.trans ?_ (congrArg (rowsH x g sc sh) (emb_rows _ _ y).symm)
  pointwise [k0_pay3, rowsH]

/-- One trip of the loop stores zeros into the output block. -/
theorem trip_zero (𝒱 : Variants) (c : Dev nD) (bd : Option 𝒱.V) (i : grid0.Coords) (arg2 : Memref sig .tc .vmem S1024x2048 .f32) (harg2 : arg2.IsWhole) (arg3 : Memref sig .tc .vmem S1x9x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S1024x2048 .f32) (harg8 : arg8.IsWhole) (arg9 : Memref sig .tc .vmem S1024x2048 .bf16) (harg9 : arg9.IsWhole) (k0_h1 : k0_cond1 i = 1#1) (g : Vec Ideal S1x2048 .f32) (sc : Vec Ideal S1x1x2048 .f32) (sh : Vec Ideal S1x1x2048 .f32) (X : BufTy.Contents (Elt Ideal) arg2.view.ty) (k : Fin k0_t1_loop.trips) :
    ∀ p ∈ (tripL_k0_t1 (F := Ideal) 𝒱 c bd i arg2 harg2 arg3 harg3 arg4 harg4 arg5 harg5 arg6 harg6 arg7 harg7 arg8 harg8 arg9 harg9 k0_h1 g sc sh X k).1, ∀ y : p.1.shape.Idx, p.2 y = (0 : EReal) := by
  unfold tripL_k0_t1 trip_k0_t1
  dsimp only
  sl_unfold_words
  simp only [View.readAt_eq_ld, List.mem_singleton]
  intro p hp y
  subst hp
  pointwise [k0_pay4]

/-- All trips together: every piece stored into the carried buffer holds rows of `rowsH`. -/
theorem loop_rows (𝒱 : Variants) (c : Dev nD) (bd : Option 𝒱.V) (i : grid0.Coords) (arg2 : Memref sig .tc .vmem S1024x2048 .f32) (harg2 : arg2.IsWhole) (arg3 : Memref sig .tc .vmem S1x9x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S1024x2048 .f32) (harg8 : arg8.IsWhole) (arg9 : Memref sig .tc .vmem S1024x2048 .bf16) (harg9 : arg9.IsWhole) (k0_h1 : k0_cond1 i = 1#1) (g : Vec Ideal S1x2048 .f32) (sc : Vec Ideal S1x1x2048 .f32) (sh : Vec Ideal S1x1x2048 .f32) (X : BufTy.Contents (Elt Ideal) arg2.view.ty) : ∀ k : ℕ, k ≤ k0_t1_loop.trips →
    ∀ p ∈ (pb_k0_t1 (F := Ideal) 𝒱 c bd i arg2 harg2 arg3 harg3 arg4 harg4 arg5 harg5 arg6 harg6 arg7 harg7 arg8 harg8 arg9 harg9 k0_h1 g sc sh X k).2, ∀ y : p.1.shape.Idx, p.2 y = rowsH (arg2.view.read (Elt Ideal) X) g sc sh (p.1.emb y)
  | 0, _ => fun p hp => by simp [pb_k0_t1] at hp
  | k + 1, hk => fun p hp => by
    rw [show k + 1 = (⟨k, hk⟩ : Fin k0_t1_loop.trips).val + 1 from rfl, pb_k0_t1_succ] at hp
    rcases List.mem_append.mp hp with h | h
    · exact trip_rows 𝒱 c bd i arg2 harg2 arg3 harg3 arg4 harg4 arg5 harg5 arg6 harg6 arg7 harg7 arg8 harg8 arg9 harg9 k0_h1 g sc sh X ⟨k, hk⟩ p h
    · exact loop_rows 𝒱 c bd i arg2 harg2 arg3 harg3 arg4 harg4 arg5 harg5 arg6 harg6 arg7 harg7 arg8 harg8 arg9 harg9 k0_h1 g sc sh X k (by omega) p h

/-- All trips together: every piece stored into the output block is zero. -/
theorem loop_zero (𝒱 : Variants) (c : Dev nD) (bd : Option 𝒱.V) (i : grid0.Coords) (arg2 : Memref sig .tc .vmem S1024x2048 .f32) (harg2 : arg2.IsWhole) (arg3 : Memref sig .tc .vmem S1x9x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S1024x2048 .f32) (harg8 : arg8.IsWhole) (arg9 : Memref sig .tc .vmem S1024x2048 .bf16) (harg9 : arg9.IsWhole) (k0_h1 : k0_cond1 i = 1#1) (g : Vec Ideal S1x2048 .f32) (sc : Vec Ideal S1x1x2048 .f32) (sh : Vec Ideal S1x1x2048 .f32) (X : BufTy.Contents (Elt Ideal) arg2.view.ty) : ∀ k : ℕ, k ≤ k0_t1_loop.trips →
    ∀ p ∈ (pb_k0_t1 (F := Ideal) 𝒱 c bd i arg2 harg2 arg3 harg3 arg4 harg4 arg5 harg5 arg6 harg6 arg7 harg7 arg8 harg8 arg9 harg9 k0_h1 g sc sh X k).1, ∀ y : p.1.shape.Idx, p.2 y = (0 : EReal)
  | 0, _ => fun p hp => by simp [pb_k0_t1] at hp
  | k + 1, hk => fun p hp => by
    rw [show k + 1 = (⟨k, hk⟩ : Fin k0_t1_loop.trips).val + 1 from rfl, pb_k0_t1_succ] at hp
    rcases List.mem_append.mp hp with h | h
    · exact trip_zero 𝒱 c bd i arg2 harg2 arg3 harg3 arg4 harg4 arg5 harg5 arg6 harg6 arg7 harg7 arg8 harg8 arg9 harg9 k0_h1 g sc sh X ⟨k, hk⟩ p h
    · exact loop_zero 𝒱 c bd i arg2 harg2 arg3 harg3 arg4 harg4 arg5 harg5 arg6 harg6 arg7 harg7 arg8 harg8 arg9 harg9 k0_h1 g sc sh X k (by omega) p h
/-- One trip's store into the output block covers its sixteen rows. -/
theorem trip_cover (𝒱 : Variants) (c : Dev nD) (bd : Option 𝒱.V) (i : grid0.Coords) (arg2 : Memref sig .tc .vmem S1024x2048 .f32) (harg2 : arg2.IsWhole) (arg3 : Memref sig .tc .vmem S1x9x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S1024x2048 .f32) (harg8 : arg8.IsWhole) (arg9 : Memref sig .tc .vmem S1024x2048 .bf16) (harg9 : arg9.IsWhole) (k0_h1 : k0_cond1 i = 1#1) (g : Vec Ideal S1x2048 .f32) (sc : Vec Ideal S1x1x2048 .f32) (sh : Vec Ideal S1x1x2048 .f32) (X : BufTy.Contents (Elt Ideal) arg2.view.ty) (k : Fin k0_t1_loop.trips) (y : S1024x2048.Idx) (h : 16 * k.val ≤ (y 0).val) (h' : (y 0).val < 16 * k.val + 16) :
    ∃ p ∈ (tripL_k0_t1 (F := Ideal) 𝒱 c bd i arg2 harg2 arg3 harg3 arg4 harg4 arg5 harg5 arg6 harg6 arg7 harg7 arg8 harg8 arg9 harg9 k0_h1 g sc sh X k).1, y ∈ p.1.set := by
  unfold tripL_k0_t1 trip_k0_t1
  dsimp only
  sl_unfold_words
  refine ⟨_, List.mem_singleton.mpr rfl, ?_⟩
  have ho : ∀ a, k0_off1 k a ≤ (y a).val ∧ (y a).val < k0_off1 k a + S16x2048.size a := by
    rw [k0_off1_eq]
    intro a
    match a with
    | ⟨0, _⟩ => exact ⟨h, h'⟩
    | ⟨1, _⟩ => exact ⟨Nat.zero_le _, by show _ < 0 + 2048; rw [Nat.zero_add]; exact (y 1).isLt⟩
  have hk : k.val < 64 := lt_of_lt_of_le k.isLt (by decide +kernel)
  have inb : ∀ a, k0_off1 k a + S16x2048.size a ≤ S1024x2048.size a := by
    rw [k0_off1_eq]
    intro a
    match a with
    | ⟨0, _⟩ => show 16 * k.val + 16 ≤ 1024; omega
    | ⟨1, _⟩ => show 0 + 2048 ≤ 2048; omega
  exact (Rect.mem_set_unit (inb := inb)).mpr ho

/-- All trips together cover the output block. -/
theorem loop_cover (𝒱 : Variants) (c : Dev nD) (bd : Option 𝒱.V) (i : grid0.Coords) (arg2 : Memref sig .tc .vmem S1024x2048 .f32) (harg2 : arg2.IsWhole) (arg3 : Memref sig .tc .vmem S1x9x2048 .f32) (harg3 : arg3.IsWhole) (arg4 : Memref sig .tc .vmem S1x2048 .f32) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S512x2048 .bf16) (harg7 : arg7.IsWhole) (arg8 : Memref sig .tc .vmem S1024x2048 .f32) (harg8 : arg8.IsWhole) (arg9 : Memref sig .tc .vmem S1024x2048 .bf16) (harg9 : arg9.IsWhole) (k0_h1 : k0_cond1 i = 1#1) (g : Vec Ideal S1x2048 .f32) (sc : Vec Ideal S1x1x2048 .f32) (sh : Vec Ideal S1x1x2048 .f32) (X : BufTy.Contents (Elt Ideal) arg2.view.ty) (y : S1024x2048.Idx) : ∀ k : ℕ, k ≤ k0_t1_loop.trips → (y 0).val < 16 * k →
    ∃ p ∈ (pb_k0_t1 (F := Ideal) 𝒱 c bd i arg2 harg2 arg3 harg3 arg4 harg4 arg5 harg5 arg6 harg6 arg7 harg7 arg8 harg8 arg9 harg9 k0_h1 g sc sh X k).1, y ∈ p.1.set
  | 0, _, h => absurd h (by omega)
  | k + 1, hk, h => by
    rw [show k + 1 = (⟨k, hk⟩ : Fin k0_t1_loop.trips).val + 1 from rfl, pb_k0_t1_succ]
    by_cases hy : (y 0).val < 16 * k
    · obtain ⟨p, hp, hm⟩ := loop_cover 𝒱 c bd i arg2 harg2 arg3 harg3 arg4 harg4 arg5 harg5 arg6 harg6 arg7 harg7 arg8 harg8 arg9 harg9 k0_h1 g sc sh X y k (by omega) hy
      exact ⟨p, List.mem_append_right _ hp, hm⟩
    · obtain ⟨p, hp, hm⟩ := trip_cover 𝒱 c bd i arg2 harg2 arg3 harg3 arg4 harg4 arg5 harg5 arg6 harg6 arg7 harg7 arg8 harg8 arg9 harg9 k0_h1 g sc sh X ⟨k, hk⟩ y (by show 16 * k ≤ _; omega) (by show _ < 16 * k + 16; omega)
      exact ⟨p, List.mem_append_left _ hp, hm⟩
end Cert.KernelIdeal.Ffn
-- ==== Proof.FfnFold.lean ====
module

public import proofs.«01_k».proof.Proof.FfnBlocks
public import proofs.«01_k».proof.Proof.FfnLoop
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Ffn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- The modulated row, read from the device's arguments. -/
abbrev hidM (c : Dev nD) (R : Fin 16384) (d : Fin 2048) : EReal :=
  hid (m ((c : Thread nD τ).loc main_arg0)) (m ((c : Thread nD τ).loc main_arg1)) (m ((c : Thread nD τ).loc main_arg2)) R d
/-- The part a column block adds, read from the device's arguments. -/
abbrev partM (c : Dev nD) (R : Fin 16384) (s : ℕ) (d : Fin 2048) : EReal :=
  part (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R s d

/-- The accumulating store adds one column block's part, whatever the carried rows and the two halves of the weights are read from. -/
theorem step_add (X : FVec Ideal S4x4096x2048 .f32) (M : FVec Ideal S4x18432 .f32) (G : FVec Ideal S1x2048 .f32) (W1 W3 : FVec Ideal S1x2048x5632 .f32) (W2 : FVec Ideal S1x5632x2048 .f32)
    (R : Fin 16384) (s : ℕ) (H : FVec Ideal S1024x2048 .bf16) (w1 w3 w1' w3' : FVec Ideal S2048x256 .bf16) (w2 w2' : FVec Ideal S256x2048 .bf16)
    (A : FVec Ideal S1024x2048 .f32) (a : EReal) (r : Fin 1024) (d : Fin 2048)
    (hH : ∀ k, H (ix2 r k) = hid X M G R k) (hA : A (ix2 r d) = a)
    (h1 : ∀ k f, w1 (ix2 k f) = W1 (ix3 0 k (col s f))) (h1' : ∀ k (f : Fin 256), w1' (ix2 k f) = W1 (ix3 0 k (col s (256 + f))))
    (h3 : ∀ k f, w3 (ix2 k f) = W3 (ix3 0 k (col s f))) (h3' : ∀ k (f : Fin 256), w3' (ix2 k f) = W3 (ix3 0 k (col s (256 + f))))
    (h2 : ∀ (f : Fin 256), w2 (ix2 f d) = W2 (ix3 0 (col s f) d)) (h2' : ∀ (f : Fin 256), w2' (ix2 f d) = W2 (ix3 0 (col s (256 + f)) d)) :
    k0_pay1 (F := Ideal) (k0_pay5 H w1 w3 w1' w3' w2 w2') (k0_pay6 A) (ix2 r d) = a + part X M G W1 W3 W2 R s d := by
  pointwise [k0_pay1, k0_pay5, k0_pay6, hH, hA, h1, h1', h3, h3', h2, h2']
  unfold part act up
  rw [Fin.sum_univ_two_halves 256 256 rfl]

/-- The rows a row block's first point writes into the carried buffer. -/
theorem rowsH_eq (c : Dev nD) (t : Fin cfg0.N) (g : FVec Ideal S1x2048 .f32) (sc sh : FVec Ideal S1x1x2048 .f32)
    (hg : ∀ d, g (ix2 0 d) = (iblk m c 2 t : FVec Ideal S1x2048 .f32) (ix2 0 d))
    (hsc : ∀ d, sc (ix3 0 0 d) = (iblk m c 1 t : FVec Ideal S1x9x2048 .f32) (ix3 0 7 d))
    (hsh : ∀ d, sh (ix3 0 0 d) = (iblk m c 1 t : FVec Ideal S1x9x2048 .f32) (ix3 0 6 d)) (z : S1024x2048.Idx) :
    rowsH (iblk m c 0 t) g sc sh z = hidM m c (row (t.val / 11) (z 0)) (z 1) := by
  have ht : t.val < 176 := lt_of_lt_of_eq t.isLt N_0
  idx_vars z
  unfold rowsH hidM hid
  pointwise
  rw [hg, hsc, hsh, blk_g, blk_m, blk_m]
  simp only [blk_x]
  have hb : bat (row (t.val / 11) 0) = bat (row (t.val / 11) z0) := by
    apply Fin.ext; simp only [bat, row]; omega
  rw [hb]
  rfl

/-- The pieces the normalising loop leaves in the carried buffer, read as one function. -/
theorem first_rows (c : Dev nD) (t : Fin cfg0.N) (h0 : t.val % 11 = 0) (h1 : ¬t.val % 11 = 10) (r : Fin 1024) (d : Fin 2048) :
    (outsAt0 m c t.val t.isLt).2 (ix2 r d) = hidM m c (row (t.val / 11) r) d := by
  rw [outsAt0_A m c t h0 h1]
  dsimp only
  unfold sout0_A_0
  rw [View.read_writes_eq_canon _ _ _ (scover0_A_0 c _ _ _ _ _ _ _ _ _ _ _ _ _ _ _ _ _ _ _ _ _ _ _ _ _)]
  refine (View.canon_apply_of_pieces (fun z : S1024x2048.Idx => hidM m c (row (t.val / 11) (z 0)) (z 1)) _ (fun p hp y => ?_) _ (scover0_A_0 c _ _ _ _ _ _ _ _ _ _ _ _ _ _ _ _ _ _ _ _ _ _ _ _ _ _)).trans ?_
  · unfold kernelRun0_A at hp
    dsimp only at hp
    sl_unfold_words
    refine (loop_rows _ _ _ _ _ _ _ _ _ _ _ _ _ _ _ _ _ _ _ _ _ _ _ _ _ _ (le_refl _) p hp y).trans ?_
    rw [(hs0_0 t).read_unread]
    refine rowsH_eq m c t _ _ _ ?_ ?_ ?_ _
    all_goals intro d; simp only [View.readAt_eq_ld, (hs0_1 t).read_unread, (hs0_2 t).read_unread]; pointwise
  · rfl

/-- An index of the whole-block rectangle sits at itself. -/
theorem idx_whole (inb : ∀ a, (![0, 0] : Fin 2 → ℕ) a + S1024x2048.size a ≤ S1024x2048.size a) (j : S1024x2048.Idx) :
    (Rect.unit (s := S1024x2048) ![0, 0] S1024x2048.size inb).idx j = j := by
  funext a
  apply Fin.ext
  refine (ValueKit.rect_emb_unit_val (s := S1024x2048) ![0, 0] S1024x2048.size inb j a).trans ?_
  match a with
  | ⟨0, _⟩ => exact Nat.zero_add _
  | ⟨1, _⟩ => exact Nat.zero_add _

/-- After the first point of a row block the output block holds the first column block's part. -/
theorem first_acc (c : Dev nD) (t : Fin cfg0.N) (h0 : t.val % 11 = 0) (h1 : ¬t.val % 11 = 10) (r : Fin 1024) (d : Fin 2048) :
    (outsAt0 m c t.val t.isLt).1 (ix2 r d) = 0 + partM m c (row (t.val / 11) r) (t.val % 11) d := by
  have hrows := first_rows m c t h0 h1 r
  rw [outsAt0_A m c t h0 h1] at hrows ⊢
  frame_out
  refine step_add _ _ _ _ _ _ _ _ _ _ _ _ _ _ _ _ _ _ _ ?_ ?_ ?_ ?_ ?_ ?_ ?_ ?_
  · intro k
    refine Eq.trans ?_ (hrows k)
    dsimp only
    unfold sout0_A_0
    rw [View.readCov_eq_canon', View.read_writes_eq_canon _ _ _ (scover0_A_0 c _ _ _ _ _ _ _ _ _ _ _ _ _ _ _ _ _ _ _ _ _ _ _ _ _)]
    unfold kernelRun0_A
    dsimp only
    sl_unfold_words
    simp only [View.readAt_eq_ld, (hs0_1 t).read_unread, (hs0_2 t).read_unread]
    rw [View.ld_unit_zero (by decide)]
    exact congrArg _ (idx_whole _ _)
  · rw [View.readCov_eq_canon']
    exact View.canon_apply_of_pieces (fun _ => (0 : EReal)) _
      (loop_zero _ _ _ _ _ _ _ _ _ _ _ _ _ _ _ _ _ _ _ _ _ _ _ _ _ _ (le_refl _)) _
      (loop_cover _ _ _ _ _ _ _ _ _ _ _ _ _ _ _ _ _ _ _ _ _ _ _ _ _ _ _ (le_refl _) (by
        have hk : 64 ≤ k0_t1_loop.trips := by decide +kernel
        have := ((Rect.unit (s := S1024x2048) ![0, 0] S1024x2048.size inb_S1024x2048_S1024x2048_0_0).idx (ix2 r d) 0).isLt
        exact lt_of_lt_of_le this (by show 1024 ≤ _; omega)))
  · intro k f; pointwise; exact blk_w1 m c t k ⟨f, by omega⟩
  · intro k f; pointwise; exact blk_w1 m c t k ⟨256 + f, by omega⟩
  · intro k f; pointwise; exact blk_w3 m c t k ⟨f, by omega⟩
  · intro k f; pointwise; exact blk_w3 m c t k ⟨256 + f, by omega⟩
  · intro f; pointwise; exact blk_w2 m c t ⟨f, by omega⟩ d
  · intro f; pointwise; exact blk_w2 m c t ⟨256 + f, by omega⟩ d

/-- At a point between a row block's first and last, the carried rows stay. -/
theorem mid_rows (c : Dev nD) (t : Fin cfg0.N) (h0 : ¬t.val % 11 = 0) (h1 : ¬t.val % 11 = 10) :
    (outsAt0 m c t.val t.isLt).2 = (outsAt0 m c (t.val - 1) (Nat.lt_of_le_of_lt (Nat.sub_le _ _) t.isLt)).2 := by
  rw [outsAt0_B m c t h0 h1]
  rfl

/-- At such a point the output block gains the column block's part. -/
theorem mid_acc (c : Dev nD) (t : Fin cfg0.N) (h0 : ¬t.val % 11 = 0) (h1 : ¬t.val % 11 = 10) (r : Fin 1024) (d : Fin 2048)
    (hrows : ∀ k, (outsAt0 m c (t.val - 1) (Nat.lt_of_le_of_lt (Nat.sub_le _ _) t.isLt)).2 (ix2 r k) = hidM m c (row (t.val / 11) r) k) :
    (outsAt0 m c t.val t.isLt).1 (ix2 r d)
      = (outsAt0 m c (t.val - 1) (Nat.lt_of_le_of_lt (Nat.sub_le _ _) t.isLt)).1 (ix2 r d) + partM m c (row (t.val / 11) r) (t.val % 11) d := by
  rw [outsAt0_B m c t h0 h1]
  frame_out
  refine step_add _ _ _ _ _ _ _ _ _ _ _ _ _ _ _ _ _ _ _ ?_ rfl ?_ ?_ ?_ ?_ ?_ ?_
  · intro k
    refine Eq.trans ?_ (hrows k)
    exact congrFun ((Memref.isWhole_whole cc0_scratch0).read_unread _) _
  · intro k f; pointwise; exact blk_w1 m c t k ⟨f, by omega⟩
  · intro k f; pointwise; exact blk_w1 m c t k ⟨256 + f, by omega⟩
  · intro k f; pointwise; exact blk_w3 m c t k ⟨f, by omega⟩
  · intro k f; pointwise; exact blk_w3 m c t k ⟨256 + f, by omega⟩
  · intro f; pointwise; exact blk_w2 m c t ⟨f, by omega⟩ d
  · intro f; pointwise; exact blk_w2 m c t ⟨256 + f, by omega⟩ d

/-- At a row block's last point the output block gains the last column block's part, is scaled by half the gate and added to the stream. -/
theorem last_acc (c : Dev nD) (t : Fin cfg0.N) (h0 : ¬t.val % 11 = 0) (h1 : t.val % 11 = 10) (r : Fin 1024) (d : Fin 2048)
    (hrows : ∀ k, (outsAt0 m c (t.val - 1) (Nat.lt_of_le_of_lt (Nat.sub_le _ _) t.isLt)).2 (ix2 r k) = hidM m c (row (t.val / 11) r) k) :
    (outsAt0 m c t.val t.isLt).1 (ix2 r d)
      = (show EReal from (m ((c : Thread nD τ).loc main_arg0) : FVec Ideal S4x4096x2048 .f32) (ix3 (bat (row (t.val / 11) r)) (pos (row (t.val / 11) r)) d))
        + Ideal.ofBits .f32 0x3F000000#32 * (show EReal from (m ((c : Thread nD τ).loc main_arg1) : FVec Ideal S4x18432 .f32) (ix2 (bat (row (t.val / 11) r)) ⟨16384 + d, by omega⟩))
          * ((outsAt0 m c (t.val - 1) (Nat.lt_of_le_of_lt (Nat.sub_le _ _) t.isLt)).1 (ix2 r d) + partM m c (row (t.val / 11) r) (t.val % 11) d) := by
  have ht : t.val < 176 := lt_of_lt_of_eq t.isLt N_0
  rw [outsAt0_C m c t h0 h1]
  frame_out
  unfold k0_pay2
  pointwise
  have hb : bat (row (t.val / 11) 0) = bat (row (t.val / 11) r) := by
    apply Fin.ext; simp only [bat, row]; omega
  refine Ideal.add_congr (blk_x m c t r d) (Ideal.mul_congr (Ideal.mul_congr rfl ((blk_m m c t 8 d).trans (by rw [hb]; rfl))) ?_)
  refine step_add _ _ _ _ _ _ _ _ _ _ _ _ _ _ _ _ _ _ _ ?_ rfl ?_ ?_ ?_ ?_ ?_ ?_
  · intro k
    refine Eq.trans ?_ (hrows k)
    exact congrFun ((Memref.isWhole_whole cc0_scratch0).read_unread _) _
  · intro k f; pointwise; exact blk_w1 m c t k ⟨f, by omega⟩
  · intro k f; pointwise; exact blk_w1 m c t k ⟨256 + f, by omega⟩
  · intro k f; pointwise; exact blk_w3 m c t k ⟨f, by omega⟩
  · intro k f; pointwise; exact blk_w3 m c t k ⟨256 + f, by omega⟩
  · intro f; pointwise; exact blk_w2 m c t ⟨f, by omega⟩ d
  · intro f; pointwise; exact blk_w2 m c t ⟨256 + f, by omega⟩ d

end Cert.KernelIdeal.Ffn
-- ==== Proof.FfnResult.lean ====
module

public import proofs.«01_k».proof.Proof.FfnFold
public import Idealize.ShloMosaic.Lib.Pipeline.ValueKit
public import Idealize.ShloMosaic.Lib.Pointwise
public import Idealize.ShloMosaic.Lib.Claim

@[expose] public section

set_option maxRecDepth 16384

noncomputable section

namespace Cert.KernelIdeal.Ffn

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- After every point the carried buffer holds the modulated rows of the point's row block. -/
theorem rows_at (c : Dev nD) : ∀ (n : ℕ) (hn : n < cfg0.N), n % 11 ≠ 10 → ∀ (r : Fin 1024) (d : Fin 2048),
    (outsAt0 m c n hn).2 (ix2 r d) = hidM m c (row (n / 11) r) d := by
  intro n
  induction n with
  | zero => intro hn _ r d; exact first_rows m c ⟨0, hn⟩ rfl (by show ¬0 % 11 = 10; decide) r d
  | succ n ih =>
    intro hn h1 r d
    by_cases h0 : (n + 1) % 11 = 0
    · exact first_rows m c ⟨n + 1, hn⟩ h0 h1 r d
    · refine (congrFun (mid_rows m c ⟨n + 1, hn⟩ h0 h1) _).trans ?_
      refine (ih (Nat.lt_of_succ_lt hn) (by omega) r d).trans ?_
      rw [show n / 11 = (n + 1) / 11 by omega]

/-- Before a row block's last point the output block holds the parts of the column blocks so far. -/
theorem acc_at (c : Dev nD) : ∀ (n : ℕ) (hn : n < cfg0.N), n % 11 ≠ 10 → ∀ (r : Fin 1024) (d : Fin 2048),
    (outsAt0 m c n hn).1 (ix2 r d) = ∑ s ∈ Finset.range (n % 11 + 1), partM m c (row (n / 11) r) s d := by
  intro n
  induction n with
  | zero =>
    intro hn _ r d
    refine (first_acc m c ⟨0, hn⟩ rfl (by show ¬0 % 11 = 10; decide) r d).trans ?_
    simp
  | succ n ih =>
    intro hn h1 r d
    by_cases h0 : (n + 1) % 11 = 0
    · refine (first_acc m c ⟨n + 1, hn⟩ h0 h1 r d).trans ?_
      dsimp only
      rw [h0]
      simp
    · have hq : n / 11 = (n + 1) / 11 := by omega
      have hm : n % 11 + 1 = (n + 1) % 11 := by omega
      refine (mid_acc m c ⟨n + 1, hn⟩ h0 h1 r d (fun k => ?_)).trans ?_
      · refine (rows_at m c n (Nat.lt_of_succ_lt hn) (by omega) r k).trans ?_
        rw [hq]
      · rw [Finset.sum_range_succ, ← hm]
        refine Ideal.add_congr ?_ rfl
        refine (ih (Nat.lt_of_succ_lt hn) (by omega) r d).trans ?_
        rw [hq]

/-- The half-step's result at row `R`, column `d`. -/
def out (X : FVec Ideal S4x4096x2048 .f32) (M : FVec Ideal S4x18432 .f32) (G : FVec Ideal S1x2048 .f32) (W1 W3 : FVec Ideal S1x2048x5632 .f32) (W2 : FVec Ideal S1x5632x2048 .f32)
    (R : Fin 16384) (d : Fin 2048) : EReal :=
  X (ix3 (bat R) (pos R) d) + Ideal.ofBits .f32 0x3F000000#32 * M (ix2 (bat R) ⟨16384 + d, by omega⟩)
    * ∑ f : Fin 5632, act X M G W1 W3 R f * W2 (ix3 0 f d)

/-- The parts of the eleven column blocks make up the sum over all hidden columns. -/
theorem parts_sum (X : FVec Ideal S4x4096x2048 .f32) (M : FVec Ideal S4x18432 .f32) (G : FVec Ideal S1x2048 .f32) (W1 W3 : FVec Ideal S1x2048x5632 .f32) (W2 : FVec Ideal S1x5632x2048 .f32)
    (R : Fin 16384) (d : Fin 2048) :
    ∑ s ∈ Finset.range 11, part X M G W1 W3 W2 R s d = ∑ f : Fin 5632, act X M G W1 W3 R f * W2 (ix3 0 f d) := by
  rw [Finset.sum_range, Fin.sum_univ_tiles 11 512 rfl]
  refine Finset.sum_congr rfl fun s _ => ?_
  unfold part
  refine Finset.sum_congr rfl fun f _ => ?_
  rw [show col s f = (⟨s.val * 512 + f.val, by omega⟩ : Fin 5632) from Fin.ext (Nat.mod_eq_of_lt (by omega))]

/-- After a row block's last point the output block holds the half-step's result. -/
theorem out_at (c : Dev nD) (n : ℕ) (hn : n < cfg0.N) (h1 : n % 11 = 10) (r : Fin 1024) (d : Fin 2048) :
    (outsAt0 m c n hn).1 (ix2 r d) = out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) (row (n / 11) r) d := by
  have hn' : n - 1 < cfg0.N := Nat.lt_of_le_of_lt (Nat.sub_le _ _) hn
  have hq : (n - 1) / 11 = n / 11 := by omega
  refine (last_acc m c ⟨n, hn⟩ (by dsimp only; omega) h1 r d (fun k => ?_)).trans ?_
  · refine (rows_at m c (n - 1) hn' (by omega) r k).trans ?_
    rw [hq]
  · unfold out
    refine Ideal.add_congr rfl (Ideal.mul_congr rfl ?_)
    rw [← parts_sum, Finset.sum_range_succ]
    dsimp only
    rw [h1]
    refine Ideal.add_congr ?_ rfl
    refine (acc_at m c (n - 1) hn' (by omega) r d).trans ?_
    rw [hq, show (n - 1) % 11 + 1 = 10 by omega]

/-- The array the call leaves, entry by entry. -/
theorem G6_apply (c : Dev nD) (R : Fin 16384) (d : Fin 2048) :
    (Value.G6 m c : FVec Ideal S16384x2048 .f32) (ix2 R d) = out (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) R d := by
  have hp : Value.pt6Of (ix2 R d) = 11 * (R.val / 1024) + 10 := by
    unfold Value.pt6Of Value.run6Of
    show 11 * (1 * (R.val / 1024 - 0) + 1 * (d.val / 2048 - 0)) + 10 = _
    omega
  have hlt : 11 * (R.val / 1024) + 10 < cfg0.N := lt_of_lt_of_eq (show _ < 176 by omega) N_0.symm
  have hloc : Value.loc6Of (ix2 R d) = (ix2 ⟨R.val % 1024, by omega⟩ d : S1024x2048.Idx) := by
    funext a
    apply Fin.ext
    match a with
    | ⟨0, _⟩ => rfl
    | ⟨1, _⟩ => exact Nat.mod_eq_of_lt d.isLt
  show Value.G6 m c (ix2 R d) = _
  unfold Value.G6
  rw [dif_pos (by rw [hp]; exact hlt), ← Value.outsAt0_sweep m c _ (by rw [hp]; exact hlt), hloc]
  rw [out_at m c _ _ (by rw [hp]; omega)]
  refine congrArg (fun R => out _ _ _ _ _ _ R d) ?_
  rw [hp]
  apply Fin.ext
  simp only [row]
  omega

end Cert.KernelIdeal.Ffn
-- ==== Proof.FfnRef.lean ====
module

public import proofs.«01_k».proof.Proof.FfnResult
public import proofs.«01_k».proof.Proof.Gen.ReferenceIdeal.Run
public import Idealize.ShloMosaic.Lib.Pipeline.ValueKit
public import Idealize.ShloMosaic.Lib.Pointwise
public import Idealize.ShloMosaic.Lib.Claim

@[expose] public section

set_option maxRecDepth 16384

noncomputable section

namespace Cert.ReferenceIdeal.Ffn

open Cert.ReferenceIdeal Cert.ReferenceIdeal.Gen Idealize.ShloMosaic Idealize.ShloMosaic.TcCoe Idealize.SL.Sem

variable (m : (ℓ : Loc nD τ sig) → Buf (Elt Ideal) ℓ)

/-- The reference's normalised and modulated stream. -/
def refH (X : FVec Ideal S4x4096x2048 .f32) (M : FVec Ideal S4x18432 .f32) (G : FVec Ideal S1x2048 .f32) : FVec Ideal S4x4096x2048 .f32 :=
  addf (mulf (mulf (mulf X (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf X X) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 (shapeCast _ G shapeCasts_S1x2048_S2048)))) (broadcastInDim S4x4096x2048 ![0, 1, 2] bcast_S4x1x2048_S4x4096x2048_0_1_2 (addf (broadcastInDim S4x1x2048 ![] bcast_S_S4x1x2048 (constant S_ .f32 0x3F800000#32)) (broadcastInDim S4x1x2048 ![0, 2] bcast_S4x2048_S4x1x2048_0_2 (extractStridedSlice S4x2048 ![0, 14336] M slices_S4x18432_S4x2048_0_14336))))) (broadcastInDim S4x4096x2048 ![0, 1, 2] bcast_S4x1x2048_S4x4096x2048_0_1_2 (broadcastInDim S4x1x2048 ![0, 2] bcast_S4x2048_S4x1x2048_0_2 (extractStridedSlice S4x2048 ![0, 12288] M slices_S4x18432_S4x2048_0_12288)))

/-- One of the reference's two up-projections. -/
def refU (H : FVec Ideal S4x4096x2048 .f32) (A : FVec Ideal S1x2048x5632 .f32) : FVec Ideal S4x4096x5632 .f32 :=
  Host.dotGeneral dot_S4x4096x2048_S2048x5632_S4x4096x5632_2_0_01_1_n_n none H (shapeCast _ A shapeCasts_S1x2048x5632_S2048x5632)

/-- The reference's result, of the stream, the modulation vectors, the two up-projections and the last weights. -/
def refO (X : FVec Ideal S4x4096x2048 .f32) (M : FVec Ideal S4x18432 .f32) (U T : FVec Ideal S4x4096x5632 .f32) (D : FVec Ideal S1x5632x2048 .f32) : FVec Ideal S4x4096x2048 .f32 :=
  addf X (mulf (broadcastInDim S4x4096x2048 ![0, 1, 2] bcast_S4x1x2048_S4x4096x2048_0_1_2 (mulf (broadcastInDim S4x1x2048 ![] bcast_S_S4x1x2048 (constant S_ .f32 0x3F000000#32)) (broadcastInDim S4x1x2048 ![0, 2] bcast_S4x2048_S4x1x2048_0_2 (extractStridedSlice S4x2048 ![0, 16384] M slices_S4x18432_S4x2048_0_16384)))) (Host.dotGeneral dot_S4x4096x5632_S5632x2048_S4x4096x2048_2_0_01_1_n_n none (mulf (mulf U (Host.divf (broadcastInDim S4x4096x5632 ![] bcast_S_S4x4096x5632 (constant S_ .f32 0x3F800000#32)) (addf (broadcastInDim S4x4096x5632 ![] bcast_S_S4x4096x5632 (constant S_ .f32 0x3F800000#32)) (Host.exp (Host.negf U))))) T) (shapeCast _ D shapeCasts_S1x5632x2048_S5632x2048)))

/-- The reference's composed term is these parts put together. -/
theorem res_eq (c : Dev nD) : Value.res_main_v39 m c = shapeCast _ (refO (m ((c : Thread nD τ).loc main_arg0)) (m ((c : Thread nD τ).loc main_arg1)) (refU (refH (m ((c : Thread nD τ).loc main_arg0)) (m ((c : Thread nD τ).loc main_arg1)) (m ((c : Thread nD τ).loc main_arg2))) (m ((c : Thread nD τ).loc main_arg3))) (refU (refH (m ((c : Thread nD τ).loc main_arg0)) (m ((c : Thread nD τ).loc main_arg1)) (m ((c : Thread nD τ).loc main_arg2))) (m ((c : Thread nD τ).loc main_arg4))) (m ((c : Thread nD τ).loc main_arg5))) shapeCasts_S4x4096x2048_S16384x2048 := rfl

/-- The reference's stream, entry by entry, is the modulated row. -/
theorem refH_apply (X : FVec Ideal S4x4096x2048 .f32) (M : FVec Ideal S4x18432 .f32) (G : FVec Ideal S1x2048 .f32) (b : Fin 4) (s : Fin 4096) (d : Fin 2048) (R : Fin 16384) (hb : Cert.KernelIdeal.Ffn.bat R = b) (hs : Cert.KernelIdeal.Ffn.pos R = s) :
    refH X M G (ix3 b s d) = Cert.KernelIdeal.Ffn.hid X M G R d := by
  unfold refH Cert.KernelIdeal.Ffn.hid
  pointwise
  rw [hb, hs]
  rw [mul_assoc _ (G (ix2 0 d) : EReal)]

/-- The reference's up-projection, entry by entry. -/
theorem refU_apply (H : FVec Ideal S4x4096x2048 .f32) (A : FVec Ideal S1x2048x5632 .f32) (b : Fin 4) (s : Fin 4096) (f : Fin 5632) :
    refU H A (ix3 b s f) = ∑ k : Fin 2048, H (ix3 b s k) * A (ix3 0 k f) := by
  unfold refU
  pointwise

/-- The reference's result from its parts, entry by entry. -/
theorem refO_apply (X : FVec Ideal S4x4096x2048 .f32) (M : FVec Ideal S4x18432 .f32) (U T : FVec Ideal S4x4096x5632 .f32) (D : FVec Ideal S1x5632x2048 .f32) (b : Fin 4) (s : Fin 4096) (d : Fin 2048) :
    refO X M U T D (ix3 b s d) = X (ix3 b s d) + Ideal.ofBits .f32 0x3F000000#32 * M (ix2 b ⟨16384 + d, by omega⟩)
      * ∑ f : Fin 5632, U (ix3 b s f) * Ideal.logistic (U (ix3 b s f)) * T (ix3 b s f) * D (ix3 0 f d) := by
  unfold refO
  pointwise
  rfl

/-- The rows of the four sequences, one under the other. -/
theorem flat (Y : FVec Ideal S4x4096x2048 .f32) (R : Fin 16384) (d : Fin 2048) :
    shapeCast S16384x2048 Y shapeCasts_S4x4096x2048_S16384x2048 (ix2 R d) = Y (ix3 (Cert.KernelIdeal.Ffn.bat R) (Cert.KernelIdeal.Ffn.pos R) d) := by
  unfold Cert.KernelIdeal.Ffn.bat Cert.KernelIdeal.Ffn.pos
  pointwise

/-- The reference's result, entry by entry, is the half-step's. -/
theorem ref_apply (c : Dev nD) (R : Fin 16384) (d : Fin 2048) :
    (Value.res_main_v39 m c : FVec Ideal S16384x2048 .f32) (ix2 R d) = Cert.KernelIdeal.Ffn.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) R d := by
  rw [res_eq]
  refine (flat _ R d).trans ?_
  rw [refO_apply]
  simp only [refU_apply, refH_apply _ _ _ _ _ _ R rfl rfl]
  unfold Cert.KernelIdeal.Ffn.out Cert.KernelIdeal.Ffn.act Cert.KernelIdeal.Ffn.up
  rfl

end Cert.ReferenceIdeal.Ffn
-- ==== Proof.ProjCols.lean ====
module
public import proofs.«01_k».proof.Proof.Gen.Kernel2Ideal.Value
public import Idealize.ShloMosaic.Lib.Pipeline.ValueKit
public import Idealize.ShloMosaic.Lib.Pointwise
public import Idealize.ShloMosaic.Lib.Claim
@[expose] public section
set_option maxRecDepth 16384
noncomputable section
namespace Cert.Kernel2Ideal.Proj
open Cert.Kernel2Ideal Cert.Kernel2Ideal.Gen Idealize.ShloMosaic Idealize.ShloMosaic.TcCoe Idealize.SL.Sem
open Idealize.ShloMosaic.Pipeline (Dat)

/-- The scratch block, read back whole after its one store, is what was stored. -/
theorem read_h {κ : Kind} {sp : Space} (v : View sig κ sp S512x2048 .bf16) (P : Vec Ideal S512x2048 .bf16) (inb inb' : ∀ a, (![0, 0] : Fin 2 → ℕ) a + (![512, 2048] : Fin 2 → ℕ) a ≤ S512x2048.size a) :
    v.readCov [(⟨Rect.unit (s := S512x2048) ![0, 0] ![512, 2048] inb, P⟩ : View.Piece (Elt Ideal) S512x2048 .bf16)] (Rect.unit (s := S512x2048) ![0, 0] ![512, 2048] inb').toLoadRect = P := by
  rw [View.readCov_eq_canon']
  funext j
  refine (congrFun (View.canon_unit_zero (S := S512x2048) (Val := Elt Ideal) (e := .bf16) (by decide) inb P) _).trans (congrArg P ?_)
  funext a
  apply Fin.ext
  match a with
  | ⟨0, _⟩ => show 0 + 1 * (j 0).val = (j 0).val; omega
  | ⟨1, _⟩ => show 0 + 1 * (j 1).val = (j 1).val; omega

/-- The columns `n, n + 1, …, n + B - 1` of the weight block. -/
def wcol (W : FVec Ideal S2048x6400 .bf16) (n B : ℕ) (h : n + B ≤ 6400) : (⟨2, ![2048, B]⟩ : Shape).Idx → Elt Ideal .bf16 :=
  fun y => W (ix2 (⟨(y 0).val, (y 0).isLt⟩ : Fin 2048) (⟨n + (y 1).val, by have hy : (y 1).val < B := (y 1).isLt; omega⟩ : Fin 6400))

/-- A load of a column range within a column range of the weight block reads those columns of it. -/
theorem read_w {κ : Kind} {sp : Space} (v : View sig κ sp S2048x6400 .bf16) (a A b B : ℕ) (f) (inb : ∀ k, (![0, a] : Fin 2 → ℕ) k + (![2048, A] : Fin 2 → ℕ) k ≤ S2048x6400.size k)
    (inb' : ∀ k, (![0, b] : Fin 2 → ℕ) k + (![2048, B] : Fin 2 → ℕ) k ≤ (![2048, A] : Fin 2 → ℕ) k) (h0) :
    v.readAt (Elt Ideal) ((Rect.unit (s := S2048x6400) ![0, a] ![2048, A] inb).withinL (Rect.unit (s := (Rect.unit (s := S2048x6400) ![0, a] ![2048, A] inb).shape) ![0, b] ![2048, B] inb').toLoadRect h0) f
      = wcol (v.read (Elt Ideal) f) (a + b) B (by have h := inb 1; have h' := inb' 1; simp at h h'; omega) := by
  funext y
  rw [View.readAt_apply]
  refine congrArg (v.read (Elt Ideal) f) ?_
  funext k
  apply Fin.ext
  match k with
  | ⟨0, _⟩ => show 0 + 0 + 1 * (y 0).val = (y 0).val; omega
  | ⟨1, _⟩ => show a + b + 1 * (y 1).val = a + b + (y 1).val; omega

/-- One entry of the projection of a row block: a row of the block times a column of the weights. -/
def prj (H : FVec Ideal S512x2048 .bf16) (W : FVec Ideal S2048x6400 .bf16) (r : Fin 512) (n : Fin 6400) : EReal := ∑ k : Fin 2048, H (ix2 r k) * W (ix2 k n)

/-- The transposed values of one row block: two key blocks of 256 rows, channel by row. -/
def vtv (H : FVec Ideal S512x2048 .bf16) (W : FVec Ideal S2048x6400 .bf16) (z : S2x1024x256.Idx) : EReal :=
  prj H W ⟨(z 0).val * 256 + (z 2).val, by have h0 : (z 0).val < 2 := (z 0).isLt; have h2 : (z 2).val < 256 := (z 2).isLt; omega⟩
    ⟨4096 + (z 1).val, by have h : (z 1).val < 1024 := (z 1).isLt; omega⟩

/-- The transposed and scaled index weights of one row block. -/
def wtv (H : FVec Ideal S512x2048 .bf16) (W : FVec Ideal S2048x6400 .bf16) (z : S16x512.Idx) : EReal :=
  prj H W (z 1) ⟨6208 + (z 0).val, by have h : (z 0).val < 16 := (z 0).isLt; omega⟩ * Ideal.ofBits .f32 0x3D000000#32

/-- A stored piece of the transposed values agrees with a whole-block function if its entries do. -/
theorem piece3 (P : (⟨3, ![1, 128, 256]⟩ : Shape).Idx → EReal) (G : S2x1024x256.Idx → EReal) (a b : ℕ) (inb : ∀ k, (![a, b, 0] : Fin 3 → ℕ) k + (![1, 128, 256] : Fin 3 → ℕ) k ≤ S2x1024x256.size k)
    (h : ∀ (y0 : Fin 1) (y1 : Fin 128) (y2 : Fin 256), P (ix3 y0 y1 y2) = G (ix3 (⟨a, Nat.lt_of_succ_le (inb 0)⟩ : Fin 2) (⟨b + y1.val, Nat.lt_of_lt_of_le (Nat.add_lt_add_left y1.isLt b) (inb 1)⟩ : Fin 1024) y2)) :
    ∀ y : (Rect.unit (s := S2x1024x256) ![a, b, 0] ![1, 128, 256] inb).shape.Idx, P y = G ((Rect.unit (s := S2x1024x256) ![a, b, 0] ![1, 128, 256] inb).emb y) := by
  intro y
  have e := h (y 0) (y 1) (y 2)
  refine (congrArg P ?_).trans (e.trans (congrArg G ?_))
  · funext k
    match k with
    | ⟨0, _⟩ => rfl
    | ⟨1, _⟩ => rfl
    | ⟨2, _⟩ => rfl
  · funext k
    apply Fin.ext
    rw [ValueKit.rect_emb_unit_val]
    match k with
    | ⟨0, _⟩ =>
      have h0 : (y 0).val < 1 := (y 0).isLt
      show a = a + (y 0).val
      omega
    | ⟨1, _⟩ => rfl
    | ⟨2, _⟩ => show (y 2).val = 0 + (y 2).val; omega

/-- The one store of the index weights fills its block. -/
theorem emb2w (inb) (y : S16x512.Idx) :
    (Rect.unit (s := S16x512) ![0, 0] ![16, 512] inb).emb y = y := by
  funext k
  apply Fin.ext
  rw [ValueKit.rect_emb_unit_val]
  match k with
  | ⟨0, _⟩ => show 0 + (y 0).val = (y 0).val; omega
  | ⟨1, _⟩ => show 0 + (y 1).val = (y 1).val; omega

/-- The piece stored into the index weights' block holds the index weights of the row block. -/
theorem t18  (c : Dev nD) (i : grid0.Coords) (arg1 : Memref sig .tc .vmem S512x2048 .f32) (harg1 : arg1.IsWhole) (arg2 : Memref sig .tc .vmem S1x9x2048 .f32) (harg2 : arg2.IsWhole) (arg3 : Memref sig .tc .vmem S1x2048 .f32) (harg3 : arg3.IsWhole) (arg4 : Memref sig .tc .vmem S512x1 .i32) (harg4 : arg4.IsWhole) (arg5 : Memref sig .tc .vmem S8x128 .f32) (harg5 : arg5.IsWhole) (arg6 : Memref sig .tc .vmem S8x128 .f32) (harg6 : arg6.IsWhole) (arg7 : Memref sig .tc .vmem S2048x6400 .bf16) (harg7 : arg7.IsWhole) (arg8 : Memref sig .tc .vmem S1x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S1x1024 .f32) (harg11 : arg11.IsWhole) (arg12 : Memref sig .tc .vmem S2x128 .f32) (harg12 : arg12.IsWhole) (arg13 : Memref sig .tc .vmem S512x1024 .bf16) (harg13 : arg13.IsWhole) (arg14 : Memref sig .tc .vmem S1024x512 .bf16) (harg14 : arg14.IsWhole) (arg15 : Memref sig .tc .vmem S512x1024 .bf16) (harg15 : arg15.IsWhole) (arg16 : Memref sig .tc .vmem S2x1024x256 .bf16) (harg16 : arg16.IsWhole) (arg17 : Memref sig .tc .vmem S16x64x512 .bf16) (harg17 : arg17.IsWhole) (arg18 : Memref sig .tc .vmem S512x64 .bf16) (harg18 : arg18.IsWhole) (arg19 : Memref sig .tc .vmem S16x512 .f32) (harg19 : arg19.IsWhole) (arg20 : Memref sig .tc .vmem S512x2048 .bf16) (harg20 : arg20.IsWhole)
    (x0 : Vec Ideal S512x2048 .f32) (x1 : Vec Ideal S1x9x2048 .f32) (x2 : Vec Ideal S1x2048 .f32) (x3 : Vec Ideal S512x1 .i32) (x4 : Vec Ideal S8x128 .f32) (x5 : Vec Ideal S8x128 .f32) (x6 : Vec Ideal S2048x6400 .bf16) (x7 : Vec Ideal S1x1024 .f32) (x8 : Vec Ideal S8x128x128 .f32) (x9 : Vec Ideal S8x128x128 .f32) (x10 : Vec Ideal S1x1024 .f32) (x11 : Vec Ideal S2x128 .f32) : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11).2.2.2.2.2.2.1, ∀ y : p.1.shape.Idx,
    p.2 y = wtv (k0_pay2 (View.ld x0 (Rect.unit ![0, 0] ![512, 2048] inb_S512x2048_S512x2048_0_0)) (View.ld x2 (Rect.unit ![0, 0] ![1, 2048] inb_S1x2048_S1x2048_0_0)) (View.ld x1 (Rect.unit ![0, 4, 0] ![1, 1, 2048] inb_S1x9x2048_S1x1x2048_0_4_0)) (View.ld x1 (Rect.unit ![0, 3, 0] ![1, 1, 2048] inb_S1x9x2048_S1x1x2048_0_3_0))) x6 (p.1.emb y) := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, read_h]
  generalize k0_pay2 (F := Ideal) _ _ _ _ = H
  simp only [read_w, harg1.read_unread, harg2.read_unread, harg3.read_unread, harg4.read_unread, harg5.read_unread, harg6.read_unread, harg7.read_unread, harg8.read_unread, harg9.read_unread, harg10.read_unread, harg11.read_unread, harg12.read_unread, List.forall_mem_cons]
  refine ⟨fun y => ?_, fun x hx => absurd hx List.not_mem_nil⟩
  rw [emb2w]
  idx_vars y
  pointwise [k0_pay42, k0_pay40, wtv, prj, wcol]
  refine Ideal.mul_congr (Finset.sum_congr rfl fun k _ => Ideal.mul_congr rfl (congrArg x6 (congrArg (fun q : Fin 6400 => ix2 k q) (Fin.ext ?_)))) rfl
  show 6144 + (64 + y0.val) = 6208 + y0.val
  omega

/-- The sixteen pieces stored into the values' block hold the values of the row block, transposed. -/
theorem t15  (c : Dev nD) (i : grid0.Coords) (arg1 : Memref sig .tc .vmem S512x2048 .f32) (harg1 : arg1.IsWhole) (arg2 : Memref sig .tc .vmem S1x9x2048 .f32) (harg2 : arg2.IsWhole) (arg3 : Memref sig .tc .vmem S1x2048 .f32) (harg3 : arg3.IsWhole) (arg4 : Memref sig .tc .vmem S512x1 .i32) (harg4 : arg4.IsWhole) (arg5 : Memref sig .tc .vmem S8x128 .f32) (harg5 : arg5.IsWhole) (arg6 : Memref sig .tc .vmem S8x128 .f32) (harg6 : arg6.IsWhole) (arg7 : Memref sig .tc .vmem S2048x6400 .bf16) (harg7 : arg7.IsWhole) (arg8 : Memref sig .tc .vmem S1x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S1x1024 .f32) (harg11 : arg11.IsWhole) (arg12 : Memref sig .tc .vmem S2x128 .f32) (harg12 : arg12.IsWhole) (arg13 : Memref sig .tc .vmem S512x1024 .bf16) (harg13 : arg13.IsWhole) (arg14 : Memref sig .tc .vmem S1024x512 .bf16) (harg14 : arg14.IsWhole) (arg15 : Memref sig .tc .vmem S512x1024 .bf16) (harg15 : arg15.IsWhole) (arg16 : Memref sig .tc .vmem S2x1024x256 .bf16) (harg16 : arg16.IsWhole) (arg17 : Memref sig .tc .vmem S16x64x512 .bf16) (harg17 : arg17.IsWhole) (arg18 : Memref sig .tc .vmem S512x64 .bf16) (harg18 : arg18.IsWhole) (arg19 : Memref sig .tc .vmem S16x512 .f32) (harg19 : arg19.IsWhole) (arg20 : Memref sig .tc .vmem S512x2048 .bf16) (harg20 : arg20.IsWhole)
    (x0 : Vec Ideal S512x2048 .f32) (x1 : Vec Ideal S1x9x2048 .f32) (x2 : Vec Ideal S1x2048 .f32) (x3 : Vec Ideal S512x1 .i32) (x4 : Vec Ideal S8x128 .f32) (x5 : Vec Ideal S8x128 .f32) (x6 : Vec Ideal S2048x6400 .bf16) (x7 : Vec Ideal S1x1024 .f32) (x8 : Vec Ideal S8x128x128 .f32) (x9 : Vec Ideal S8x128x128 .f32) (x10 : Vec Ideal S1x1024 .f32) (x11 : Vec Ideal S2x128 .f32) : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11).2.2.2.1, ∀ y : p.1.shape.Idx,
    p.2 y = vtv (k0_pay2 (View.ld x0 (Rect.unit ![0, 0] ![512, 2048] inb_S512x2048_S512x2048_0_0)) (View.ld x2 (Rect.unit ![0, 0] ![1, 2048] inb_S1x2048_S1x2048_0_0)) (View.ld x1 (Rect.unit ![0, 4, 0] ![1, 1, 2048] inb_S1x9x2048_S1x1x2048_0_4_0)) (View.ld x1 (Rect.unit ![0, 3, 0] ![1, 1, 2048] inb_S1x9x2048_S1x1x2048_0_3_0))) x6 (p.1.emb y) := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, read_h]
  generalize k0_pay2 (F := Ideal) _ _ _ _ = H
  simp only [read_w, harg1.read_unread, harg2.read_unread, harg3.read_unread, harg4.read_unread, harg5.read_unread, harg6.read_unread, harg7.read_unread, harg8.read_unread, harg9.read_unread, harg10.read_unread, harg11.read_unread, harg12.read_unread, List.forall_mem_cons]
  refine ⟨piece3 _ _ _ _ _ ?_, piece3 _ _ _ _ _ ?_, piece3 _ _ _ _ _ ?_, piece3 _ _ _ _ _ ?_, piece3 _ _ _ _ _ ?_, piece3 _ _ _ _ _ ?_, piece3 _ _ _ _ _ ?_, piece3 _ _ _ _ _ ?_, piece3 _ _ _ _ _ ?_, piece3 _ _ _ _ _ ?_, piece3 _ _ _ _ _ ?_, piece3 _ _ _ _ _ ?_, piece3 _ _ _ _ _ ?_, piece3 _ _ _ _ _ ?_, piece3 _ _ _ _ _ ?_, piece3 _ _ _ _ _ ?_, fun x hx => absurd hx List.not_mem_nil⟩
  all_goals intro y0 y1 y2
  all_goals pointwise [k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, vtv, prj, wcol]
  all_goals refine Finset.sum_congr rfl fun k _ => Ideal.mul_congr (congrArg H (congrArg (fun q : Fin 512 => ix2 q k) (Fin.ext ?_))) (congrArg x6 (congrArg (fun q : Fin 6400 => ix2 k q) (Fin.ext ?_)))
  all_goals (try dsimp only)
  all_goals first | rfl | omega

end Cert.Kernel2Ideal.Proj
-- ==== Proof.ProjGmlp.lean ====
module
public import proofs.«01_k».proof.Proof.ProjCols
public import proofs.«01_k».proof.Proof.Gen.Kernel2Ideal.Value
public import Idealize.ShloMosaic.Lib.Pipeline.ValueKit
public import Idealize.ShloMosaic.Lib.Pointwise
public import Idealize.ShloMosaic.Lib.Claim
@[expose] public section
set_option maxRecDepth 16384
noncomputable section
namespace Cert.Kernel2Ideal.Proj
open Cert.Kernel2Ideal Cert.Kernel2Ideal.Gen Idealize.ShloMosaic Idealize.ShloMosaic.TcCoe Idealize.SL.Sem
open Idealize.ShloMosaic.Pipeline (Dat)

/-- The tanh form of the gated linear unit's activation. -/
def gel (x : EReal) : EReal :=
  x * (Ideal.ofBits .f32 0x3F000000#32 * (1 + Ideal.tanh (Ideal.ofBits .f32 0x3F4C422A#32 * (x + Ideal.ofBits .f32 0x3D372713#32 * (x * (x * x))))))

/-- One entry of a normalised row: centred, divided by its deviation, times the gain. -/
def lnv (v : Fin 128 → EReal) (vg : Fin 128 → EReal) (c : Fin 128) : EReal :=
  (v c - Ideal.div (∑ k : Fin 128, v k) (Ideal.ofBits .f32 0x43000000#32))
    * Ideal.rsqrt (Ideal.div (∑ j : Fin 128, (v j - Ideal.div (∑ k : Fin 128, v k) (Ideal.ofBits .f32 0x43000000#32)) * (v j - Ideal.div (∑ k : Fin 128, v k) (Ideal.ofBits .f32 0x43000000#32))) (Ideal.ofBits .f32 0x43000000#32)
        + Ideal.ofBits .f32 0x358637BD#32)
    * vg c

/-- One entry of a window's gated mix in one group. -/
def gate (u : Fin 128 → EReal) (v : Fin 128 → Fin 128 → EReal) (w : Fin 128 → Fin 128 → EReal) (b : Fin 128 → Fin 128 → EReal) (vg : Fin 128 → EReal) (i c : Fin 128) : EReal :=
  u c * (∑ j : Fin 128, (if j.val / 64 ≤ i.val / 64 then w i j * lnv (v j) vg c else 0) + b i c)

/-- The gated mix divided by its root mean square over the group, times the gain. -/
def mixv (u v : Fin 128 → Fin 128 → EReal) (w : Fin 128 → Fin 128 → EReal) (b : Fin 128 → Fin 128 → EReal) (vg og : Fin 128 → EReal) (i c : Fin 128) : EReal :=
  gate (u i) v w b vg i c
    * Ideal.rsqrt (Ideal.div (∑ k : Fin 128, gate (u i) v w b vg i k * gate (u i) v w b vg i k) (Ideal.ofBits .f32 0x43000000#32) + Ideal.ofBits .f32 0x358637BD#32)
    * og c

/-- One entry of the gated mix of a row block: window `w` of 128 rows, group `g` of 128 channels. -/
def cellG (H : FVec Ideal S512x2048 .bf16) (W : FVec Ideal S2048x6400 .bf16) (VG OG : FVec Ideal S1x1024 .f32) (WS BS : FVec Ideal S8x128x128 .f32) (w g : ℕ) (hw : w < 4) (hg : g < 8) (i c : Fin 128) : EReal :=
  mixv (fun i c => gel (prj H W ⟨128 * w + i.val, by omega⟩ ⟨128 * g + c.val, by omega⟩))
    (fun i c => gel (prj H W ⟨128 * w + i.val, by omega⟩ ⟨1024 + (128 * g + c.val), by omega⟩))
    (fun i j => WS (ix3 ⟨g, hg⟩ i j)) (fun i c => BS (ix3 ⟨g, hg⟩ i c)) (fun c => VG (ix2 0 ⟨128 * g + c.val, by omega⟩)) (fun c => OG (ix2 0 ⟨128 * g + c.val, by omega⟩)) i c

/-- The gated mix of one row block, entry by entry. -/
def gav (H : FVec Ideal S512x2048 .bf16) (W : FVec Ideal S2048x6400 .bf16) (VG OG : FVec Ideal S1x1024 .f32) (WS BS : FVec Ideal S8x128x128 .f32) (z : S512x1024.Idx) : EReal :=
  cellG H W VG OG WS BS ((z 0).val / 128) ((z 1).val / 128) (by have h : (z 0).val < 512 := (z 0).isLt; omega) (by have h : (z 1).val < 1024 := (z 1).isLt; omega)
    ⟨(z 0).val % 128, by omega⟩ ⟨(z 1).val % 128, by omega⟩

/-- The first half of the gate channels after the activation. -/
theorem pay118_apply (h : FVec Ideal S512x2048 .bf16) (w : FVec Ideal S2048x512 .bf16) (r n : Fin 512) : (k0_pay118 h w : FVec Ideal S512x512 .f32) (ix2 r n) = gel (∑ k : Fin 2048, h (ix2 r k) * w (ix2 k n)) := by
  pointwise [k0_pay118, gel]
/-- The first half of the value channels after the activation. -/
theorem pay119_apply (h : FVec Ideal S512x2048 .bf16) (w : FVec Ideal S2048x512 .bf16) (r n : Fin 512) : (k0_pay119 h w : FVec Ideal S512x512 .f32) (ix2 r n) = gel (∑ k : Fin 2048, h (ix2 r k) * w (ix2 k n)) := by
  pointwise [k0_pay119, gel]
/-- The second half of the gate channels after the activation. -/
theorem pay160_apply (h : FVec Ideal S512x2048 .bf16) (w : FVec Ideal S2048x512 .bf16) (r n : Fin 512) : (k0_pay160 (k0_pay158 h w) (k0_pay159 h w) (Scalar.ofBits (F := Ideal) .f32 0x3D372713#32) : FVec Ideal S512x512 .f32) (ix2 r n) = gel (∑ k : Fin 2048, h (ix2 r k) * w (ix2 k n)) := by
  pointwise [k0_pay160, k0_pay158, k0_pay159, gel]
/-- The second half of the value channels after the activation. -/
theorem pay161_apply (h : FVec Ideal S512x2048 .bf16) (w : FVec Ideal S2048x512 .bf16) (r n : Fin 512) : (k0_pay161 h w : FVec Ideal S512x512 .f32) (ix2 r n) = gel (∑ k : Fin 2048, h (ix2 r k) * w (ix2 k n)) := by
  pointwise [k0_pay161, gel]

/-- A stored piece of the gated mix agrees with the whole block if its entries are those of its window and group. -/
theorem piece2 (P : (⟨2, ![128, 128]⟩ : Shape).Idx → EReal) {H : FVec Ideal S512x2048 .bf16} {W : FVec Ideal S2048x6400 .bf16} {VG OG : FVec Ideal S1x1024 .f32} {WS BS : FVec Ideal S8x128x128 .f32}
    (w g : ℕ) (hw : w < 4) (hg : g < 8) (a b : ℕ) (ha : a = 128 * w) (hb : b = 128 * g) (inb : ∀ k, (![a, b] : Fin 2 → ℕ) k + (![128, 128] : Fin 2 → ℕ) k ≤ S512x1024.size k)
    (h : ∀ i c : Fin 128, P (ix2 i c) = cellG H W VG OG WS BS w g hw hg i c) :
    ∀ y : (Rect.unit (s := S512x1024) ![a, b] ![128, 128] inb).shape.Idx, P y = gav H W VG OG WS BS ((Rect.unit (s := S512x1024) ![a, b] ![128, 128] inb).emb y) := by
  intro y
  subst ha hb
  have h0 : (y 0).val < 128 := (y 0).isLt
  have h1 : (y 1).val < 128 := (y 1).isLt
  have e0 : ((Rect.unit (s := S512x1024) ![128 * w, 128 * g] ![128, 128] inb).emb y 0).val = 128 * w + (y 0).val := ValueKit.rect_emb_unit_val _ _ inb y 0
  have e1 : ((Rect.unit (s := S512x1024) ![128 * w, 128 * g] ![128, 128] inb).emb y 1).val = 128 * g + (y 1).val := ValueKit.rect_emb_unit_val _ _ inb y 1
  refine (congrArg P ?_).trans ((h (y 0) (y 1)).trans ?_)
  · funext k
    match k with
    | ⟨0, _⟩ => rfl
    | ⟨1, _⟩ => rfl
  · unfold gav
    congr 1
    all_goals ((try apply Fin.ext); dsimp only; (first | rw [e0] | rw [e1]); omega)

set_option maxHeartbeats 4000000 in
/-- The thirty-two pieces stored into the first result's block hold the gated mix of the row block: four windows of eight groups. -/
theorem t12  (c : Dev nD) (i : grid0.Coords) (arg1 : Memref sig .tc .vmem S512x2048 .f32) (harg1 : arg1.IsWhole) (arg2 : Memref sig .tc .vmem S1x9x2048 .f32) (harg2 : arg2.IsWhole) (arg3 : Memref sig .tc .vmem S1x2048 .f32) (harg3 : arg3.IsWhole) (arg4 : Memref sig .tc .vmem S512x1 .i32) (harg4 : arg4.IsWhole) (arg5 : Memref sig .tc .vmem S8x128 .f32) (harg5 : arg5.IsWhole) (arg6 : Memref sig .tc .vmem S8x128 .f32) (harg6 : arg6.IsWhole) (arg7 : Memref sig .tc .vmem S2048x6400 .bf16) (harg7 : arg7.IsWhole) (arg8 : Memref sig .tc .vmem S1x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S1x1024 .f32) (harg11 : arg11.IsWhole) (arg12 : Memref sig .tc .vmem S2x128 .f32) (harg12 : arg12.IsWhole) (arg13 : Memref sig .tc .vmem S512x1024 .bf16) (harg13 : arg13.IsWhole) (arg14 : Memref sig .tc .vmem S1024x512 .bf16) (harg14 : arg14.IsWhole) (arg15 : Memref sig .tc .vmem S512x1024 .bf16) (harg15 : arg15.IsWhole) (arg16 : Memref sig .tc .vmem S2x1024x256 .bf16) (harg16 : arg16.IsWhole) (arg17 : Memref sig .tc .vmem S16x64x512 .bf16) (harg17 : arg17.IsWhole) (arg18 : Memref sig .tc .vmem S512x64 .bf16) (harg18 : arg18.IsWhole) (arg19 : Memref sig .tc .vmem S16x512 .f32) (harg19 : arg19.IsWhole) (arg20 : Memref sig .tc .vmem S512x2048 .bf16) (harg20 : arg20.IsWhole)
    (x0 : Vec Ideal S512x2048 .f32) (x1 : Vec Ideal S1x9x2048 .f32) (x2 : Vec Ideal S1x2048 .f32) (x3 : Vec Ideal S512x1 .i32) (x4 : Vec Ideal S8x128 .f32) (x5 : Vec Ideal S8x128 .f32) (x6 : Vec Ideal S2048x6400 .bf16) (x7 : Vec Ideal S1x1024 .f32) (x8 : Vec Ideal S8x128x128 .f32) (x9 : Vec Ideal S8x128x128 .f32) (x10 : Vec Ideal S1x1024 .f32) (x11 : Vec Ideal S2x128 .f32) : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11).1, ∀ y : p.1.shape.Idx,
    p.2 y = gav (k0_pay2 (View.ld x0 (Rect.unit ![0, 0] ![512, 2048] inb_S512x2048_S512x2048_0_0)) (View.ld x2 (Rect.unit ![0, 0] ![1, 2048] inb_S1x2048_S1x2048_0_0)) (View.ld x1 (Rect.unit ![0, 4, 0] ![1, 1, 2048] inb_S1x9x2048_S1x1x2048_0_4_0)) (View.ld x1 (Rect.unit ![0, 3, 0] ![1, 1, 2048] inb_S1x9x2048_S1x1x2048_0_3_0))) x6 x7 x10 x8 x9 (p.1.emb y) := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, read_h]
  generalize k0_pay2 (F := Ideal) _ _ _ _ = H
  simp only [read_w, harg1.read_unread, harg2.read_unread, harg3.read_unread, harg4.read_unread, harg5.read_unread, harg6.read_unread, harg7.read_unread, harg8.read_unread, harg9.read_unread, harg10.read_unread, harg11.read_unread, harg12.read_unread, List.forall_mem_cons]
  generalize hRI : (select (andi (cmpi .ne k0_pay115 _) _) _ k0_pay114 : IVec S128x128 32) = RI
  generalize hCI : (select _ _ (divsi (iota .tc S128x128 32 [1] _) _) : IVec S128x128 32) = CI
  have hR : ∀ i j : Fin 128, RI (ix2 i j) = BitVec.ofNat 32 (i.val / 64) := by
    intro i j
    rw [← hRI]
    pointwise [k0_pay114, k0_pay115]
    clear hRI
    revert i
    decide +kernel
  have hC : ∀ i j : Fin 128, CI (ix2 i j) = BitVec.ofNat 32 (j.val / 64) := by
    intro i j
    rw [← hCI]
    pointwise
    clear hCI
    revert j
    decide +kernel
  have hM : ∀ (i j : Fin 128) (a b : EReal), Scalar.select (IntOp.cmpi CmpIPredicate.sle (CI (ix2 i j)) (RI (ix2 i j))) a b = if j.val / 64 ≤ i.val / 64 then a else b := by
    intro i j a b
    rw [hR, hC]
    have e : IntOp.cmpi CmpIPredicate.sle (BitVec.ofNat 32 (j.val / 64)) (BitVec.ofNat 32 (i.val / 64)) = if j.val / 64 ≤ i.val / 64 then 1#1 else 0#1 := by
      revert i j
      decide +kernel
    rw [e]
    split <;> rfl
  clear hRI hCI
  generalize hUa : (k0_pay118 (F := Ideal) H _ : FVec Ideal S512x512 .f32) = Ua
  generalize hUb : (k0_pay160 (F := Ideal) (k0_pay158 H _) (k0_pay159 H _) _ : FVec Ideal S512x512 .f32) = Ub
  generalize hVa : (k0_pay119 (F := Ideal) H _ : FVec Ideal S512x512 .f32) = Va
  generalize hVb : (k0_pay161 (F := Ideal) H _ : FVec Ideal S512x512 .f32) = Vb
  have uA : ∀ r n : Fin 512, Ua (ix2 r n) = gel (∑ k : Fin 2048, H (ix2 r k) * x6 (ix2 k ⟨n.val, by omega⟩)) := by
    intro r n
    rw [← hUa, pay118_apply]
    simp only [wcol, ix2, Nat.zero_add]
  have uB : ∀ r n : Fin 512, Ub (ix2 r n) = gel (∑ k : Fin 2048, H (ix2 r k) * x6 (ix2 k ⟨512 + n.val, by omega⟩)) := by
    intro r n
    rw [← hUb, pay160_apply]
    simp only [Nat.reduceAdd]
    rfl
  have vA : ∀ r n : Fin 512, Va (ix2 r n) = gel (∑ k : Fin 2048, H (ix2 r k) * x6 (ix2 k ⟨1024 + n.val, by omega⟩)) := by
    intro r n
    rw [← hVa, pay119_apply]
    simp only [Nat.reduceAdd]
    rfl
  have vB : ∀ r n : Fin 512, Vb (ix2 r n) = gel (∑ k : Fin 2048, H (ix2 r k) * x6 (ix2 k ⟨1536 + n.val, by omega⟩)) := by
    intro r n
    rw [← hVb, pay161_apply]
    simp only [Nat.reduceAdd]
    rfl
  clear hUa hUb hVa hVb
  refine ⟨piece2 _ 3 7 (by decide) (by decide) _ _ rfl rfl _ ?_, piece2 _ 2 7 (by decide) (by decide) _ _ rfl rfl _ ?_, piece2 _ 1 7 (by decide) (by decide) _ _ rfl rfl _ ?_, piece2 _ 0 7 (by decide) (by decide) _ _ rfl rfl _ ?_, piece2 _ 3 6 (by decide) (by decide) _ _ rfl rfl _ ?_, piece2 _ 2 6 (by decide) (by decide) _ _ rfl rfl _ ?_, piece2 _ 1 6 (by decide) (by decide) _ _ rfl rfl _ ?_, piece2 _ 0 6 (by decide) (by decide) _ _ rfl rfl _ ?_, piece2 _ 3 5 (by decide) (by decide) _ _ rfl rfl _ ?_, piece2 _ 2 5 (by decide) (by decide) _ _ rfl rfl _ ?_, piece2 _ 1 5 (by decide) (by decide) _ _ rfl rfl _ ?_, piece2 _ 0 5 (by decide) (by decide) _ _ rfl rfl _ ?_, piece2 _ 3 4 (by decide) (by decide) _ _ rfl rfl _ ?_, piece2 _ 2 4 (by decide) (by decide) _ _ rfl rfl _ ?_, piece2 _ 1 4 (by decide) (by decide) _ _ rfl rfl _ ?_, piece2 _ 0 4 (by decide) (by decide) _ _ rfl rfl _ ?_, piece2 _ 3 3 (by decide) (by decide) _ _ rfl rfl _ ?_, piece2 _ 2 3 (by decide) (by decide) _ _ rfl rfl _ ?_, piece2 _ 1 3 (by decide) (by decide) _ _ rfl rfl _ ?_, piece2 _ 0 3 (by decide) (by decide) _ _ rfl rfl _ ?_, piece2 _ 3 2 (by decide) (by decide) _ _ rfl rfl _ ?_, piece2 _ 2 2 (by decide) (by decide) _ _ rfl rfl _ ?_, piece2 _ 1 2 (by decide) (by decide) _ _ rfl rfl _ ?_, piece2 _ 0 2 (by decide) (by decide) _ _ rfl rfl _ ?_, piece2 _ 3 1 (by decide) (by decide) _ _ rfl rfl _ ?_, piece2 _ 2 1 (by decide) (by decide) _ _ rfl rfl _ ?_, piece2 _ 1 1 (by decide) (by decide) _ _ rfl rfl _ ?_, piece2 _ 0 1 (by decide) (by decide) _ _ rfl rfl _ ?_, piece2 _ 3 0 (by decide) (by decide) _ _ rfl rfl _ ?_, piece2 _ 2 0 (by decide) (by decide) _ _ rfl rfl _ ?_, piece2 _ 1 0 (by decide) (by decide) _ _ rfl rfl _ ?_, piece2 _ 0 0 (by decide) (by decide) _ _ rfl rfl _ ?_, fun x hx => absurd hx List.not_mem_nil⟩
  all_goals
    intro i c
    pointwise [k0_pay1, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204]
    simp only [hM, uA, uB, vA, vB, pay118_apply, pay119_apply, pay160_apply, pay161_apply, wcol, show ∀ (n0 n1 : ℕ) (a : Fin n0) (b : Fin n1), ix2 a b 0 = a from fun _ _ _ _ => rfl, show ∀ (n0 n1 : ℕ) (a : Fin n0) (b : Fin n1), ix2 a b 1 = b from fun _ _ _ _ => rfl, cellG, mixv, gate, lnv, prj, ← Nat.add_assoc, Nat.reduceMul, Nat.reduceAdd, Nat.zero_add, Fin.eta]
  all_goals rfl

end Cert.Kernel2Ideal.Proj
-- ==== Proof.ProjBlocks.lean ====
module

public import proofs.«01_k».proof.Proof.ProjGmlp
public import proofs.«01_k».proof.Proof.Gen.Kernel2Ideal.Value
public import Idealize.ShloMosaic.Lib.Pipeline.ValueKit
public import Idealize.ShloMosaic.Lib.Pointwise
public import Idealize.ShloMosaic.Lib.Claim

@[expose] public section

set_option maxRecDepth 16384

noncomputable section

namespace Cert.Kernel2Ideal.Proj

open Cert.Kernel2Ideal Cert.Kernel2Ideal.Gen Idealize.ShloMosaic Idealize.ShloMosaic.TcCoe Idealize.SL.Sem
open Idealize.ShloMosaic.Pipeline (Dat)

/-- Row `r` of row block `q`, among the 16384 rows. -/
def row (q r : ℕ) : Fin 16384 := ⟨(q * 512 + r) % 16384, Nat.mod_lt _ (by decide)⟩
/-- The sequence a row lies in. -/
def bat (R : Fin 16384) : Fin 4 := ⟨R / 4096, by omega⟩
/-- The place of a row in its sequence. -/
def pos (R : Fin 16384) : Fin 4096 := ⟨R % 4096, by omega⟩

/-- The normalised and modulated row: what the projection reads. -/
def hid (X : FVec Ideal S4x4096x2048 .f32) (M : FVec Ideal S4x18432 .f32) (G : FVec Ideal S1x2048 .f32) (R : Fin 16384) (d : Fin 2048) : EReal :=
  X (ix3 (bat R) (pos R) d)
      * Ideal.rsqrt (Ideal.div (∑ k : Fin 2048, X (ix3 (bat R) (pos R) k) * X (ix3 (bat R) (pos R) k)) (Ideal.ofBits .f32 0x45000000#32)
          + Ideal.ofBits .f32 0x358637BD#32)
      * G (ix2 0 d) * (1 + M (ix2 (bat R) ⟨8192 + d, by omega⟩))
    + M (ix2 (bat R) ⟨6144 + d, by omega⟩)

/-- One entry of the projection of the modulated row. -/
def pj (X : FVec Ideal S4x4096x2048 .f32) (M : FVec Ideal S4x18432 .f32) (G : FVec Ideal S1x2048 .f32) (W : FVec Ideal S1x2048x6224 .f32) (R : Fin 16384) (n : Fin 6224) : EReal :=
  ∑ k : Fin 2048, hid X M G R k * W (ix3 0 k n)

/-- One entry of the gated mix: the row's window of 128 rows, the channel's group of 128 channels. -/
def gmix (X : FVec Ideal S4x4096x2048 .f32) (M : FVec Ideal S4x18432 .f32) (G : FVec Ideal S1x2048 .f32) (W : FVec Ideal S1x2048x6224 .f32)
    (VG : FVec Ideal S1x1024 .f32) (WS : FVec Ideal S1x8x128x128 .f32) (B : FVec Ideal S1x8x128 .f32) (OG : FVec Ideal S1x2048 .f32) (R : Fin 16384) (n : Fin 1024) : EReal :=
  mixv (fun i c => gel (pj X M G W ⟨128 * (R.val / 128) + i.val, by omega⟩ ⟨128 * (n.val / 128) + c.val, by omega⟩))
    (fun i c => gel (pj X M G W ⟨128 * (R.val / 128) + i.val, by omega⟩ ⟨1024 + (128 * (n.val / 128) + c.val), by omega⟩))
    (fun i j => WS (ix4 0 ⟨n.val / 128, by omega⟩ i j)) (fun i c => B (ix3 0 ⟨n.val / 128, by omega⟩ i))
    (fun c => VG (ix2 0 ⟨128 * (n.val / 128) + c.val, by omega⟩)) (fun c => OG (ix2 0 ⟨128 * (n.val / 128) + c.val, by omega⟩))
    ⟨R.val % 128, by omega⟩ ⟨n.val % 128, by omega⟩

variable (m : (ℓ : Loc nD τ sig) → Buf (Elt Ideal) ℓ)

/-- The block each window read here shows at each grid point. -/
theorem idx : ∀ t : Fin cfg0.N, win0_0.index t = ![t.val, 0] ∧ win0_1.index t = ![t.val / 8, 0, 0] ∧ win0_2.index t = ![0, 0]
    ∧ win0_6.index t = ![0, 0] ∧ win0_7.index t = ![0, 0] ∧ win0_8.index t = ![0, 0, 0] ∧ win0_9.index t = ![0, 0, 0] ∧ win0_10.index t = ![0, 0]
    ∧ win0_12.index t = ![t.val, 0] ∧ win0_15.index t = ![t.val, 0, 0] ∧ win0_18.index t = ![0, t.val] :=
  (by decide +kernel : ∀ t : Fin grid0.N, _)

/-- The block of the stream at a point, as rows of the input. -/
theorem blk_x (c : Dev nD) (t : Fin cfg0.N) (r : Fin 512) (d : Fin 2048) :
    (iblk m c 0 t : FVec Ideal S512x2048 .f32) (ix2 r d) = (m ((c : Thread nD τ).loc main_arg0) : FVec Ideal S4x4096x2048 .f32) (ix3 (bat (row t.val r)) (pos (row t.val r)) d) := by
  have ht : t.val < 32 := lt_of_lt_of_eq t.isLt N_0
  blk_simp [iblk, idx t]
  entry_read
  pointwise
  blk_ext [idx t, bat, pos, row]

/-- The modulation block at a point: the nine rows of its sequence. -/
theorem blk_m (c : Dev nD) (t : Fin cfg0.N) (r : Fin 512) (k : Fin 9) (d : Fin 2048) :
    (iblk m c 1 t : FVec Ideal S1x9x2048 .f32) (ix3 0 k d) = (m ((c : Thread nD τ).loc main_arg1) : FVec Ideal S4x18432 .f32) (ix2 (bat (row t.val r)) ⟨k * 2048 + d, by omega⟩) := by
  have ht : t.val < 32 := lt_of_lt_of_eq t.isLt N_0
  blk_simp [iblk, idx t]
  entry_read
  pointwise
  blk_ext [idx t, bat, pos, row]

/-- The gain block is the gain. -/
theorem blk_g (c : Dev nD) (t : Fin cfg0.N) (d : Fin 2048) :
    (iblk m c 2 t : FVec Ideal S1x2048 .f32) (ix2 0 d) = (m ((c : Thread nD τ).loc main_arg2) : FVec Ideal S1x2048 .f32) (ix2 0 d) := by
  blk_simp [iblk, idx t]
  entry_read
  pointwise
  blk_ext [idx t]

/-- The weight block is the weight, in the columns it has. -/
theorem blk_w (c : Dev nD) (t : Fin cfg0.N) (k : Fin 2048) (n : Fin 6400) (n' : Fin 6224) (h : n.val = n'.val) :
    (iblk m c 6 t : FVec Ideal S2048x6400 .bf16) (ix2 k n) = (m ((c : Thread nD τ).loc main_arg4) : FVec Ideal S1x2048x6224 .f32) (ix3 0 k n') := by
  blk_simp [iblk, idx t]
  entry_read
  pointwise
  have hw : win0_6.index t = ![0, 0] := (idx t).2.2.2.1
  have e0 : (((View.whole main_v3).slice (win0_6.rect t)).emb (ix2 k n) 0).val = win0_6.index t (0 : Fin 2) * 2048 + 1 * k.val := rfl
  have e1 : (((View.whole main_v3).slice (win0_6.rect t)).emb (ix2 k n) 1).val = win0_6.index t (1 : Fin 2) * 6400 + 1 * n.val := rfl
  rw [hw] at e0 e1
  have f0 : (((View.whole main_v3).slice (win0_6.rect t)).emb (ix2 k n) 0).val = k.val := e0.trans (by show 0 * 2048 + 1 * k.val = k.val; omega)
  have f1 : (((View.whole main_v3).slice (win0_6.rect t)).emb (ix2 k n) 1).val = n'.val := e1.trans (by show 0 * 6400 + 1 * n.val = n'.val; omega)
  rw [dif_pos (by rw [f1]; exact n'.isLt)]
  exact congrArg₂ (fun a b => (m ((c : Thread nD τ).loc main_arg4) : FVec Ideal S1x2048x6224 .f32) (ix3 0 a b)) (Fin.ext f0) (Fin.ext f1)

/-- The block of the value gains. -/
theorem blk_vg (c : Dev nD) (t : Fin cfg0.N) (n : Fin 1024) :
    (iblk m c 7 t : FVec Ideal S1x1024 .f32) (ix2 0 n) = (m ((c : Thread nD τ).loc main_arg5) : FVec Ideal S1x1024 .f32) (ix2 0 n) := by
  blk_simp [iblk, idx t]
  entry_read
  pointwise
  blk_ext [idx t]

/-- The block of the spatial weights. -/
theorem blk_ws (c : Dev nD) (t : Fin cfg0.N) (g : Fin 8) (i j : Fin 128) :
    (iblk m c 8 t : FVec Ideal S8x128x128 .f32) (ix3 g i j) = (m ((c : Thread nD τ).loc main_arg6) : FVec Ideal S1x8x128x128 .f32) (ix4 0 g i j) := by
  blk_simp [iblk, idx t]
  entry_read
  pointwise
  blk_ext [idx t]

/-- The block of the spatial biases: each row's bias, the same in every channel. -/
theorem blk_bs (c : Dev nD) (t : Fin cfg0.N) (g : Fin 8) (i j : Fin 128) :
    (iblk m c 9 t : FVec Ideal S8x128x128 .f32) (ix3 g i j) = (m ((c : Thread nD τ).loc main_arg7) : FVec Ideal S1x8x128 .f32) (ix3 0 g i) := by
  blk_simp [iblk, idx t]
  entry_read
  pointwise
  blk_ext [idx t]

/-- The block of the output gains: the first half of them. -/
theorem blk_og (c : Dev nD) (t : Fin cfg0.N) (n : Fin 1024) :
    (iblk m c 10 t : FVec Ideal S1x1024 .f32) (ix2 0 n) = (m ((c : Thread nD τ).loc main_arg8) : FVec Ideal S1x2048 .f32) (ix2 0 ⟨n.val, by omega⟩) := by
  blk_simp [iblk, idx t]
  entry_read
  pointwise
  blk_ext [idx t]

/-- The scratch block of a point holds the modulated rows of its row block. -/
theorem blk_h (c : Dev nD) (t : Fin cfg0.N) (r : Fin 512) (d : Fin 2048) :
    (k0_pay2 (View.ld (iblk m c 0 t) (Rect.unit ![0, 0] ![512, 2048] inb_S512x2048_S512x2048_0_0)) (View.ld (iblk m c 2 t) (Rect.unit ![0, 0] ![1, 2048] inb_S1x2048_S1x2048_0_0)) (View.ld (iblk m c 1 t) (Rect.unit ![0, 4, 0] ![1, 1, 2048] inb_S1x9x2048_S1x1x2048_0_4_0)) (View.ld (iblk m c 1 t) (Rect.unit ![0, 3, 0] ![1, 1, 2048] inb_S1x9x2048_S1x1x2048_0_3_0)) : FVec Ideal S512x2048 .bf16) (ix2 r d)
      = hid (m ((c : Thread nD τ).loc main_arg0)) (m ((c : Thread nD τ).loc main_arg1)) (m ((c : Thread nD τ).loc main_arg2)) (row t.val r) d := by
  pointwise [k0_pay2]
  unfold hid
  refine Ideal.add_congr (Ideal.mul_congr (Ideal.mul_congr (Ideal.mul_congr (blk_x m c t r d) ?_) (blk_g m c t d)) ?_) (blk_m m c t r 3 d)
  · refine congrArg Ideal.rsqrt (Ideal.add_congr (congrArg₂ Ideal.div ?_ rfl) rfl)
    exact Finset.sum_congr rfl fun k _ => Ideal.mul_congr (blk_x m c t r k) (blk_x m c t r k)
  · exact Ideal.add_congr rfl (blk_m m c t r 4 d)

end Cert.Kernel2Ideal.Proj
-- ==== Proof.ProjResult.lean ====
module

public import proofs.«01_k».proof.Proof.ProjBlocks
public import proofs.«01_k».proof.Proof.Gen.Kernel2Ideal.Value
public import Idealize.ShloMosaic.Lib.Pipeline.ValueKit
public import Idealize.ShloMosaic.Lib.Pointwise
public import Idealize.ShloMosaic.Lib.Claim

@[expose] public section

set_option maxRecDepth 16384

noncomputable section

namespace Cert.Kernel2Ideal.Proj

open Cert.Kernel2Ideal Cert.Kernel2Ideal.Gen Idealize.ShloMosaic Idealize.ShloMosaic.TcCoe Idealize.SL.Sem
open Idealize.ShloMosaic.Pipeline (Dat)

/-- The block the body leaves for the gated mix, entry by entry. -/
theorem o12  (c : Dev nD) (i : grid0.Coords) (arg1 : Memref sig .tc .vmem S512x2048 .f32) (harg1 : arg1.IsWhole) (arg2 : Memref sig .tc .vmem S1x9x2048 .f32) (harg2 : arg2.IsWhole) (arg3 : Memref sig .tc .vmem S1x2048 .f32) (harg3 : arg3.IsWhole) (arg4 : Memref sig .tc .vmem S512x1 .i32) (harg4 : arg4.IsWhole) (arg5 : Memref sig .tc .vmem S8x128 .f32) (harg5 : arg5.IsWhole) (arg6 : Memref sig .tc .vmem S8x128 .f32) (harg6 : arg6.IsWhole) (arg7 : Memref sig .tc .vmem S2048x6400 .bf16) (harg7 : arg7.IsWhole) (arg8 : Memref sig .tc .vmem S1x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S1x1024 .f32) (harg11 : arg11.IsWhole) (arg12 : Memref sig .tc .vmem S2x128 .f32) (harg12 : arg12.IsWhole) (arg13 : Memref sig .tc .vmem S512x1024 .bf16) (harg13 : arg13.IsWhole) (arg14 : Memref sig .tc .vmem S1024x512 .bf16) (harg14 : arg14.IsWhole) (arg15 : Memref sig .tc .vmem S512x1024 .bf16) (harg15 : arg15.IsWhole) (arg16 : Memref sig .tc .vmem S2x1024x256 .bf16) (harg16 : arg16.IsWhole) (arg17 : Memref sig .tc .vmem S16x64x512 .bf16) (harg17 : arg17.IsWhole) (arg18 : Memref sig .tc .vmem S512x64 .bf16) (harg18 : arg18.IsWhole) (arg19 : Memref sig .tc .vmem S16x512 .f32) (harg19 : arg19.IsWhole) (arg20 : Memref sig .tc .vmem S512x2048 .bf16) (harg20 : arg20.IsWhole)
    (x0 : Vec Ideal S512x2048 .f32) (x1 : Vec Ideal S1x9x2048 .f32) (x2 : Vec Ideal S1x2048 .f32) (x3 : Vec Ideal S512x1 .i32) (x4 : Vec Ideal S8x128 .f32) (x5 : Vec Ideal S8x128 .f32) (x6 : Vec Ideal S2048x6400 .bf16) (x7 : Vec Ideal S1x1024 .f32) (x8 : Vec Ideal S8x128x128 .f32) (x9 : Vec Ideal S8x128x128 .f32) (x10 : Vec Ideal S1x1024 .f32) (x11 : Vec Ideal S2x128 .f32) (y : S512x1024.Idx) :
    (out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11) y = gav (k0_pay2 (View.ld x0 (Rect.unit ![0, 0] ![512, 2048] inb_S512x2048_S512x2048_0_0)) (View.ld x2 (Rect.unit ![0, 0] ![1, 2048] inb_S1x2048_S1x2048_0_0)) (View.ld x1 (Rect.unit ![0, 4, 0] ![1, 1, 2048] inb_S1x9x2048_S1x1x2048_0_4_0)) (View.ld x1 (Rect.unit ![0, 3, 0] ![1, 1, 2048] inb_S1x9x2048_S1x1x2048_0_3_0))) x6 x7 x10 x8 x9 y := by
  unfold out0_A_12
  rw [View.read_writes_eq_canon _ _ _ (cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11)]
  exact View.canon_apply_of_pieces _ _ (t12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11) y (cover0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 y)

/-- The block the body leaves for the transposed values, entry by entry. -/
theorem o15  (c : Dev nD) (i : grid0.Coords) (arg1 : Memref sig .tc .vmem S512x2048 .f32) (harg1 : arg1.IsWhole) (arg2 : Memref sig .tc .vmem S1x9x2048 .f32) (harg2 : arg2.IsWhole) (arg3 : Memref sig .tc .vmem S1x2048 .f32) (harg3 : arg3.IsWhole) (arg4 : Memref sig .tc .vmem S512x1 .i32) (harg4 : arg4.IsWhole) (arg5 : Memref sig .tc .vmem S8x128 .f32) (harg5 : arg5.IsWhole) (arg6 : Memref sig .tc .vmem S8x128 .f32) (harg6 : arg6.IsWhole) (arg7 : Memref sig .tc .vmem S2048x6400 .bf16) (harg7 : arg7.IsWhole) (arg8 : Memref sig .tc .vmem S1x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S1x1024 .f32) (harg11 : arg11.IsWhole) (arg12 : Memref sig .tc .vmem S2x128 .f32) (harg12 : arg12.IsWhole) (arg13 : Memref sig .tc .vmem S512x1024 .bf16) (harg13 : arg13.IsWhole) (arg14 : Memref sig .tc .vmem S1024x512 .bf16) (harg14 : arg14.IsWhole) (arg15 : Memref sig .tc .vmem S512x1024 .bf16) (harg15 : arg15.IsWhole) (arg16 : Memref sig .tc .vmem S2x1024x256 .bf16) (harg16 : arg16.IsWhole) (arg17 : Memref sig .tc .vmem S16x64x512 .bf16) (harg17 : arg17.IsWhole) (arg18 : Memref sig .tc .vmem S512x64 .bf16) (harg18 : arg18.IsWhole) (arg19 : Memref sig .tc .vmem S16x512 .f32) (harg19 : arg19.IsWhole) (arg20 : Memref sig .tc .vmem S512x2048 .bf16) (harg20 : arg20.IsWhole)
    (x0 : Vec Ideal S512x2048 .f32) (x1 : Vec Ideal S1x9x2048 .f32) (x2 : Vec Ideal S1x2048 .f32) (x3 : Vec Ideal S512x1 .i32) (x4 : Vec Ideal S8x128 .f32) (x5 : Vec Ideal S8x128 .f32) (x6 : Vec Ideal S2048x6400 .bf16) (x7 : Vec Ideal S1x1024 .f32) (x8 : Vec Ideal S8x128x128 .f32) (x9 : Vec Ideal S8x128x128 .f32) (x10 : Vec Ideal S1x1024 .f32) (x11 : Vec Ideal S2x128 .f32) (y : S2x1024x256.Idx) :
    (out0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11) y = vtv (k0_pay2 (View.ld x0 (Rect.unit ![0, 0] ![512, 2048] inb_S512x2048_S512x2048_0_0)) (View.ld x2 (Rect.unit ![0, 0] ![1, 2048] inb_S1x2048_S1x2048_0_0)) (View.ld x1 (Rect.unit ![0, 4, 0] ![1, 1, 2048] inb_S1x9x2048_S1x1x2048_0_4_0)) (View.ld x1 (Rect.unit ![0, 3, 0] ![1, 1, 2048] inb_S1x9x2048_S1x1x2048_0_3_0))) x6 y := by
  unfold out0_A_15
  rw [View.read_writes_eq_canon _ _ _ (cover0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11)]
  exact View.canon_apply_of_pieces _ _ (t15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11) y (cover0_A_15 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 y)

/-- The block the body leaves for the index weights, entry by entry. -/
theorem o18  (c : Dev nD) (i : grid0.Coords) (arg1 : Memref sig .tc .vmem S512x2048 .f32) (harg1 : arg1.IsWhole) (arg2 : Memref sig .tc .vmem S1x9x2048 .f32) (harg2 : arg2.IsWhole) (arg3 : Memref sig .tc .vmem S1x2048 .f32) (harg3 : arg3.IsWhole) (arg4 : Memref sig .tc .vmem S512x1 .i32) (harg4 : arg4.IsWhole) (arg5 : Memref sig .tc .vmem S8x128 .f32) (harg5 : arg5.IsWhole) (arg6 : Memref sig .tc .vmem S8x128 .f32) (harg6 : arg6.IsWhole) (arg7 : Memref sig .tc .vmem S2048x6400 .bf16) (harg7 : arg7.IsWhole) (arg8 : Memref sig .tc .vmem S1x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S1x1024 .f32) (harg11 : arg11.IsWhole) (arg12 : Memref sig .tc .vmem S2x128 .f32) (harg12 : arg12.IsWhole) (arg13 : Memref sig .tc .vmem S512x1024 .bf16) (harg13 : arg13.IsWhole) (arg14 : Memref sig .tc .vmem S1024x512 .bf16) (harg14 : arg14.IsWhole) (arg15 : Memref sig .tc .vmem S512x1024 .bf16) (harg15 : arg15.IsWhole) (arg16 : Memref sig .tc .vmem S2x1024x256 .bf16) (harg16 : arg16.IsWhole) (arg17 : Memref sig .tc .vmem S16x64x512 .bf16) (harg17 : arg17.IsWhole) (arg18 : Memref sig .tc .vmem S512x64 .bf16) (harg18 : arg18.IsWhole) (arg19 : Memref sig .tc .vmem S16x512 .f32) (harg19 : arg19.IsWhole) (arg20 : Memref sig .tc .vmem S512x2048 .bf16) (harg20 : arg20.IsWhole)
    (x0 : Vec Ideal S512x2048 .f32) (x1 : Vec Ideal S1x9x2048 .f32) (x2 : Vec Ideal S1x2048 .f32) (x3 : Vec Ideal S512x1 .i32) (x4 : Vec Ideal S8x128 .f32) (x5 : Vec Ideal S8x128 .f32) (x6 : Vec Ideal S2048x6400 .bf16) (x7 : Vec Ideal S1x1024 .f32) (x8 : Vec Ideal S8x128x128 .f32) (x9 : Vec Ideal S8x128x128 .f32) (x10 : Vec Ideal S1x1024 .f32) (x11 : Vec Ideal S2x128 .f32) (y : S16x512.Idx) :
    (out0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11) y = wtv (k0_pay2 (View.ld x0 (Rect.unit ![0, 0] ![512, 2048] inb_S512x2048_S512x2048_0_0)) (View.ld x2 (Rect.unit ![0, 0] ![1, 2048] inb_S1x2048_S1x2048_0_0)) (View.ld x1 (Rect.unit ![0, 4, 0] ![1, 1, 2048] inb_S1x9x2048_S1x1x2048_0_4_0)) (View.ld x1 (Rect.unit ![0, 3, 0] ![1, 1, 2048] inb_S1x9x2048_S1x1x2048_0_3_0))) x6 y := by
  unfold out0_A_18
  rw [View.read_writes_eq_canon _ _ _ (cover0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11)]
  exact View.canon_apply_of_pieces _ _ (t18 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11) y (cover0_A_18 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 y)

variable (m : (ℓ : Loc nD τ sig) → Buf (Elt Ideal) ℓ)

/-- The projection of a row block, as the projection of the rows. -/
theorem prj_eq (c : Dev nD) (t : Fin cfg0.N) (r : Fin 512) (n : Fin 6400) (R : Fin 16384) (n' : Fin 6224) (hR : row t.val r = R) (hn : n.val = n'.val) :
    prj (k0_pay2 (View.ld (iblk m c 0 t) (Rect.unit ![0, 0] ![512, 2048] inb_S512x2048_S512x2048_0_0)) (View.ld (iblk m c 2 t) (Rect.unit ![0, 0] ![1, 2048] inb_S1x2048_S1x2048_0_0)) (View.ld (iblk m c 1 t) (Rect.unit ![0, 4, 0] ![1, 1, 2048] inb_S1x9x2048_S1x1x2048_0_4_0)) (View.ld (iblk m c 1 t) (Rect.unit ![0, 3, 0] ![1, 1, 2048] inb_S1x9x2048_S1x1x2048_0_3_0))) (iblk m c 6 t) r n = pj (m ((c : Thread nD τ).loc main_arg0)) (m ((c : Thread nD τ).loc main_arg1)) (m ((c : Thread nD τ).loc main_arg2)) (m ((c : Thread nD τ).loc main_arg4)) R n' := by
  subst hR
  exact Finset.sum_congr rfl fun k _ => Ideal.mul_congr (blk_h m c t r k) (blk_w m c t k n n' hn)

/-- Equal parts give equal mixes. -/
theorem mixv_congr {u u' v v' w w' b b' : Fin 128 → Fin 128 → EReal} {vg vg' og og' : Fin 128 → EReal} {i i' c c' : Fin 128}
    (hu : ∀ i c, u i c = u' i c) (hv : ∀ i c, v i c = v' i c) (hw : ∀ i c, w i c = w' i c) (hb : ∀ i c, b i c = b' i c) (hvg : ∀ c, vg c = vg' c) (hog : ∀ c, og c = og' c) (hi : i = i') (hc : c = c') :
    mixv u v w b vg og i c = mixv u' v' w' b' vg' og' i' c' := by
  rw [funext fun i => funext (hu i), funext fun i => funext (hv i), funext fun i => funext (hw i), funext fun i => funext (hb i), funext hvg, funext hog, hi, hc]

/-- The gated mix of a row block whose projections and parameters are those of the rows is the gated mix of the rows. -/
theorem gav_of (X : FVec Ideal S4x4096x2048 .f32) (M : FVec Ideal S4x18432 .f32) (G : FVec Ideal S1x2048 .f32) (W : FVec Ideal S1x2048x6224 .f32)
    (VG : FVec Ideal S1x1024 .f32) (WS : FVec Ideal S1x8x128x128 .f32) (B : FVec Ideal S1x8x128 .f32) (OG : FVec Ideal S1x2048 .f32)
    (H : FVec Ideal S512x2048 .bf16) (Wb : FVec Ideal S2048x6400 .bf16) (vg og : FVec Ideal S1x1024 .f32) (ws bs : FVec Ideal S8x128x128 .f32) (t : ℕ) (ht : t < 32)
    (hP : ∀ (r : Fin 512) (n : Fin 6400) (R : Fin 16384) (n' : Fin 6224), row t r = R → n.val = n'.val → prj H Wb r n = pj X M G W R n')
    (hvg : ∀ n : Fin 1024, vg (ix2 0 n) = VG (ix2 0 n)) (hog : ∀ n : Fin 1024, og (ix2 0 n) = OG (ix2 0 ⟨n.val, by omega⟩))
    (hws : ∀ (g : Fin 8) (i j : Fin 128), ws (ix3 g i j) = WS (ix4 0 g i j)) (hbs : ∀ (g : Fin 8) (i j : Fin 128), bs (ix3 g i j) = B (ix3 0 g i))
    (y : S512x1024.Idx) (R : Fin 16384) (n : Fin 1024) (hR : R.val = t * 512 + (y 0).val) (hn : n.val = (y 1).val) :
    gav H Wb vg og ws bs y = gmix X M G W VG WS B OG R n := by
  have h0 : (y 0).val < 512 := (y 0).isLt
  have h1 : (y 1).val < 1024 := (y 1).isLt
  unfold gav cellG gmix
  refine mixv_congr (fun i k => congrArg gel (hP _ _ _ _ (Fin.ext ?_) ?_)) (fun i k => congrArg gel (hP _ _ _ _ (Fin.ext ?_) ?_))
    (fun i j => (hws _ i j).trans (congrArg (fun g => WS (ix4 0 g i j)) (Fin.ext ?_))) (fun i j => (hbs _ i j).trans (congrArg (fun g => B (ix3 0 g i)) (Fin.ext ?_)))
    (fun k => (hvg _).trans (congrArg (fun g => VG (ix2 0 g)) (Fin.ext ?_))) (fun k => (hog _).trans (congrArg (fun g => OG (ix2 0 g)) (Fin.ext ?_))) (Fin.ext ?_) (Fin.ext ?_)
  · show (t * 512 + (128 * ((y 0).val / 128) + i.val)) % 16384 = 128 * (R.val / 128) + i.val
    omega
  · show 128 * ((y 1).val / 128) + k.val = 128 * (n.val / 128) + k.val
    omega
  · show (t * 512 + (128 * ((y 0).val / 128) + i.val)) % 16384 = 128 * (R.val / 128) + i.val
    omega
  · show 1024 + (128 * ((y 1).val / 128) + k.val) = 1024 + (128 * (n.val / 128) + k.val)
    omega
  · show (y 1).val / 128 = n.val / 128
    omega
  · show (y 1).val / 128 = n.val / 128
    omega
  · show 128 * ((y 1).val / 128) + k.val = 128 * (n.val / 128) + k.val
    omega
  · show 128 * ((y 1).val / 128) + k.val = 128 * (n.val / 128) + k.val
    omega
  · show (y 0).val % 128 = R.val % 128
    omega
  · show (y 1).val % 128 = n.val % 128
    omega

/-- The gated mix of a row block, as the gated mix of the rows. -/
theorem gav_eq (c : Dev nD) (t : Fin cfg0.N) (y : S512x1024.Idx) (R : Fin 16384) (n : Fin 1024) (hR : R.val = t.val * 512 + (y 0).val) (hn : n.val = (y 1).val) :
    gav (k0_pay2 (View.ld (iblk m c 0 t) (Rect.unit ![0, 0] ![512, 2048] inb_S512x2048_S512x2048_0_0)) (View.ld (iblk m c 2 t) (Rect.unit ![0, 0] ![1, 2048] inb_S1x2048_S1x2048_0_0)) (View.ld (iblk m c 1 t) (Rect.unit ![0, 4, 0] ![1, 1, 2048] inb_S1x9x2048_S1x1x2048_0_4_0)) (View.ld (iblk m c 1 t) (Rect.unit ![0, 3, 0] ![1, 1, 2048] inb_S1x9x2048_S1x1x2048_0_3_0))) (iblk m c 6 t) (iblk m c 7 t) (iblk m c 10 t) (iblk m c 8 t) (iblk m c 9 t) y = gmix (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) R n :=
  gav_of _ _ _ _ _ _ _ _ _ _ _ _ _ _ t.val (lt_of_lt_of_eq t.isLt N_0) (prj_eq m c t) (blk_vg m c t) (blk_og m c t) (blk_ws m c t) (blk_bs m c t) y R n hR hn

/-- What the array of the gated mix ends with, as a function of the arguments. -/
def F12 (c : Dev nD) (z : S16384x1024.Idx) : EReal := gmix (m ((c : Thread nD τ).loc main_arg0)) (m ((c : Thread nD τ).loc main_arg1)) (m ((c : Thread nD τ).loc main_arg2)) (m ((c : Thread nD τ).loc main_arg4)) (m ((c : Thread nD τ).loc main_arg5)) (m ((c : Thread nD τ).loc main_arg6)) (m ((c : Thread nD τ).loc main_arg7)) (m ((c : Thread nD τ).loc main_arg8)) (z 0) (z 1)

/-- The array of the gated mix the call leaves. -/
theorem final12 (c : Dev nD) : (dats m 0 c).arrAt 12 cfg0.N = F12 m c := by
  refine (dats m 0 c).arrAt_eq_of_covers 12 _ (by decide +kernel) fun t _ y => ?_
  have ht : t.val < 32 := lt_of_lt_of_eq t.isLt N_0
  have hw : win0_12.index t = ![t.val, 0] := (idx t).2.2.2.2.2.2.2.2.1
  have e0 : (((View.whole main_v23_0).slice (win0_12.rect t)).emb y 0).val = win0_12.index t (0 : Fin 2) * 512 + 1 * (y 0).val := rfl
  have e1 : (((View.whole main_v23_0).slice (win0_12.rect t)).emb y 1).val = win0_12.index t (1 : Fin 2) * 1024 + 1 * (y 1).val := rfl
  rw [hw] at e0 e1
  have f0 : (((View.whole main_v23_0).slice (win0_12.rect t)).emb y 0).val = t.val * 512 + (y 0).val := e0.trans (by show t.val * 512 + 1 * (y 0).val = t.val * 512 + (y 0).val; omega)
  have f1 : (((View.whole main_v23_0).slice (win0_12.rect t)).emb y 1).val = 0 * 1024 + (y 1).val := e1.trans (by show 0 * 1024 + 1 * (y 1).val = 0 * 1024 + (y 1).val; omega)
  have y0 : (y 0).val < 512 := (y 0).isLt
  have y1 : (y 1).val < 1024 := (y 1).isLt
  blk_simp
  rw [after0_12]
  unfold outsAt0
  dsimp only
  rw [o12]
  exact gav_eq m c t y _ _ f0 (f1.trans (by omega))

/-- What the array of the transposed values ends with, as a function of the arguments. -/
def F15 (c : Dev nD) (z : S64x1024x256.Idx) : EReal := pj (m ((c : Thread nD τ).loc main_arg0)) (m ((c : Thread nD τ).loc main_arg1)) (m ((c : Thread nD τ).loc main_arg2)) (m ((c : Thread nD τ).loc main_arg4)) ⟨256 * (z 0).val + (z 2).val, by have h0 : (z 0).val < 64 := (z 0).isLt; have h2 : (z 2).val < 256 := (z 2).isLt; omega⟩ ⟨4096 + (z 1).val, by have h1 : (z 1).val < 1024 := (z 1).isLt; omega⟩

/-- The array of the transposed values the call leaves. -/
theorem final15 (c : Dev nD) : (dats m 0 c).arrAt 15 cfg0.N = F15 m c := by
  refine (dats m 0 c).arrAt_eq_of_covers 15 _ (by decide +kernel) fun t _ y => ?_
  have ht : t.val < 32 := lt_of_lt_of_eq t.isLt N_0
  have hw : win0_15.index t = ![t.val, 0, 0] := (idx t).2.2.2.2.2.2.2.2.2.1
  have e0 : (((View.whole main_v23_3).slice (win0_15.rect t)).emb y 0).val = win0_15.index t (0 : Fin 3) * 2 + 1 * (y 0).val := rfl
  have e1 : (((View.whole main_v23_3).slice (win0_15.rect t)).emb y 1).val = win0_15.index t (1 : Fin 3) * 1024 + 1 * (y 1).val := rfl
  have e2 : (((View.whole main_v23_3).slice (win0_15.rect t)).emb y 2).val = win0_15.index t (2 : Fin 3) * 256 + 1 * (y 2).val := rfl
  rw [hw] at e0 e1 e2
  have f0 : (((View.whole main_v23_3).slice (win0_15.rect t)).emb y 0).val = t.val * 2 + (y 0).val := e0.trans (by show t.val * 2 + 1 * (y 0).val = t.val * 2 + (y 0).val; omega)
  have f1 : (((View.whole main_v23_3).slice (win0_15.rect t)).emb y 1).val = 0 * 1024 + (y 1).val := e1.trans (by show 0 * 1024 + 1 * (y 1).val = 0 * 1024 + (y 1).val; omega)
  have f2 : (((View.whole main_v23_3).slice (win0_15.rect t)).emb y 2).val = 0 * 256 + (y 2).val := e2.trans (by show 0 * 256 + 1 * (y 2).val = 0 * 256 + (y 2).val; omega)
  have y0 : (y 0).val < 2 := (y 0).isLt
  have y1 : (y 1).val < 1024 := (y 1).isLt
  have y2 : (y 2).val < 256 := (y 2).isLt
  blk_simp
  rw [after0_15]
  unfold outsAt0
  dsimp only
  rw [o15]
  refine prj_eq m c t _ _ _ _ (Fin.ext ?_) ?_
  · show (t.val * 512 + ((y 0).val * 256 + (y 2).val)) % 16384 = 256 * (((View.whole main_v23_3).slice (win0_15.rect t)).emb y 0).val + (((View.whole main_v23_3).slice (win0_15.rect t)).emb y 2).val
    omega
  · show 4096 + (y 1).val = 4096 + (((View.whole main_v23_3).slice (win0_15.rect t)).emb y 1).val
    omega

/-- What the array of the index weights ends with, as a function of the arguments. -/
def F18 (c : Dev nD) (z : S16x16384.Idx) : EReal := pj (m ((c : Thread nD τ).loc main_arg0)) (m ((c : Thread nD τ).loc main_arg1)) (m ((c : Thread nD τ).loc main_arg2)) (m ((c : Thread nD τ).loc main_arg4)) (z 1) ⟨6208 + (z 0).val, by have h0 : (z 0).val < 16 := (z 0).isLt; omega⟩ * Ideal.ofBits .f32 0x3D000000#32

/-- The array of the index weights the call leaves. -/
theorem final18 (c : Dev nD) : (dats m 0 c).arrAt 18 cfg0.N = F18 m c := by
  refine (dats m 0 c).arrAt_eq_of_covers 18 _ (by decide +kernel) fun t _ y => ?_
  have ht : t.val < 32 := lt_of_lt_of_eq t.isLt N_0
  have hw : win0_18.index t = ![0, t.val] := (idx t).2.2.2.2.2.2.2.2.2.2
  have e0 : (((View.whole main_v23_6).slice (win0_18.rect t)).emb y 0).val = win0_18.index t (0 : Fin 2) * 16 + 1 * (y 0).val := rfl
  have e1 : (((View.whole main_v23_6).slice (win0_18.rect t)).emb y 1).val = win0_18.index t (1 : Fin 2) * 512 + 1 * (y 1).val := rfl
  rw [hw] at e0 e1
  have f0 : (((View.whole main_v23_6).slice (win0_18.rect t)).emb y 0).val = 0 * 16 + (y 0).val := e0.trans (by show 0 * 16 + 1 * (y 0).val = 0 * 16 + (y 0).val; omega)
  have f1 : (((View.whole main_v23_6).slice (win0_18.rect t)).emb y 1).val = t.val * 512 + (y 1).val := e1.trans (by show t.val * 512 + 1 * (y 1).val = t.val * 512 + (y 1).val; omega)
  have y0 : (y 0).val < 16 := (y 0).isLt
  have y1 : (y 1).val < 512 := (y 1).isLt
  blk_simp
  rw [after0_18]
  unfold outsAt0
  dsimp only
  rw [o18]
  refine Ideal.mul_congr (prj_eq m c t _ _ _ _ (Fin.ext ?_) ?_) rfl
  · show (t.val * 512 + (y 1).val) % 16384 = (((View.whole main_v23_6).slice (win0_18.rect t)).emb y 1).val
    omega
  · show 6208 + (y 0).val = 6208 + (((View.whole main_v23_6).slice (win0_18.rect t)).emb y 0).val
    omega

end Cert.Kernel2Ideal.Proj
-- ==== Proof.ProjRef.lean ====
module

public import proofs.«01_k».proof.Proof.ProjResult
public import proofs.«01_k».proof.Proof.Gen.Reference2Ideal.Run
public import Idealize.ShloMosaic.Lib.Pipeline.ValueKit
public import Idealize.ShloMosaic.Lib.Pointwise
public import Idealize.ShloMosaic.Lib.Claim

@[expose] public section

set_option maxRecDepth 16384

noncomputable section

namespace Cert.Reference2Ideal.Proj

open Cert.Reference2Ideal Cert.Reference2Ideal.Gen Cert.Reference2Ideal.Value Idealize.ShloMosaic Idealize.ShloMosaic.TcCoe Idealize.SL.Sem
open Cert.Kernel2Ideal.Proj (bat pos hid pj gel lnv gate mixv gmix)

variable (V : Valuation τ sig (Elt Ideal))

/-- The reference's modulated stream. -/
def refH (X : FVec Ideal S4x4096x2048 .f32) (M : FVec Ideal S4x18432 .f32) (G : FVec Ideal S1x2048 .f32) : FVec Ideal S4x4096x2048 .f32 :=
  (addf (mulf (mulf (mulf X (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf X X) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x358637BD#32)))))) (broadcastInDim S4x4096x2048 ![0, 1, 2] bcast_S1x1x2048_S4x4096x2048_0_1_2 (broadcastInDim S1x1x2048 ![2] bcast_S2048_S1x1x2048_2 (shapeCast _ G shapeCasts_S1x2048_S2048)))) (broadcastInDim S4x4096x2048 ![0, 1, 2] bcast_S4x1x2048_S4x4096x2048_0_1_2 (addf (broadcastInDim S4x1x2048 ![] bcast_S_S4x1x2048 (constant S_ .f32 0x3F800000#32)) (broadcastInDim S4x1x2048 ![0, 2] bcast_S4x2048_S4x1x2048_0_2 (extractStridedSlice S4x2048 ![0, 8192] M slices_S4x18432_S4x2048_0_8192))))) (broadcastInDim S4x4096x2048 ![0, 1, 2] bcast_S4x1x2048_S4x4096x2048_0_1_2 (broadcastInDim S4x1x2048 ![0, 2] bcast_S4x2048_S4x1x2048_0_2 (extractStridedSlice S4x2048 ![0, 6144] M slices_S4x18432_S4x2048_0_6144))))

/-- The reference's modulated stream, entry by entry. -/
theorem refH_apply (X : FVec Ideal S4x4096x2048 .f32) (M : FVec Ideal S4x18432 .f32) (G : FVec Ideal S1x2048 .f32) (b : Fin 4) (s : Fin 4096) (d : Fin 2048) (R : Fin 16384) (hb : bat R = b) (hs : pos R = s) :
    refH X M G (ix3 b s d) = hid X M G R d := by
  unfold refH hid
  pointwise
  rw [hb, hs]

/-- The reference's projection of a stream. -/
def refP (H : FVec Ideal S4x4096x2048 .f32) (W : FVec Ideal S1x2048x6224 .f32) : FVec Ideal S4x4096x6224 .f32 :=
  Host.dotGeneral dot_S4x4096x2048_S2048x6224_S4x4096x6224_2_0_01_1_n_n none H (shapeCast _ W shapeCasts_S1x2048x6224_S2048x6224)

/-- The reference's projection of a stream, entry by entry. -/
theorem refP_apply (H : FVec Ideal S4x4096x2048 .f32) (W : FVec Ideal S1x2048x6224 .f32) (b : Fin 4) (s : Fin 4096) (n : Fin 6224) :
    refP H W (ix3 b s n) = ∑ k : Fin 2048, H (ix3 b s k) * W (ix3 0 k n) := by
  unfold refP
  pointwise

/-- The reference's projection, entry by entry. -/
theorem v25_apply (b : Fin 4) (s : Fin 4096) (n : Fin 6224) (R : Fin 16384) (hb : bat R = b) (hs : pos R = s) :
    (res_main_v25 V : FVec Ideal S4x4096x6224 .f32) (ix3 b s n)
      = pj (V (Proc.devRef .tc main_arg0)) (V (Proc.devRef .tc main_arg1)) (V (Proc.devRef .tc main_arg2)) (V (Proc.devRef .tc main_arg4)) R n := by
  have e : res_main_v25 V = refP (refH (V (Proc.devRef .tc main_arg0)) (V (Proc.devRef .tc main_arg1)) (V (Proc.devRef .tc main_arg2))) (V (Proc.devRef .tc main_arg4)) := rfl
  rw [e]
  refine (refP_apply _ _ b s n).trans ?_
  unfold pj
  exact Finset.sum_congr rfl fun k _ => Ideal.mul_congr (refH_apply _ _ _ b s k R hb hs) rfl

/-- The gate channels before the activation. -/
theorem v26_apply (b : Fin 4) (s : Fin 4096) (n : Fin 1024) :
    (res_main_v26 V : FVec Ideal S4x4096x1024 .f32) (ix3 b s n) = (res_main_v25 V : FVec Ideal S4x4096x6224 .f32) (ix3 b s ⟨n.val, by omega⟩) := by
  pointwise [res_main_v26]

/-- The value channels before the activation. -/
theorem v27_apply (b : Fin 4) (s : Fin 4096) (n : Fin 1024) :
    (res_main_v27 V : FVec Ideal S4x4096x1024 .f32) (ix3 b s n) = (res_main_v25 V : FVec Ideal S4x4096x6224 .f32) (ix3 b s ⟨1024 + n.val, by omega⟩) := by
  pointwise [res_main_v27]

/-- The value channels after the activation, by window and group. -/
theorem v56_apply (b : Fin 4) (w : Fin 32) (i : Fin 128) (g : Fin 8) (c : Fin 128) :
    (res_main_v56 V : FVec Ideal S4x32x128x8x128 .f32) (ix5 b w i g c) = gel ((res_main_v27 V : FVec Ideal S4x4096x1024 .f32) (ix3 b ⟨128 * w.val + i.val, by omega⟩ ⟨128 * g.val + c.val, by omega⟩)) := by
  pointwise [res_main_v56, gel]
  have e0 : ∀ h, (⟨w.val * 128 + i.val, h⟩ : Fin 4096) = ⟨128 * w.val + i.val, by omega⟩ := fun h => Fin.ext (by show w.val * 128 + i.val = 128 * w.val + i.val; omega)
  have e1 : ∀ h, (⟨g.val * 128 + c.val, h⟩ : Fin 1024) = ⟨128 * g.val + c.val, by omega⟩ := fun h => Fin.ext (by show g.val * 128 + c.val = 128 * g.val + c.val; omega)
  simp only [e0, e1]
  rw [mul_assoc (show EReal from (res_main_v27 V : FVec Ideal S4x4096x1024 .f32) _)]

/-- A row's mean over a group. -/
theorem v62_apply (b : Fin 4) (w : Fin 32) (i : Fin 128) (g : Fin 8) :
    (res_main_v62 V : FVec Ideal S4x32x128x8x1 .f32) (ix5 b w i g 0) = Ideal.div (∑ k : Fin 128, (res_main_v56 V : FVec Ideal S4x32x128x8x128 .f32) (ix5 b w i g k)) (Ideal.ofBits .f32 0x43000000#32) := by
  pointwise [res_main_v62]

/-- The centred values. -/
theorem v64_apply (b : Fin 4) (w : Fin 32) (i : Fin 128) (g : Fin 8) (c : Fin 128) :
    (res_main_v64 V : FVec Ideal S4x32x128x8x128 .f32) (ix5 b w i g c) = (show EReal from (res_main_v56 V : FVec Ideal S4x32x128x8x128 .f32) (ix5 b w i g c)) - (show EReal from (res_main_v62 V : FVec Ideal S4x32x128x8x1 .f32) (ix5 b w i g 0)) := by
  pointwise [res_main_v64]

/-- The spatial weights with the later chunks of the window left out. -/
def refW (WS : FVec Ideal S1x8x128x128 .f32) : FVec Ideal S8x128x128 .f32 :=
  (select (broadcastInDim S8x128x128 ![0, 1, 2] bcast_S1x128x128_S8x128x128_0_1_2 (broadcastInDim S1x128x128 ![1, 2] bcast_S128x128_S1x128x128_1_2 (cmpi .sle (broadcastInDim S128x128 ![0, 1] bcast_S1x128_S128x128_0_1 (select (andi (cmpi .ne (signi (res_main_v81 V)) (broadcastInDim S1x128 ![] bcast_S_S1x128 (signi (res_main_call0_v0 V)))) (cmpi .ne (Host.remsi (res_main_v81 V) (broadcastInDim S1x128 ![] bcast_S_S1x128 (res_main_call0_v0 V))) (broadcastInDim S1x128 ![] bcast_S_S1x128 (constantI S_ 32 0#32)))) (subi (res_main_call0_v2 V) (broadcastInDim S1x128 ![] bcast_S_S1x128 (constantI S_ 32 1#32))) (res_main_call0_v2 V))) (broadcastInDim S128x128 ![0, 1] bcast_S128x1_S128x128_0_1 (select (andi (cmpi .ne (signi (res_main_v83 V)) (broadcastInDim S128x1 ![] bcast_S_S128x1 (signi (res_main_call1_v0 V)))) (cmpi .ne (Host.remsi (res_main_v83 V) (broadcastInDim S128x1 ![] bcast_S_S128x1 (res_main_call1_v0 V))) (broadcastInDim S128x1 ![] bcast_S_S128x1 (constantI S_ 32 0#32)))) (subi (res_main_call1_v2 V) (broadcastInDim S128x1 ![] bcast_S_S128x1 (constantI S_ 32 1#32))) (res_main_call1_v2 V)))))) (shapeCast _ WS shapeCasts_S1x8x128x128_S8x128x128) (broadcastInDim S8x128x128 ![] bcast_S_S8x128x128 (id (constant S_ .f32 0x00000000#32))))

/-- A place's chunk, as the reference computes it. -/
theorem chunk : ∀ i : Fin 128, Scalar.select
    (IntOp.andi (IntOp.cmpi CmpIPredicate.ne (if BitVec.ofNat 32 i.val = 0 then (0 : BitVec 32) else if (BitVec.ofNat 32 i.val).msb = true then -1 else 1)
        (if (64#32 : BitVec 32) = 0 then 0 else if BitVec.msb 64#32 = true then -1 else 1))
      (IntOp.cmpi CmpIPredicate.ne (IntOp.remsi ArithUnit.host (BitVec.ofNat 32 i.val) 64#32) 0#32))
    (IntOp.subi (IntOp.divsi ArithUnit.host (BitVec.ofNat 32 i.val) 64#32) 1#32) (IntOp.divsi ArithUnit.host (BitVec.ofNat 32 i.val) 64#32) = BitVec.ofNat 32 (i.val / 64) := by
  decide +kernel

/-- Comparing two chunks. -/
theorem chunk_le : ∀ i j : Fin 128, IntOp.cmpi CmpIPredicate.sle (BitVec.ofNat 32 (j.val / 64)) (BitVec.ofNat 32 (i.val / 64)) = if j.val / 64 ≤ i.val / 64 then 1#1 else 0#1 := by
  decide +kernel

/-- The masked spatial weights, entry by entry. -/
theorem refW_apply (WS : FVec Ideal S1x8x128x128 .f32) (g : Fin 8) (i j : Fin 128) :
    refW V WS (ix3 g i j) = if j.val / 64 ≤ i.val / 64 then WS (ix4 0 g i j) else 0 := by
  unfold refW
  pointwise [res_main_v81, res_main_v83, res_main_v80, res_main_call0_v0, res_main_call0_v2, res_main_call1_v0, res_main_call1_v2]
  rw [show (id (constantI S_ 32 64#32) : IVec S_ 32) ix0 = 64#32 from rfl, chunk i, chunk j, chunk_le i j]
  split
  · rfl
  · show Ideal.ofBits .f32 0x00000000#32 = 0
    exact Ideal.ofBits_zero_f32

/-- The reference's normalised values. -/
def refL (v56 v64 : FVec Ideal S4x32x128x8x128 .f32) (v62 : FVec Ideal S4x32x128x8x1 .f32) (VG : FVec Ideal S1x1024 .f32) : FVec Ideal S4x32x128x8x128 .f32 :=
  (mulf (mulf (subf v56 (broadcastInDim S4x32x128x8x128 ![0, 1, 2, 3, 4] bcast_S4x32x128x8x1_S4x32x128x8x128_0_1_2_3_4 v62)) (broadcastInDim S4x32x128x8x128 ![0, 1, 2, 3, 4] bcast_S4x32x128x8x1_S4x32x128x8x128_0_1_2_3_4 (Host.rsqrt (addf (Host.divf (broadcastInDim S4x32x128x8x1 ![0, 1, 2, 3] bcast_S4x32x128x8_S4x32x128x8x1_0_1_2_3 (Host.reduceAdd (mulf v64 v64) (constant S_ .f32 0x00000000#32) reducesTo_S4x32x128x8x128_S4x32x128x8_d4 h_S_)) (broadcastInDim S4x32x128x8x1 ![] bcast_S_S4x32x128x8x1 (constant S_ .f32 0x43000000#32))) (broadcastInDim S4x32x128x8x1 ![] bcast_S_S4x32x128x8x1 (constant S_ .f32 0x358637BD#32)))))) (broadcastInDim S4x32x128x8x128 ![0, 1, 2, 3, 4] bcast_S1x1x1x8x128_S4x32x128x8x128_0_1_2_3_4 (broadcastInDim S1x1x1x8x128 ![3, 4] bcast_S8x128_S1x1x1x8x128_3_4 (shapeCast _ (shapeCast _ VG shapeCasts_S1x1024_S1024) shapeCasts_S1024_S8x128))))

/-- The reference's normalised values, entry by entry. -/
theorem refL_apply (v56 v64 : FVec Ideal S4x32x128x8x128 .f32) (v62 : FVec Ideal S4x32x128x8x1 .f32) (VG : FVec Ideal S1x1024 .f32) (b : Fin 4) (w : Fin 32) (i : Fin 128) (g : Fin 8) (c : Fin 128)
    (h62 : v62 (ix5 b w i g 0) = Ideal.div (∑ k : Fin 128, v56 (ix5 b w i g k)) (Ideal.ofBits .f32 0x43000000#32))
    (h64 : ∀ c : Fin 128, v64 (ix5 b w i g c) = v56 (ix5 b w i g c) - v62 (ix5 b w i g 0)) :
    refL v56 v64 v62 VG (ix5 b w i g c) = lnv (fun c => v56 (ix5 b w i g c)) (fun c => VG (ix2 0 ⟨128 * g.val + c.val, by omega⟩)) c := by
  unfold refL lnv
  pointwise
  have e1 : ∀ h, (⟨g.val * 128 + c.val, h⟩ : Fin 1024) = ⟨128 * g.val + c.val, by omega⟩ := fun h => Fin.ext (by show g.val * 128 + c.val = 128 * g.val + c.val; omega)
  simp only [h64, h62, e1]

/-- The reference's gated mix before its normalisation. -/
def refG (U : FVec Ideal S4x4096x1024 .f32) (L : FVec Ideal S4x32x128x8x128 .f32) (W : FVec Ideal S8x128x128 .f32) (B : FVec Ideal S1x8x128 .f32) : FVec Ideal S4x4096x8x128 .f32 :=
  shapeCast _ (mulf (mulf U (mulf (broadcastInDim S4x4096x1024 ![] bcast_S_S4x4096x1024 (constant S_ .f32 0x3F000000#32)) (addf (broadcastInDim S4x4096x1024 ![] bcast_S_S4x4096x1024 (constant S_ .f32 0x3F800000#32)) (Host.tanh (mulf (broadcastInDim S4x4096x1024 ![] bcast_S_S4x4096x1024 (constant S_ .f32 0x3F4C422A#32)) (addf U (mulf (broadcastInDim S4x4096x1024 ![] bcast_S_S4x4096x1024 (constant S_ .f32 0x3D372713#32)) (mulf (mulf U U) U)))))))) (shapeCast _ (addf (transpose S4x32x128x8x128 [1, 2, 4, 0, 3] (Host.dotGeneral dot_S4x32x128x8x128_S8x128x128_S8x4x32x128x128_2_2_014_1_3_0 none L W) transposes_S8x4x32x128x128_S4x32x128x8x128_1_2_4_0_3) (broadcastInDim S4x32x128x8x128 ![0, 1, 2, 3, 4] bcast_S1x1x128x8x1_S4x32x128x8x128_0_1_2_3_4 (broadcastInDim S1x1x128x8x1 ![2, 3] bcast_S128x8_S1x1x128x8x1_2_3 (transpose S128x8 [1, 0] (shapeCast _ B shapeCasts_S1x8x128_S8x128) transposes_S8x128_S128x8_1_0)))) shapeCasts_S4x32x128x8x128_S4x4096x1024)) shapeCasts_S4x4096x1024_S4x4096x8x128

/-- The reference's gated mix is these parts put together. -/
theorem v100_eq : res_main_v100 V = refG (res_main_v26 V) (refL (res_main_v56 V) (res_main_v64 V) (res_main_v62 V) (V (Proc.devRef .tc main_arg5))) (refW V (V (Proc.devRef .tc main_arg6))) (V (Proc.devRef .tc main_arg7)) := rfl

/-- The reference's gated mix before its normalisation, entry by entry. -/
theorem refG_apply (U : FVec Ideal S4x4096x1024 .f32) (L : FVec Ideal S4x32x128x8x128 .f32) (W : FVec Ideal S8x128x128 .f32) (B : FVec Ideal S1x8x128 .f32) (b : Fin 4) (s : Fin 4096) (g : Fin 8) (c : Fin 128) :
    refG U L W B (ix4 b s g c) = gel (U (ix3 b s ⟨128 * g.val + c.val, by omega⟩))
      * (∑ j : Fin 128, L (ix5 b ⟨s.val / 128, by omega⟩ j g c) * W (ix3 g ⟨s.val % 128, by omega⟩ j) + B (ix3 0 g ⟨s.val % 128, by omega⟩)) := by
  unfold refG gel
  pointwise
  have e1 : ∀ h, (⟨g.val * 128 + c.val, h⟩ : Fin 1024) = ⟨128 * g.val + c.val, by omega⟩ := fun h => Fin.ext (by show g.val * 128 + c.val = 128 * g.val + c.val; omega)
  simp only [e1]
  rw [mul_assoc (U _) (U _) (U _)]

/-- The reference's first result of the gated mix. -/
def refA (Y : FVec Ideal S4x4096x8x128 .f32) (OG : FVec Ideal S1x2048 .f32) : FVec Ideal S16384x1024 .bf16 :=
  truncf .bf16 (shapeCast _ (mulf (mulf Y (broadcastInDim S4x4096x8x128 ![0, 1, 2, 3] bcast_S4x4096x8x1_S4x4096x8x128_0_1_2_3 (Host.rsqrt (addf (Host.divf (broadcastInDim S4x4096x8x1 ![0, 1, 2] bcast_S4x4096x8_S4x4096x8x1_0_1_2 (Host.reduceAdd (mulf Y Y) (constant S_ .f32 0x00000000#32) reducesTo_S4x4096x8x128_S4x4096x8_d3 h_S_)) (broadcastInDim S4x4096x8x1 ![] bcast_S_S4x4096x8x1 (constant S_ .f32 0x43000000#32))) (broadcastInDim S4x4096x8x1 ![] bcast_S_S4x4096x8x1 (constant S_ .f32 0x358637BD#32)))))) (broadcastInDim S4x4096x8x128 ![0, 1, 2, 3] bcast_S1x1x8x128_S4x4096x8x128_0_1_2_3 (broadcastInDim S1x1x8x128 ![2, 3] bcast_S8x128_S1x1x8x128_2_3 (extractStridedSlice S8x128 ![0, 0] (shapeCast _ (shapeCast _ OG shapeCasts_S1x2048_S2048) shapeCasts_S2048_S16x128) slices_S16x128_S8x128_0_0)))) shapeCasts_S4x4096x8x128_S16384x1024) bitsLt_bf16_f32

/-- The reference's first result, entry by entry. -/
theorem refA_apply (Y : FVec Ideal S4x4096x8x128 .f32) (OG : FVec Ideal S1x2048 .f32) (R : Fin 16384) (n : Fin 1024) :
    refA Y OG (ix2 R n) = Y (ix4 (bat R) (pos R) ⟨n.val / 128, by omega⟩ ⟨n.val % 128, by omega⟩)
      * Ideal.rsqrt (Ideal.div (∑ k : Fin 128, Y (ix4 (bat R) (pos R) ⟨n.val / 128, by omega⟩ k) * Y (ix4 (bat R) (pos R) ⟨n.val / 128, by omega⟩ k)) (Ideal.ofBits .f32 0x43000000#32) + Ideal.ofBits .f32 0x358637BD#32)
      * OG (ix2 0 ⟨128 * (n.val / 128) + n.val % 128, by omega⟩) := by
  unfold refA bat pos
  pointwise
  have e1 : ∀ h, (⟨n.val / 128 * 128 + n.val % 128, h⟩ : Fin 2048) = ⟨128 * (n.val / 128) + n.val % 128, by omega⟩ := fun h => Fin.ext (by show n.val / 128 * 128 + n.val % 128 = 128 * (n.val / 128) + n.val % 128; omega)
  simp only [e1]

/-- The gated mix before its normalisation, entry by entry, is the gate of the row's window. -/
theorem mix_apply (R : Fin 16384) (g : Fin 8) (c : Fin 128) :
    (res_main_v100 V : FVec Ideal S4x4096x8x128 .f32) (ix4 (bat R) (pos R) g c)
      = gate (fun c => gel (pj (V (Proc.devRef .tc main_arg0)) (V (Proc.devRef .tc main_arg1)) (V (Proc.devRef .tc main_arg2)) (V (Proc.devRef .tc main_arg4)) ⟨128 * (R.val / 128) + R.val % 128, by omega⟩ ⟨128 * g.val + c.val, by omega⟩))
          (fun i c => gel (pj (V (Proc.devRef .tc main_arg0)) (V (Proc.devRef .tc main_arg1)) (V (Proc.devRef .tc main_arg2)) (V (Proc.devRef .tc main_arg4)) ⟨128 * (R.val / 128) + i.val, by omega⟩ ⟨1024 + (128 * g.val + c.val), by omega⟩))
          (fun i j => (V (Proc.devRef .tc main_arg6) : FVec Ideal S1x8x128x128 .f32) (ix4 0 g i j)) (fun i c => (V (Proc.devRef .tc main_arg7) : FVec Ideal S1x8x128 .f32) (ix3 0 g i))
          (fun c => (V (Proc.devRef .tc main_arg5) : FVec Ideal S1x1024 .f32) (ix2 0 ⟨128 * g.val + c.val, by omega⟩)) ⟨R.val % 128, by omega⟩ c := by
  rw [v100_eq]
  refine (refG_apply _ _ _ _ _ _ g c).trans ?_
  have hp : (pos R).val = R.val % 4096 := rfl
  unfold gate
  refine Ideal.mul_congr (congrArg gel ((v26_apply V _ _ _).trans (v25_apply V _ _ _ _ (Fin.ext ?_) (Fin.ext ?_)))) (Ideal.add_congr (Finset.sum_congr rfl fun j _ => ?_) ?_)
  · show (128 * (R.val / 128) + R.val % 128) / 4096 = R.val / 4096
    omega
  · show (128 * (R.val / 128) + R.val % 128) % 4096 = R.val % 4096
    omega
  · have hv : ∀ c : Fin 128, (res_main_v56 V : FVec Ideal S4x32x128x8x128 .f32) (ix5 (bat R) ⟨(pos R).val / 128, by omega⟩ j g c)
        = gel (pj (V (Proc.devRef .tc main_arg0)) (V (Proc.devRef .tc main_arg1)) (V (Proc.devRef .tc main_arg2)) (V (Proc.devRef .tc main_arg4)) ⟨128 * (R.val / 128) + j.val, by omega⟩ ⟨1024 + (128 * g.val + c.val), by omega⟩) := fun c =>
      (v56_apply V _ _ _ _ _).trans (congrArg gel ((v27_apply V _ _ _).trans (v25_apply V _ _ _ _
        (Fin.ext (by show (128 * (R.val / 128) + j.val) / 4096 = R.val / 4096; omega))
        (Fin.ext (by show (128 * (R.val / 128) + j.val) % 4096 = 128 * (R.val % 4096 / 128) + j.val; omega)))))
    refine (Ideal.mul_congr ((refL_apply _ _ _ _ _ _ _ _ _ (v62_apply V _ _ _ _) (fun c => v64_apply V _ _ _ _ c)).trans (congrFun (congrFun (congrArg lnv (funext hv)) _) c)) (refW_apply V _ g _ j)).trans ?_
    have hi : (⟨(pos R).val % 128, by omega⟩ : Fin 128) = ⟨R.val % 128, by omega⟩ := Fin.ext (by show R.val % 4096 % 128 = R.val % 128; omega)
    simp only [hi]
    have hq : (pos R).val % 128 = R.val % 128 := by omega
    by_cases h : j.val / 64 ≤ R.val % 128 / 64
    · have h' : j.val / 64 ≤ (pos R).val % 128 / 64 := hq ▸ h
      rw [if_pos h, if_pos h']
      exact mul_comm (_ : EReal) _
    · have h' : ¬ j.val / 64 ≤ (pos R).val % 128 / 64 := hq ▸ h
      rw [if_neg h, if_neg h']
      exact mul_zero (_ : EReal)
  · refine congrArg (fun i => (V (Proc.devRef .tc main_arg7) : FVec Ideal S1x8x128 .f32) (ix3 0 g i)) (Fin.ext ?_)
    show R.val % 4096 % 128 = R.val % 128
    omega

/-- The reference's first result, entry by entry, is the gated mix. -/
theorem ga_apply (R : Fin 16384) (n : Fin 1024) :
    refA (res_main_v100 V) (V (Proc.devRef .tc main_arg8)) (ix2 R n)
      = gmix (V (Proc.devRef .tc main_arg0)) (V (Proc.devRef .tc main_arg1)) (V (Proc.devRef .tc main_arg2)) (V (Proc.devRef .tc main_arg4)) (V (Proc.devRef .tc main_arg5)) (V (Proc.devRef .tc main_arg6)) (V (Proc.devRef .tc main_arg7)) (V (Proc.devRef .tc main_arg8)) R n := by
  refine (refA_apply _ _ R n).trans ?_
  unfold gmix mixv
  refine Ideal.mul_congr (Ideal.mul_congr (mix_apply V R _ _) (congrArg Ideal.rsqrt (Ideal.add_congr (congrArg₂ Ideal.div (Finset.sum_congr rfl fun k _ => Ideal.mul_congr (mix_apply V R _ k) (mix_apply V R _ k)) rfl) rfl))) rfl

/-- The reference's transposed values. -/
def refT (P : FVec Ideal S4x4096x6224 .f32) : FVec Ideal S64x1024x256 .bf16 :=
  truncf .bf16 (transpose S64x1024x256 [0, 2, 1] (shapeCast _ (extractStridedSlice S4x4096x1024 ![0, 0, 4096] P slices_S4x4096x6224_S4x4096x1024_0_0_4096) shapeCasts_S4x4096x1024_S64x256x1024) transposes_S64x256x1024_S64x1024x256_0_2_1) bitsLt_bf16_f32

/-- The reference's second result, entry by entry: the values' projection of the row, transposed. -/
theorem vt_apply (k : Fin 64) (d : Fin 1024) (j : Fin 256) :
    refT (res_main_v25 V) (ix3 k d j) = pj (V (Proc.devRef .tc main_arg0)) (V (Proc.devRef .tc main_arg1)) (V (Proc.devRef .tc main_arg2)) (V (Proc.devRef .tc main_arg4)) ⟨256 * k.val + j.val, by omega⟩ ⟨4096 + d.val, by omega⟩ := by
  unfold refT
  pointwise
  refine v25_apply V _ _ _ _ (Fin.ext ?_) (Fin.ext ?_)
  · show (256 * k.val + j.val) / 4096 = k.val / 16
    omega
  · show (256 * k.val + j.val) % 4096 = k.val % 16 * 256 + j.val
    omega

/-- The reference's scaled index weights. -/
def refI (P : FVec Ideal S4x4096x6224 .f32) : FVec Ideal S16x16384 .f32 :=
  transpose S16x16384 [1, 0] (shapeCast _ (mulf (extractStridedSlice S4x4096x16 ![0, 0, 6208] P slices_S4x4096x6224_S4x4096x16_0_0_6208) (broadcastInDim S4x4096x16 ![] bcast_S_S4x4096x16 (constant S_ .f32 0x3D000000#32))) shapeCasts_S4x4096x16_S16384x16) transposes_S16384x16_S16x16384_1_0

/-- The reference's third result, entry by entry: the index weights' projection of the row, scaled and transposed. -/
theorem wt_apply (h : Fin 16) (R : Fin 16384) :
    refI (res_main_v25 V) (ix2 h R) = pj (V (Proc.devRef .tc main_arg0)) (V (Proc.devRef .tc main_arg1)) (V (Proc.devRef .tc main_arg2)) (V (Proc.devRef .tc main_arg4)) R ⟨6208 + h.val, by omega⟩ * Ideal.ofBits .f32 0x3D000000#32 := by
  unfold refI
  pointwise
  exact Ideal.mul_congr (v25_apply V _ _ _ R rfl rfl) rfl

end Cert.Reference2Ideal.Proj
-- ==== Proof.RopeCols.lean ====
module

public import proofs.«01_k».proof.Proof.ProjCols

@[expose] public section

set_option maxRecDepth 16384

noncomputable section

namespace Cert.Kernel2Ideal.Proj

open Cert.Kernel2Ideal Cert.Kernel2Ideal.Gen Idealize.ShloMosaic Idealize.ShloMosaic.TcCoe Idealize.SL.Sem
open Idealize.ShloMosaic.Pipeline (Dat)

/-- A block of 128 lanes, rotated: the lanes times cosines, and the lanes `a` and `b` places away times two tables of signed sines. -/
def ropeV (a b : BitVec 32) (C A B x : FVec Ideal S512x128 .f32) : FVec Ideal S512x128 .f32 :=
  addf (addf (mulf x C) (mulf (dynamicRotate 1 a none x rotates_S512x128_d1) A)) (mulf (dynamicRotate 1 b none x rotates_S512x128_d1) B)

/-- An entry of a rotated block. -/
theorem ropeV_apply (a b : ℕ) (ha : a ≤ 128) (hb : b ≤ 128) (C A B x : FVec Ideal S512x128 .f32) (r : Fin 512) (l : Fin 128) :
    ropeV (BitVec.ofNat 32 a) (BitVec.ofNat 32 b) C A B x (ix2 r l)
      = x (ix2 r l) * C (ix2 r l) + x (ix2 r ⟨(l.val + 128 - a) % 128, Nat.mod_lt _ (by decide)⟩) * A (ix2 r l)
        + x (ix2 r ⟨(l.val + 128 - b) % 128, Nat.mod_lt _ (by decide)⟩) * B (ix2 r l) := by
  pointwise [ropeV]
  have e (n : ℕ) (hn : n ≤ 128) : ∀ h, (⟨(l.val + 128 - (BitVec.ofNat 32 n).toNat % 128) % 128, h⟩ : Fin 128) = ⟨(l.val + 128 - n) % 128, Nat.mod_lt _ (by decide)⟩ := fun h => Fin.ext (by
    have := l.isLt
    show (l.val + 128 - (BitVec.ofNat 32 n).toNat % 128) % 128 = (l.val + 128 - n) % 128
    rw [BitVec.toNat_ofNat]
    omega)
  rw [e a ha, e b hb]

/-- A block of 128 lanes, each row over its root mean square, times a gain. -/
def normV (x : FVec Ideal S512x128 .f32) (g : FVec Ideal S1x128 .f32) : FVec Ideal S512x128 .f32 :=
  mulf (mulf x (broadcastTo S512x128 (rsqrt (addf (divf (shapeCast S512x1 (multiReduction .add [1] S512 (mulf x x) 0x00000000#32 reduces_S512x128_S512 (.inl rfl) rfl) shapeCasts_S512_S512x1)
    (broadcast S512x1 (Scalar.ofBits .f32 0x43000000#32))) (broadcast S512x1 (Scalar.ofBits .f32 0x358637BD#32)))) broadcasts_S512x1_S512x128))
    (broadcastTo S512x128 (shapeCast S1x128 g shapeCasts_S1x128_S1x128) broadcasts_S1x128_S512x128)

/-- An entry of a normed block. -/
theorem normV_apply (x : FVec Ideal S512x128 .f32) (g : FVec Ideal S1x128 .f32) (r : Fin 512) (l : Fin 128) :
    normV x g (ix2 r l) = x (ix2 r l) * Ideal.rsqrt (Ideal.div (∑ k : Fin 128, x (ix2 r k) * x (ix2 r k)) (Ideal.ofBits .f32 0x43000000#32) + Ideal.ofBits .f32 0x358637BD#32) * g (ix2 0 l) := by
  pointwise [normV]

/-- A rotary rotation of the first `2 * half` channels of a head: position `p`, frequencies `w`, channels `x`. -/
def rop (half : ℕ) (w : ℕ → EReal) (p : EReal) (x : ℕ → EReal) (j : ℕ) : EReal :=
  if j < half then x j * Ideal.cos (p * w j) - x (j + half) * Ideal.sin (p * w j)
  else if j < 2 * half then x j * Ideal.cos (p * w (j - half)) + x (j - half) * Ideal.sin (p * w (j - half))
  else x j

/-- The rotation written with a mask of signs on the sines: where the masks are those of the place, it is the rotary rotation. -/
theorem rop_masked (half : ℕ) (w : ℕ → EReal) (v : BitVec 32) (x : ℕ → EReal) (j : ℕ) (T A B u u' : EReal)
    (h1 : j < half → T = w j ∧ A = 0 ∧ B = -1 ∧ u' = x (j + half))
    (h2 : half ≤ j → j < 2 * half → T = w (j - half) ∧ A = 1 ∧ B = 0 ∧ u = x (j - half))
    (h3 : 2 * half ≤ j → T = 0 ∧ A = 0 ∧ B = 0) :
    x j * Ideal.cos (FloatOps.sitofp (F := Ideal) .f32 v * T) + u * (Ideal.sin (FloatOps.sitofp (F := Ideal) .f32 v * T) * A) + u' * (Ideal.sin (FloatOps.sitofp (F := Ideal) .f32 v * T) * B)
      = rop half w (FloatOps.sitofp (F := Ideal) .f32 v) x j := by
  unfold rop
  by_cases a : j < half
  · obtain ⟨rfl, rfl, rfl, rfl⟩ := h1 a
    rw [if_pos a, mul_zero, mul_zero, add_zero, mul_neg_one, mul_neg, sub_eq_add_neg]
  · rw [if_neg a]
    by_cases b : j < 2 * half
    · obtain ⟨rfl, rfl, rfl, rfl⟩ := h2 (by omega) b
      rw [if_pos b, mul_zero, mul_zero, add_zero, mul_one]
    · obtain ⟨rfl, rfl, rfl⟩ := h3 (by omega)
      rw [if_neg b, mul_zero, mul_zero, mul_zero, mul_zero, add_zero, add_zero]
      show x j * Ideal.cos ((0 : ℝ) : EReal) = x j
      rw [Ideal.cos_coe, Real.cos_zero]
      exact mul_one _

/-- The table of the heads of 128 channels. -/
def tabB : FVec Ideal S8x128 .f32 := fun i => FloatOps.ofBits .f32 (lit0 (S8x128.rowMajor i))
/-- The table of the heads of 64 channels. -/
def tabI : FVec Ideal S8x128 .f32 := fun i => FloatOps.ofBits .f32 (lit1 (S8x128.rowMajor i))
/-- The frequencies of the heads of 128 channels. -/
def frB (j : ℕ) : EReal := tabB (ix2 0 ⟨j % 128, Nat.mod_lt _ (by decide)⟩)
/-- The frequencies of the heads of 64 channels. -/
def frI (j : ℕ) : EReal := tabI (ix2 0 ⟨j % 128, Nat.mod_lt _ (by decide)⟩)

/-- Row `a`, lane `l` of a table is its word `128 a + l`. -/
theorem tabB_apply (a : Fin 8) (l : Fin 128) : tabB (ix2 a l) = Ideal.ofBits .f32 (lit0 ⟨128 * a.val + l.val, by omega⟩) := by
  refine congrArg (fun q => Ideal.ofBits .f32 (lit0 q)) (Fin.ext ?_)
  rw [Shape.rowMajor_val_two]
  show a.val * 128 + l.val = 128 * a.val + l.val
  omega
/-- Row `a`, lane `l` of a table is its word `128 a + l`. -/
theorem tabI_apply (a : Fin 8) (l : Fin 128) : tabI (ix2 a l) = Ideal.ofBits .f32 (lit1 ⟨128 * a.val + l.val, by omega⟩) := by
  refine congrArg (fun q => Ideal.ofBits .f32 (lit1 q)) (Fin.ext ?_)
  rw [Shape.rowMajor_val_two]
  show a.val * 128 + l.val = 128 * a.val + l.val
  omega

/-- The words of the table of the heads of 128 channels: frequencies, and the two masks of signs. -/
theorem wordB : ∀ l : Fin 128,
    (l.val < 16 → lit0 ⟨l.val, by omega⟩ = lit0 ⟨l.val, by omega⟩ ∧ lit0 ⟨128 + l.val, by omega⟩ = 0x00000000#32 ∧ lit0 ⟨256 + l.val, by omega⟩ = 0xBF800000#32)
    ∧ (16 ≤ l.val → l.val < 32 → lit0 ⟨l.val, by omega⟩ = lit0 ⟨l.val - 16, by omega⟩ ∧ lit0 ⟨128 + l.val, by omega⟩ = 0x3F800000#32 ∧ lit0 ⟨256 + l.val, by omega⟩ = 0x00000000#32)
    ∧ (32 ≤ l.val → lit0 ⟨l.val, by omega⟩ = 0x00000000#32 ∧ lit0 ⟨128 + l.val, by omega⟩ = 0x00000000#32 ∧ lit0 ⟨256 + l.val, by omega⟩ = 0x00000000#32) := by
  decide +kernel

/-- The words of the table of the heads of 64 channels: frequencies, and the two masks of signs. -/
theorem wordI : ∀ l : Fin 128,
    (l.val % 64 < 8 → lit1 ⟨l.val, by omega⟩ = lit1 ⟨l.val % 64, by omega⟩ ∧ lit1 ⟨128 + l.val, by omega⟩ = 0x00000000#32 ∧ lit1 ⟨256 + l.val, by omega⟩ = 0xBF800000#32)
    ∧ (8 ≤ l.val % 64 → l.val % 64 < 16 → lit1 ⟨l.val, by omega⟩ = lit1 ⟨l.val % 64 - 8, by omega⟩ ∧ lit1 ⟨128 + l.val, by omega⟩ = 0x3F800000#32 ∧ lit1 ⟨256 + l.val, by omega⟩ = 0x00000000#32)
    ∧ (16 ≤ l.val % 64 → lit1 ⟨l.val, by omega⟩ = 0x00000000#32 ∧ lit1 ⟨128 + l.val, by omega⟩ = 0x00000000#32 ∧ lit1 ⟨256 + l.val, by omega⟩ = 0x00000000#32) := by
  decide +kernel

/-- The word of minus one. -/
theorem minus_one : Ideal.ofBits .f32 0xBF800000#32 = -1 := IdealRules.sign_bit.ideal_negOnePat .f32

/-- A row of a table, loaded. -/
theorem ld_row {n : ℕ} (T : Vec Ideal ⟨2, ![n, 128]⟩ .f32) (a : ℕ) (ha : a < n) (inb) (l : Fin 128) :
    View.ld T (Rect.unit (s := ⟨2, ![n, 128]⟩) ![a, 0] ![1, 128] inb) (ix2 0 l) = T (ix2 ⟨a, ha⟩ l) := by
  refine congrArg T ?_
  funext k
  apply Fin.ext
  match k with
  | ⟨0, _⟩ => show a + 1 * 0 = a; omega
  | ⟨1, _⟩ => show 0 + 1 * l.val = l.val; omega

/-- The positions of a row block, loaded. -/
theorem ld_pos (P : Vec Ideal S512x1 .i32) (inb) (r : Fin 512) :
    View.ld P (Rect.unit (s := S512x1) ![0, 0] ![512, 1] inb) (ix2 r 0) = P (ix2 r 0) := by
  refine congrArg P ?_
  funext k
  apply Fin.ext
  match k with
  | ⟨0, _⟩ => show 0 + 1 * r.val = r.val; omega
  | ⟨1, _⟩ => show 0 + 1 * 0 = 0; omega

/-- A block of one head of 128 lanes, rotated with the tables the body makes, is the rotary rotation of the head. -/
theorem ropeB_entry (P : Vec Ideal S512x1 .i32) (T : Vec Ideal S8x128 .f32) (hT : T = tabB) (ip i0 i1 i2) (x : FVec Ideal S512x128 .f32) (r : Fin 512) (l : Fin 128) :
    ropeV 16#32 112#32 (k0_pay44 (View.ld P (Rect.unit (s := S512x1) ![0, 0] ![512, 1] ip)) (View.ld T (Rect.unit (s := S8x128) ![0, 0] ![1, 128] i0)))
        (k0_pay46 (View.ld P (Rect.unit (s := S512x1) ![0, 0] ![512, 1] ip)) (View.ld T (Rect.unit (s := S8x128) ![0, 0] ![1, 128] i0)) (View.ld T (Rect.unit (s := S8x128) ![1, 0] ![1, 128] i1)))
        (k0_pay47 (View.ld P (Rect.unit (s := S512x1) ![0, 0] ![512, 1] ip)) (View.ld T (Rect.unit (s := S8x128) ![0, 0] ![1, 128] i0)) (View.ld T (Rect.unit (s := S8x128) ![2, 0] ![1, 128] i2))) x (ix2 r l)
      = rop 16 frB (FloatOps.sitofp (F := Ideal) .f32 (P (ix2 r 0))) (fun j => x (ix2 r ⟨j % 128, Nat.mod_lt _ (by decide)⟩)) l.val := by
  have hl := l.isLt
  obtain ⟨w1, w2, w3⟩ := wordB l
  have q0 : View.ld T (Rect.unit (s := S8x128) ![0, 0] ![1, 128] i0) (ix2 0 l) = T (ix2 0 l) := ld_row T 0 (by decide) i0 l
  have q1 : View.ld T (Rect.unit (s := S8x128) ![1, 0] ![1, 128] i1) (ix2 0 l) = T (ix2 1 l) := ld_row T 1 (by decide) i1 l
  have q2 : View.ld T (Rect.unit (s := S8x128) ![2, 0] ![1, 128] i2) (ix2 0 l) = T (ix2 2 l) := ld_row T 2 (by decide) i2 l
  have eC : k0_pay44 (View.ld P (Rect.unit (s := S512x1) ![0, 0] ![512, 1] ip)) (View.ld T (Rect.unit (s := S8x128) ![0, 0] ![1, 128] i0)) (ix2 r l) = Ideal.cos (FloatOps.sitofp (F := Ideal) .f32 (P (ix2 r 0)) * tabB (ix2 0 l)) := by
    rw [← hT, ← ld_pos P ip r, ← q0]
    pointwise [k0_pay44, k0_pay43]
  have eA : k0_pay46 (View.ld P (Rect.unit (s := S512x1) ![0, 0] ![512, 1] ip)) (View.ld T (Rect.unit (s := S8x128) ![0, 0] ![1, 128] i0)) (View.ld T (Rect.unit (s := S8x128) ![1, 0] ![1, 128] i1)) (ix2 r l) = Ideal.sin (FloatOps.sitofp (F := Ideal) .f32 (P (ix2 r 0)) * tabB (ix2 0 l)) * tabB (ix2 1 l) := by
    rw [← hT, ← ld_pos P ip r, ← q0, ← q1]
    pointwise [k0_pay46, k0_pay45, k0_pay43]
  have eB : k0_pay47 (View.ld P (Rect.unit (s := S512x1) ![0, 0] ![512, 1] ip)) (View.ld T (Rect.unit (s := S8x128) ![0, 0] ![1, 128] i0)) (View.ld T (Rect.unit (s := S8x128) ![2, 0] ![1, 128] i2)) (ix2 r l) = Ideal.sin (FloatOps.sitofp (F := Ideal) .f32 (P (ix2 r 0)) * tabB (ix2 0 l)) * tabB (ix2 2 l) := by
    rw [← hT, ← ld_pos P ip r, ← q0, ← q2]
    pointwise [k0_pay47, k0_pay45, k0_pay43]
  refine (ropeV_apply 16 112 (by decide) (by decide) _ _ _ x r l).trans ?_
  rw [eC, eA, eB]
  have ex : x (ix2 r l) = (fun j => x (ix2 r ⟨j % 128, Nat.mod_lt _ (by decide)⟩)) l.val := congrArg (fun q => x (ix2 r q)) (Fin.ext (by show l.val = l.val % 128; omega))
  rw [ex]
  refine rop_masked 16 frB (P (ix2 r 0)) (fun j => x (ix2 r ⟨j % 128, Nat.mod_lt _ (by decide)⟩)) l.val (tabB (ix2 0 l)) (tabB (ix2 1 l)) (tabB (ix2 2 l))
    (x (ix2 r ⟨(l.val + 128 - 16) % 128, Nat.mod_lt _ (by decide)⟩)) (x (ix2 r ⟨(l.val + 128 - 112) % 128, Nat.mod_lt _ (by decide)⟩)) (fun h => ⟨?_, ?_, ?_, ?_⟩) (fun h h' => ⟨?_, ?_, ?_, ?_⟩) (fun h => ⟨?_, ?_, ?_⟩)
  · exact congrArg (fun q => tabB (ix2 0 q)) (Fin.ext (by show l.val = l.val % 128; omega))
  · rw [tabB_apply]; exact (congrArg (Ideal.ofBits .f32) (w1 h).2.1).trans Ideal.ofBits_zero_f32
  · rw [tabB_apply]; exact (congrArg (Ideal.ofBits .f32) (w1 h).2.2).trans minus_one
  · exact congrArg (fun q => x (ix2 r q)) (Fin.ext (by show (l.val + 128 - 112) % 128 = (l.val + 16) % 128; omega))
  · unfold frB
    rw [tabB_apply, tabB_apply]
    refine congrArg (Ideal.ofBits .f32) (((congrArg lit0 (Fin.ext ?_)).trans (w2 h h').1).trans (congrArg lit0 (Fin.ext ?_)))
    · show 128 * 0 + l.val = l.val; omega
    · show l.val - 16 = 128 * 0 + (l.val - 16) % 128; omega
  · rw [tabB_apply]; exact (congrArg (Ideal.ofBits .f32) (w2 h h').2.1).trans Ideal.ofBits_one_f32
  · rw [tabB_apply]; exact (congrArg (Ideal.ofBits .f32) (w2 h h').2.2).trans Ideal.ofBits_zero_f32
  · exact congrArg (fun q => x (ix2 r q)) (Fin.ext (by show (l.val + 128 - 16) % 128 = (l.val - 16) % 128; omega))
  · rw [tabB_apply]
    refine (congrArg (Ideal.ofBits .f32) ((congrArg lit0 (Fin.ext ?_)).trans (w3 h).1)).trans Ideal.ofBits_zero_f32
    show 128 * 0 + l.val = l.val; omega
  · rw [tabB_apply]; exact (congrArg (Ideal.ofBits .f32) (w3 h).2.1).trans Ideal.ofBits_zero_f32
  · rw [tabB_apply]; exact (congrArg (Ideal.ofBits .f32) (w3 h).2.2).trans Ideal.ofBits_zero_f32

/-- A block of two heads of 64 lanes, rotated with the tables the body makes, is the rotary rotation of each head. -/
theorem ropeI_entry (P : Vec Ideal S512x1 .i32) (T : Vec Ideal S8x128 .f32) (hT : T = tabI) (ip i0 i1 i2) (x : FVec Ideal S512x128 .f32) (r : Fin 512) (l : Fin 128) :
    ropeV 8#32 120#32 (k0_pay4 (View.ld P (Rect.unit (s := S512x1) ![0, 0] ![512, 1] ip)) (View.ld T (Rect.unit (s := S8x128) ![0, 0] ![1, 128] i0)))
        (k0_pay6 (k0_pay3 (View.ld P (Rect.unit (s := S512x1) ![0, 0] ![512, 1] ip)) (View.ld T (Rect.unit (s := S8x128) ![0, 0] ![1, 128] i0))) (View.ld T (Rect.unit (s := S8x128) ![1, 0] ![1, 128] i1)))
        (k0_pay7 (k0_pay3 (View.ld P (Rect.unit (s := S512x1) ![0, 0] ![512, 1] ip)) (View.ld T (Rect.unit (s := S8x128) ![0, 0] ![1, 128] i0))) (View.ld T (Rect.unit (s := S8x128) ![2, 0] ![1, 128] i2))) x (ix2 r l)
      = rop 8 frI (FloatOps.sitofp (F := Ideal) .f32 (P (ix2 r 0))) (fun j => x (ix2 r ⟨(64 * (l.val / 64) + j) % 128, Nat.mod_lt _ (by decide)⟩)) (l.val % 64) := by
  have hl := l.isLt
  obtain ⟨w1, w2, w3⟩ := wordI l
  have q0 : View.ld T (Rect.unit (s := S8x128) ![0, 0] ![1, 128] i0) (ix2 0 l) = T (ix2 0 l) := ld_row T 0 (by decide) i0 l
  have q1 : View.ld T (Rect.unit (s := S8x128) ![1, 0] ![1, 128] i1) (ix2 0 l) = T (ix2 1 l) := ld_row T 1 (by decide) i1 l
  have q2 : View.ld T (Rect.unit (s := S8x128) ![2, 0] ![1, 128] i2) (ix2 0 l) = T (ix2 2 l) := ld_row T 2 (by decide) i2 l
  have eC : k0_pay4 (View.ld P (Rect.unit (s := S512x1) ![0, 0] ![512, 1] ip)) (View.ld T (Rect.unit (s := S8x128) ![0, 0] ![1, 128] i0)) (ix2 r l) = Ideal.cos (FloatOps.sitofp (F := Ideal) .f32 (P (ix2 r 0)) * tabI (ix2 0 l)) := by
    rw [← hT, ← ld_pos P ip r, ← q0]
    pointwise [k0_pay4, k0_pay3]
  have eA : k0_pay6 (k0_pay3 (View.ld P (Rect.unit (s := S512x1) ![0, 0] ![512, 1] ip)) (View.ld T (Rect.unit (s := S8x128) ![0, 0] ![1, 128] i0))) (View.ld T (Rect.unit (s := S8x128) ![1, 0] ![1, 128] i1)) (ix2 r l) = Ideal.sin (FloatOps.sitofp (F := Ideal) .f32 (P (ix2 r 0)) * tabI (ix2 0 l)) * tabI (ix2 1 l) := by
    rw [← hT, ← ld_pos P ip r, ← q0, ← q1]
    pointwise [k0_pay6, k0_pay5, k0_pay3]
  have eB : k0_pay7 (k0_pay3 (View.ld P (Rect.unit (s := S512x1) ![0, 0] ![512, 1] ip)) (View.ld T (Rect.unit (s := S8x128) ![0, 0] ![1, 128] i0))) (View.ld T (Rect.unit (s := S8x128) ![2, 0] ![1, 128] i2)) (ix2 r l) = Ideal.sin (FloatOps.sitofp (F := Ideal) .f32 (P (ix2 r 0)) * tabI (ix2 0 l)) * tabI (ix2 2 l) := by
    rw [← hT, ← ld_pos P ip r, ← q0, ← q2]
    pointwise [k0_pay7, k0_pay5, k0_pay3]
  refine (ropeV_apply 8 120 (by decide) (by decide) _ _ _ x r l).trans ?_
  rw [eC, eA, eB]
  have ex : x (ix2 r l) = (fun j => x (ix2 r ⟨(64 * (l.val / 64) + j) % 128, Nat.mod_lt _ (by decide)⟩)) (l.val % 64) := congrArg (fun q => x (ix2 r q)) (Fin.ext (by show l.val = (64 * (l.val / 64) + l.val % 64) % 128; omega))
  rw [ex]
  refine rop_masked 8 frI (P (ix2 r 0)) (fun j => x (ix2 r ⟨(64 * (l.val / 64) + j) % 128, Nat.mod_lt _ (by decide)⟩)) (l.val % 64) (tabI (ix2 0 l)) (tabI (ix2 1 l)) (tabI (ix2 2 l))
    (x (ix2 r ⟨(l.val + 128 - 8) % 128, Nat.mod_lt _ (by decide)⟩)) (x (ix2 r ⟨(l.val + 128 - 120) % 128, Nat.mod_lt _ (by decide)⟩)) (fun h => ⟨?_, ?_, ?_, ?_⟩) (fun h h' => ⟨?_, ?_, ?_, ?_⟩) (fun h => ⟨?_, ?_, ?_⟩)
  · unfold frI
    rw [tabI_apply, tabI_apply]
    refine congrArg (Ideal.ofBits .f32) (((congrArg lit1 (Fin.ext ?_)).trans (w1 h).1).trans (congrArg lit1 (Fin.ext ?_)))
    · show 128 * 0 + l.val = l.val; omega
    · show l.val % 64 = 128 * 0 + l.val % 64 % 128; omega
  · rw [tabI_apply]; exact (congrArg (Ideal.ofBits .f32) (w1 h).2.1).trans Ideal.ofBits_zero_f32
  · rw [tabI_apply]; exact (congrArg (Ideal.ofBits .f32) (w1 h).2.2).trans minus_one
  · exact congrArg (fun q => x (ix2 r q)) (Fin.ext (by show (l.val + 128 - 120) % 128 = (64 * (l.val / 64) + (l.val % 64 + 8)) % 128; omega))
  · unfold frI
    rw [tabI_apply, tabI_apply]
    refine congrArg (Ideal.ofBits .f32) (((congrArg lit1 (Fin.ext ?_)).trans (w2 h h').1).trans (congrArg lit1 (Fin.ext ?_)))
    · show 128 * 0 + l.val = l.val; omega
    · show l.val % 64 - 8 = 128 * 0 + (l.val % 64 - 8) % 128; omega
  · rw [tabI_apply]; exact (congrArg (Ideal.ofBits .f32) (w2 h h').2.1).trans Ideal.ofBits_one_f32
  · rw [tabI_apply]; exact (congrArg (Ideal.ofBits .f32) (w2 h h').2.2).trans Ideal.ofBits_zero_f32
  · exact congrArg (fun q => x (ix2 r q)) (Fin.ext (by show (l.val + 128 - 8) % 128 = (64 * (l.val / 64) + (l.val % 64 - 8)) % 128; omega))
  · rw [tabI_apply]
    refine (congrArg (Ideal.ofBits .f32) ((congrArg lit1 (Fin.ext ?_)).trans (w3 h).1)).trans Ideal.ofBits_zero_f32
    show 128 * 0 + l.val = l.val; omega
  · rw [tabI_apply]; exact (congrArg (Ideal.ofBits .f32) (w3 h).2.1).trans Ideal.ofBits_zero_f32
  · rw [tabI_apply]; exact (congrArg (Ideal.ofBits .f32) (w3 h).2.2).trans Ideal.ofBits_zero_f32

end Cert.Kernel2Ideal.Proj
-- ==== Proof.RopePieces.lean ====
module

public import proofs.«01_k».proof.Proof.RopeCols

@[expose] public section

set_option maxRecDepth 16384

noncomputable section

namespace Cert.Kernel2Ideal.Proj

open Cert.Kernel2Ideal Cert.Kernel2Ideal.Gen Idealize.ShloMosaic Idealize.ShloMosaic.TcCoe Idealize.SL.Sem
open Idealize.ShloMosaic.Pipeline (Dat)

/-- The rotation of a channel reads only the channels of its head. -/
theorem rop_congr {half : ℕ} {w : ℕ → EReal} {p : EReal} {x x' : ℕ → EReal} {j : ℕ} (D : ℕ) (hD : 2 * half ≤ D) (hj : j < D) (h : ∀ i < D, x i = x' i) :
    rop half w p x j = rop half w p x' j := by
  unfold rop
  split
  · rw [h j hj, h (j + half) (by omega)]
  · split
    · rw [h j hj, h (j - half) (by omega)]
    · rw [h j hj]

/-- Column `n` of the projection of a row block. -/
def col (H : FVec Ideal S512x2048 .bf16) (W : FVec Ideal S2048x6400 .bf16) (r : Fin 512) (n : ℕ) : EReal := prj H W r ⟨n % 6400, Nat.mod_lt _ (by decide)⟩

/-- A head of 128 channels over its root mean square, times a gain. -/
def nrm (x g : Fin 128 → EReal) (l : Fin 128) : EReal :=
  x l * Ideal.rsqrt (Ideal.div (∑ k : Fin 128, x k * x k) (Ideal.ofBits .f32 0x43000000#32) + Ideal.ofBits .f32 0x358637BD#32) * g l

/-- The keys of one row block: each head normed and rotated. -/
def kv (H : FVec Ideal S512x2048 .bf16) (W : FVec Ideal S2048x6400 .bf16) (P : Vec Ideal S512x1 .i32) (g : Vec Ideal S2x128 .f32) (z : S512x1024.Idx) : EReal :=
  rop 16 frB (FloatOps.sitofp (F := Ideal) .f32 (P (ix2 (z 0) 0))) (fun j => nrm (fun k => col H W (z 0) (3072 + 128 * ((z 1).val / 128) + k.val)) (fun k => g (ix2 1 k)) ⟨j % 128, Nat.mod_lt _ (by decide)⟩) ((z 1).val % 128)

/-- The transposed index queries of one row block: each head rotated, channel by row. -/
def qv (H : FVec Ideal S512x2048 .bf16) (W : FVec Ideal S2048x6400 .bf16) (P : Vec Ideal S512x1 .i32) (z : S16x64x512.Idx) : EReal :=
  rop 8 frI (FloatOps.sitofp (F := Ideal) .f32 (P (ix2 (z 2) 0))) (fun j => col H W (z 2) (5120 + 64 * (z 0).val + j)) (z 1).val

/-- The index keys of one row block: one head, rotated. -/
def iv (H : FVec Ideal S512x2048 .bf16) (W : FVec Ideal S2048x6400 .bf16) (P : Vec Ideal S512x1 .i32) (z : S512x64.Idx) : EReal :=
  rop 8 frI (FloatOps.sitofp (F := Ideal) .f32 (P (ix2 (z 0) 0))) (fun j => col H W (z 0) (6144 + j)) (z 1).val

/-- A block of 512 projected columns, entry by entry. -/
theorem mm_apply (H : FVec Ideal S512x2048 .bf16) (W : FVec Ideal S2048x6400 .bf16) (n : ℕ) (h : n + 512 ≤ 6400) (r : Fin 512) (q : Fin 512) :
    k0_pay67 H (wcol W n 512 h) (ix2 r q) = col H W r (n + q.val) := by
  pointwise [k0_pay67, wcol, col, prj]
  have e : ∀ h', (⟨n + q.val, h'⟩ : Fin 6400) = ⟨(n + q.val) % 6400, Nat.mod_lt _ (by decide)⟩ := fun h' => Fin.ext (by show n + q.val = (n + q.val) % 6400; omega)
  simp only [e]

/-- The lanes of one head among 512 projected columns, entry by entry. -/
theorem head_apply (X : FVec Ideal S512x512 .f32) (o : ℕ) (ho : o + 128 ≤ 512) (hs) (r : Fin 512) (l : Fin 128) :
    extractStridedSlice S512x128 ![0, o] X hs (ix2 r l) = X (ix2 r ⟨o + l.val, by omega⟩) := by
  pointwise

/-- One stored head of the keys is that head of the block's keys. -/
theorem k_piece (H : FVec Ideal S512x2048 .bf16) (W : FVec Ideal S2048x6400 .bf16) (P : Vec Ideal S512x1 .i32) (T : Vec Ideal S8x128 .f32) (hT : T = tabB) (g : Vec Ideal S2x128 .f32) (ip i0 i1 i2 ig)
    (n o b : ℕ) (h : n + 512 ≤ 6400) (ho : o + 128 ≤ 512) (hs) (hb : b % 128 = 0) (hb' : b + 128 ≤ 1024) (he : n + o = 3072 + b) (r : Fin 512) (l : Fin 128) :
    truncf .bf16 (ropeV 16#32 112#32 (k0_pay44 (View.ld P (Rect.unit (s := S512x1) ![0, 0] ![512, 1] ip)) (View.ld T (Rect.unit (s := S8x128) ![0, 0] ![1, 128] i0)))
        (k0_pay46 (View.ld P (Rect.unit (s := S512x1) ![0, 0] ![512, 1] ip)) (View.ld T (Rect.unit (s := S8x128) ![0, 0] ![1, 128] i0)) (View.ld T (Rect.unit (s := S8x128) ![1, 0] ![1, 128] i1)))
        (k0_pay47 (View.ld P (Rect.unit (s := S512x1) ![0, 0] ![512, 1] ip)) (View.ld T (Rect.unit (s := S8x128) ![0, 0] ![1, 128] i0)) (View.ld T (Rect.unit (s := S8x128) ![2, 0] ![1, 128] i2)))
        (normV (extractStridedSlice S512x128 ![0, o] (k0_pay67 H (wcol W n 512 h)) hs) (View.ld g (Rect.unit (s := S2x128) ![1, 0] ![1, 128] ig)))) bitsLt_bf16_f32 (ix2 r l)
      = kv H W P g (ix2 r ⟨b + l.val, by omega⟩) := by
  have hl := l.isLt
  refine (ropeB_entry P T hT ip i0 i1 i2 _ r l).trans ?_
  unfold kv
  have el : (b + l.val) % 128 = l.val := by omega
  have ed : 3072 + 128 * ((b + l.val) / 128) = n + o := by omega
  show _ = rop 16 frB _ (fun j => nrm (fun k => col H W r (3072 + 128 * ((b + l.val) / 128) + k.val)) _ _) ((b + l.val) % 128)
  rw [el, ed]
  have eg (k : Fin 128) : View.ld g (Rect.unit (s := S2x128) ![1, 0] ![1, 128] ig) (ix2 0 k) = g (ix2 1 k) := ld_row g 1 (by decide) ig k
  have ex (k : Fin 128) : extractStridedSlice S512x128 ![0, o] (k0_pay67 H (wcol W n 512 h)) hs (ix2 r k) = col H W r (n + o + k.val) :=
    (head_apply _ o ho hs r k).trans ((mm_apply H W n h r _).trans (congrArg (col H W r) (by show n + (o + k.val) = n + o + k.val; omega)))
  refine rop_congr 128 (by decide) hl fun j _ => ?_
  refine (normV_apply _ _ r _).trans ?_
  unfold nrm
  simp only [ex, eg]

/-- Two heads of 64 lanes, transposed: channel by row. -/
theorem tr_apply (X : FVec Ideal S512x128 .f32) (e : ℕ) (he : e + 64 ≤ 128) (ht hs hb hc) (a : Fin 1) (c : Fin 64) (r : Fin 512) :
    shapeCast S1x64x512 (truncf .bf16 (extractStridedSlice S64x512 ![e, 0] (transpose S128x512 [1, 0] X ht) hs : FVec Ideal S64x512 .f32) hb) hc (ix3 a c r) = X (ix2 r ⟨e + c.val, by omega⟩) := by
  pointwise

/-- One stored head of the index queries is that head of the block's index queries. -/
theorem q_piece (H : FVec Ideal S512x2048 .bf16) (W : FVec Ideal S2048x6400 .bf16) (P : Vec Ideal S512x1 .i32) (T : Vec Ideal S8x128 .f32) (hT : T = tabI) (ip i0 i1 i2)
    (n o e a : ℕ) (h : n + 512 ≤ 6400) (ho : o + 128 ≤ 512) (hs) (he : e = 0 ∨ e = 64) (ha : a < 16) (hn : n + o + e = 5120 + 64 * a) (ht hs' hb hc) (y0 : Fin 1) (c : Fin 64) (r : Fin 512) :
    shapeCast S1x64x512 (truncf .bf16 (extractStridedSlice S64x512 ![e, 0] (transpose S128x512 [1, 0] (ropeV 8#32 120#32 (k0_pay4 (View.ld P (Rect.unit (s := S512x1) ![0, 0] ![512, 1] ip)) (View.ld T (Rect.unit (s := S8x128) ![0, 0] ![1, 128] i0)))
        (k0_pay6 (k0_pay3 (View.ld P (Rect.unit (s := S512x1) ![0, 0] ![512, 1] ip)) (View.ld T (Rect.unit (s := S8x128) ![0, 0] ![1, 128] i0))) (View.ld T (Rect.unit (s := S8x128) ![1, 0] ![1, 128] i1)))
        (k0_pay7 (k0_pay3 (View.ld P (Rect.unit (s := S512x1) ![0, 0] ![512, 1] ip)) (View.ld T (Rect.unit (s := S8x128) ![0, 0] ![1, 128] i0))) (View.ld T (Rect.unit (s := S8x128) ![2, 0] ![1, 128] i2)))
        (extractStridedSlice S512x128 ![0, o] (k0_pay67 H (wcol W n 512 h)) hs)) ht) hs' : FVec Ideal S64x512 .f32) hb) hc (ix3 y0 c r)
      = qv H W P (ix3 (⟨a, ha⟩ : Fin 16) (⟨0 + c.val, by omega⟩ : Fin 64) r) := by
  have hcl := c.isLt
  refine (tr_apply _ e (by omega) ht hs' hb hc y0 c r).trans ((ropeI_entry P T hT ip i0 i1 i2 _ r _).trans ?_)
  unfold qv
  show rop 8 frI _ (fun j => extractStridedSlice S512x128 ![0, o] (k0_pay67 H (wcol W n 512 h)) hs (ix2 r ⟨(64 * ((e + c.val) / 64) + j) % 128, _⟩)) ((e + c.val) % 64) = rop 8 frI _ (fun j => col H W r (5120 + 64 * a + j)) (0 + c.val)
  have e1 : (e + c.val) % 64 = 0 + c.val := by omega
  have e2 : 64 * ((e + c.val) / 64) = e := by omega
  rw [e1]
  refine rop_congr 64 (by decide) (by omega) fun j hj => ?_
  refine (head_apply _ o ho hs r _).trans ((mm_apply H W n h r _).trans (congrArg (col H W r) ?_))
  show n + (o + (64 * ((e + c.val) / 64) + j) % 128) = 5120 + 64 * a + j
  omega

/-- The stored index keys are the block's index keys. -/
theorem i_piece (H : FVec Ideal S512x2048 .bf16) (W : FVec Ideal S2048x6400 .bf16) (P : Vec Ideal S512x1 .i32) (T : Vec Ideal S8x128 .f32) (hT : T = tabI) (ip i0 i1 i2)
    (h : 6144 + 256 ≤ 6400) (r : Fin 512) (c : Fin 64) :
    k0_pay41 (k0_pay4 (View.ld P (Rect.unit (s := S512x1) ![0, 0] ![512, 1] ip)) (View.ld T (Rect.unit (s := S8x128) ![0, 0] ![1, 128] i0)))
        (k0_pay6 (k0_pay3 (View.ld P (Rect.unit (s := S512x1) ![0, 0] ![512, 1] ip)) (View.ld T (Rect.unit (s := S8x128) ![0, 0] ![1, 128] i0))) (View.ld T (Rect.unit (s := S8x128) ![1, 0] ![1, 128] i1)))
        (k0_pay7 (k0_pay3 (View.ld P (Rect.unit (s := S512x1) ![0, 0] ![512, 1] ip)) (View.ld T (Rect.unit (s := S8x128) ![0, 0] ![1, 128] i0))) (View.ld T (Rect.unit (s := S8x128) ![2, 0] ![1, 128] i2))) H (wcol W 6144 256 h) (ix2 r c)
      = iv H W P (ix2 r c) := by
  have hcl := c.isLt
  refine Eq.trans ?_ ((ropeI_entry P T hT ip i0 i1 i2 (k0_pay40 H (wcol W 6144 256 h)) r ⟨c.val, by omega⟩).trans ?_)
  · generalize k0_pay4 (F := Ideal) _ _ = C
    generalize k0_pay6 (F := Ideal) _ _ = A
    generalize k0_pay7 (F := Ideal) _ _ = B
    unfold k0_pay41
    generalize k0_pay40 (F := Ideal) _ _ = X
    pointwise [ropeV]
  · unfold iv
    show rop 8 frI _ (fun j => k0_pay40 H (wcol W 6144 256 h) (ix2 r ⟨(64 * (c.val / 64) + j) % 128, _⟩)) (c.val % 64) = rop 8 frI _ (fun j => col H W r (6144 + j)) c.val
    have e1 : c.val % 64 = c.val := by omega
    rw [e1]
    refine rop_congr 64 (by decide) hcl fun j hj => ?_
    pointwise [k0_pay40, wcol, col, prj]
    refine Finset.sum_congr rfl fun k _ => Ideal.mul_congr rfl (congrArg W (congrArg (fun q : Fin 6400 => ix2 k q) (Fin.ext ?_)))
    show 6144 + (64 * (c.val / 64) + j) % 128 = (6144 + j) % 6400
    omega

/-- A stored piece of the keys agrees with a whole-block function if its entries do. -/
theorem pieceK (P : (⟨2, ![512, 128]⟩ : Shape).Idx → EReal) (G : S512x1024.Idx → EReal) (b : ℕ) (inb : ∀ k, (![0, b] : Fin 2 → ℕ) k + (![512, 128] : Fin 2 → ℕ) k ≤ S512x1024.size k)
    (h : ∀ (y0 : Fin 512) (y1 : Fin 128), P (ix2 y0 y1) = G (ix2 y0 (⟨b + y1.val, Nat.lt_of_lt_of_le (Nat.add_lt_add_left y1.isLt b) (inb 1)⟩ : Fin 1024))) :
    ∀ y : (Rect.unit (s := S512x1024) ![0, b] ![512, 128] inb).shape.Idx, P y = G ((Rect.unit (s := S512x1024) ![0, b] ![512, 128] inb).emb y) := by
  intro y
  have e := h (y 0) (y 1)
  refine (congrArg P ?_).trans (e.trans (congrArg G ?_))
  · funext k
    match k with
    | ⟨0, _⟩ => rfl
    | ⟨1, _⟩ => rfl
  · funext k
    apply Fin.ext
    rw [ValueKit.rect_emb_unit_val]
    match k with
    | ⟨0, _⟩ => show (y 0).val = 0 + (y 0).val; omega
    | ⟨1, _⟩ => rfl

/-- A stored piece of the index queries agrees with a whole-block function if its entries do. -/
theorem pieceQ (P : (⟨3, ![1, 64, 512]⟩ : Shape).Idx → EReal) (G : S16x64x512.Idx → EReal) (a : ℕ) (inb : ∀ k, (![a, 0, 0] : Fin 3 → ℕ) k + (![1, 64, 512] : Fin 3 → ℕ) k ≤ S16x64x512.size k)
    (h : ∀ (y0 : Fin 1) (y1 : Fin 64) (y2 : Fin 512), P (ix3 y0 y1 y2) = G (ix3 (⟨a, Nat.lt_of_succ_le (inb 0)⟩ : Fin 16) (⟨0 + y1.val, by omega⟩ : Fin 64) y2)) :
    ∀ y : (Rect.unit (s := S16x64x512) ![a, 0, 0] ![1, 64, 512] inb).shape.Idx, P y = G ((Rect.unit (s := S16x64x512) ![a, 0, 0] ![1, 64, 512] inb).emb y) := by
  intro y
  have e := h (y 0) (y 1) (y 2)
  refine (congrArg P ?_).trans (e.trans (congrArg G ?_))
  · funext k
    match k with
    | ⟨0, _⟩ => rfl
    | ⟨1, _⟩ => rfl
    | ⟨2, _⟩ => rfl
  · funext k
    apply Fin.ext
    rw [ValueKit.rect_emb_unit_val]
    match k with
    | ⟨0, _⟩ =>
      have h0 : (y 0).val < 1 := (y 0).isLt
      show a = a + (y 0).val
      omega
    | ⟨1, _⟩ => rfl
    | ⟨2, _⟩ => show (y 2).val = 0 + (y 2).val; omega

/-- The one store of the index keys fills its block. -/
theorem emb2i (inb) (y : S512x64.Idx) :
    (Rect.unit (s := S512x64) ![0, 0] ![512, 64] inb).emb y = y := by
  funext k
  apply Fin.ext
  rw [ValueKit.rect_emb_unit_val]
  match k with
  | ⟨0, _⟩ => show 0 + (y 0).val = (y 0).val; omega
  | ⟨1, _⟩ => show 0 + (y 1).val = (y 1).val; omega

/-- The piece stored into the index keys' block holds the index keys of the row block. -/
theorem t17  (c : Dev nD) (i : grid0.Coords) (arg1 : Memref sig .tc .vmem S512x2048 .f32) (harg1 : arg1.IsWhole) (arg2 : Memref sig .tc .vmem S1x9x2048 .f32) (harg2 : arg2.IsWhole) (arg3 : Memref sig .tc .vmem S1x2048 .f32) (harg3 : arg3.IsWhole) (arg4 : Memref sig .tc .vmem S512x1 .i32) (harg4 : arg4.IsWhole) (arg5 : Memref sig .tc .vmem S8x128 .f32) (harg5 : arg5.IsWhole) (arg6 : Memref sig .tc .vmem S8x128 .f32) (harg6 : arg6.IsWhole) (arg7 : Memref sig .tc .vmem S2048x6400 .bf16) (harg7 : arg7.IsWhole) (arg8 : Memref sig .tc .vmem S1x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S1x1024 .f32) (harg11 : arg11.IsWhole) (arg12 : Memref sig .tc .vmem S2x128 .f32) (harg12 : arg12.IsWhole) (arg13 : Memref sig .tc .vmem S512x1024 .bf16) (harg13 : arg13.IsWhole) (arg14 : Memref sig .tc .vmem S1024x512 .bf16) (harg14 : arg14.IsWhole) (arg15 : Memref sig .tc .vmem S512x1024 .bf16) (harg15 : arg15.IsWhole) (arg16 : Memref sig .tc .vmem S2x1024x256 .bf16) (harg16 : arg16.IsWhole) (arg17 : Memref sig .tc .vmem S16x64x512 .bf16) (harg17 : arg17.IsWhole) (arg18 : Memref sig .tc .vmem S512x64 .bf16) (harg18 : arg18.IsWhole) (arg19 : Memref sig .tc .vmem S16x512 .f32) (harg19 : arg19.IsWhole) (arg20 : Memref sig .tc .vmem S512x2048 .bf16) (harg20 : arg20.IsWhole)
    (x0 : Vec Ideal S512x2048 .f32) (x1 : Vec Ideal S1x9x2048 .f32) (x2 : Vec Ideal S1x2048 .f32) (x3 : Vec Ideal S512x1 .i32) (x4 : Vec Ideal S8x128 .f32) (x5 : Vec Ideal S8x128 .f32) (x6 : Vec Ideal S2048x6400 .bf16) (x7 : Vec Ideal S1x1024 .f32) (x8 : Vec Ideal S8x128x128 .f32) (x9 : Vec Ideal S8x128x128 .f32) (x10 : Vec Ideal S1x1024 .f32) (x11 : Vec Ideal S2x128 .f32) (hT : x5 = tabI) : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11).2.2.2.2.2.1, ∀ y : p.1.shape.Idx,
    p.2 y = iv (k0_pay2 (View.ld x0 (Rect.unit ![0, 0] ![512, 2048] inb_S512x2048_S512x2048_0_0)) (View.ld x2 (Rect.unit ![0, 0] ![1, 2048] inb_S1x2048_S1x2048_0_0)) (View.ld x1 (Rect.unit ![0, 4, 0] ![1, 1, 2048] inb_S1x9x2048_S1x1x2048_0_4_0)) (View.ld x1 (Rect.unit ![0, 3, 0] ![1, 1, 2048] inb_S1x9x2048_S1x1x2048_0_3_0))) x6 x3 (p.1.emb y) := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, read_h]
  generalize k0_pay2 (F := Ideal) _ _ _ _ = H
  simp only [read_w, harg1.read_unread, harg2.read_unread, harg3.read_unread, harg4.read_unread, harg5.read_unread, harg6.read_unread, harg7.read_unread, harg8.read_unread, harg9.read_unread, harg10.read_unread, harg11.read_unread, harg12.read_unread, List.forall_mem_cons]
  refine ⟨fun y => ?_, fun x hx => absurd hx List.not_mem_nil⟩
  rw [emb2i]
  idx_vars y
  exact i_piece H x6 x3 x5 hT _ _ _ _ _ y0 y1

/-- The eight pieces stored into the keys' block hold the keys of the row block. -/
theorem t14  (c : Dev nD) (i : grid0.Coords) (arg1 : Memref sig .tc .vmem S512x2048 .f32) (harg1 : arg1.IsWhole) (arg2 : Memref sig .tc .vmem S1x9x2048 .f32) (harg2 : arg2.IsWhole) (arg3 : Memref sig .tc .vmem S1x2048 .f32) (harg3 : arg3.IsWhole) (arg4 : Memref sig .tc .vmem S512x1 .i32) (harg4 : arg4.IsWhole) (arg5 : Memref sig .tc .vmem S8x128 .f32) (harg5 : arg5.IsWhole) (arg6 : Memref sig .tc .vmem S8x128 .f32) (harg6 : arg6.IsWhole) (arg7 : Memref sig .tc .vmem S2048x6400 .bf16) (harg7 : arg7.IsWhole) (arg8 : Memref sig .tc .vmem S1x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S1x1024 .f32) (harg11 : arg11.IsWhole) (arg12 : Memref sig .tc .vmem S2x128 .f32) (harg12 : arg12.IsWhole) (arg13 : Memref sig .tc .vmem S512x1024 .bf16) (harg13 : arg13.IsWhole) (arg14 : Memref sig .tc .vmem S1024x512 .bf16) (harg14 : arg14.IsWhole) (arg15 : Memref sig .tc .vmem S512x1024 .bf16) (harg15 : arg15.IsWhole) (arg16 : Memref sig .tc .vmem S2x1024x256 .bf16) (harg16 : arg16.IsWhole) (arg17 : Memref sig .tc .vmem S16x64x512 .bf16) (harg17 : arg17.IsWhole) (arg18 : Memref sig .tc .vmem S512x64 .bf16) (harg18 : arg18.IsWhole) (arg19 : Memref sig .tc .vmem S16x512 .f32) (harg19 : arg19.IsWhole) (arg20 : Memref sig .tc .vmem S512x2048 .bf16) (harg20 : arg20.IsWhole)
    (x0 : Vec Ideal S512x2048 .f32) (x1 : Vec Ideal S1x9x2048 .f32) (x2 : Vec Ideal S1x2048 .f32) (x3 : Vec Ideal S512x1 .i32) (x4 : Vec Ideal S8x128 .f32) (x5 : Vec Ideal S8x128 .f32) (x6 : Vec Ideal S2048x6400 .bf16) (x7 : Vec Ideal S1x1024 .f32) (x8 : Vec Ideal S8x128x128 .f32) (x9 : Vec Ideal S8x128x128 .f32) (x10 : Vec Ideal S1x1024 .f32) (x11 : Vec Ideal S2x128 .f32) (hT : x4 = tabB) : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11).2.2.1, ∀ y : p.1.shape.Idx,
    p.2 y = kv (k0_pay2 (View.ld x0 (Rect.unit ![0, 0] ![512, 2048] inb_S512x2048_S512x2048_0_0)) (View.ld x2 (Rect.unit ![0, 0] ![1, 2048] inb_S1x2048_S1x2048_0_0)) (View.ld x1 (Rect.unit ![0, 4, 0] ![1, 1, 2048] inb_S1x9x2048_S1x1x2048_0_4_0)) (View.ld x1 (Rect.unit ![0, 3, 0] ![1, 1, 2048] inb_S1x9x2048_S1x1x2048_0_3_0))) x6 x3 x11 (p.1.emb y) := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, read_h]
  generalize k0_pay2 (F := Ideal) _ _ _ _ = H
  simp only [read_w, harg1.read_unread, harg2.read_unread, harg3.read_unread, harg4.read_unread, harg5.read_unread, harg6.read_unread, harg7.read_unread, harg8.read_unread, harg9.read_unread, harg10.read_unread, harg11.read_unread, harg12.read_unread, List.forall_mem_cons]
  refine ⟨pieceK _ _ _ _ ?_, pieceK _ _ _ _ ?_, pieceK _ _ _ _ ?_, pieceK _ _ _ _ ?_, pieceK _ _ _ _ ?_, pieceK _ _ _ _ ?_, pieceK _ _ _ _ ?_, pieceK _ _ _ _ ?_, fun x hx => absurd hx List.not_mem_nil⟩
  · exact fun r l => k_piece H x6 x3 x4 hT x11 _ _ _ _ _ 3584 384 896 (by decide) (by decide) (by decide) (by decide) (by decide) (by decide) r l
  · exact fun r l => k_piece H x6 x3 x4 hT x11 _ _ _ _ _ 3584 256 768 (by decide) (by decide) (by decide) (by decide) (by decide) (by decide) r l
  · exact fun r l => k_piece H x6 x3 x4 hT x11 _ _ _ _ _ 3584 128 640 (by decide) (by decide) (by decide) (by decide) (by decide) (by decide) r l
  · exact fun r l => k_piece H x6 x3 x4 hT x11 _ _ _ _ _ 3584 0 512 (by decide) (by decide) (by decide) (by decide) (by decide) (by decide) r l
  · exact fun r l => k_piece H x6 x3 x4 hT x11 _ _ _ _ _ 3072 384 384 (by decide) (by decide) (by decide) (by decide) (by decide) (by decide) r l
  · exact fun r l => k_piece H x6 x3 x4 hT x11 _ _ _ _ _ 3072 256 256 (by decide) (by decide) (by decide) (by decide) (by decide) (by decide) r l
  · exact fun r l => k_piece H x6 x3 x4 hT x11 _ _ _ _ _ 3072 128 128 (by decide) (by decide) (by decide) (by decide) (by decide) (by decide) r l
  · exact fun r l => k_piece H x6 x3 x4 hT x11 _ _ _ _ _ 3072 0 0 (by decide) (by decide) (by decide) (by decide) (by decide) (by decide) r l

/-- The sixteen pieces stored into the index queries' block hold the index queries of the row block, transposed. -/
theorem t16  (c : Dev nD) (i : grid0.Coords) (arg1 : Memref sig .tc .vmem S512x2048 .f32) (harg1 : arg1.IsWhole) (arg2 : Memref sig .tc .vmem S1x9x2048 .f32) (harg2 : arg2.IsWhole) (arg3 : Memref sig .tc .vmem S1x2048 .f32) (harg3 : arg3.IsWhole) (arg4 : Memref sig .tc .vmem S512x1 .i32) (harg4 : arg4.IsWhole) (arg5 : Memref sig .tc .vmem S8x128 .f32) (harg5 : arg5.IsWhole) (arg6 : Memref sig .tc .vmem S8x128 .f32) (harg6 : arg6.IsWhole) (arg7 : Memref sig .tc .vmem S2048x6400 .bf16) (harg7 : arg7.IsWhole) (arg8 : Memref sig .tc .vmem S1x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S1x1024 .f32) (harg11 : arg11.IsWhole) (arg12 : Memref sig .tc .vmem S2x128 .f32) (harg12 : arg12.IsWhole) (arg13 : Memref sig .tc .vmem S512x1024 .bf16) (harg13 : arg13.IsWhole) (arg14 : Memref sig .tc .vmem S1024x512 .bf16) (harg14 : arg14.IsWhole) (arg15 : Memref sig .tc .vmem S512x1024 .bf16) (harg15 : arg15.IsWhole) (arg16 : Memref sig .tc .vmem S2x1024x256 .bf16) (harg16 : arg16.IsWhole) (arg17 : Memref sig .tc .vmem S16x64x512 .bf16) (harg17 : arg17.IsWhole) (arg18 : Memref sig .tc .vmem S512x64 .bf16) (harg18 : arg18.IsWhole) (arg19 : Memref sig .tc .vmem S16x512 .f32) (harg19 : arg19.IsWhole) (arg20 : Memref sig .tc .vmem S512x2048 .bf16) (harg20 : arg20.IsWhole)
    (x0 : Vec Ideal S512x2048 .f32) (x1 : Vec Ideal S1x9x2048 .f32) (x2 : Vec Ideal S1x2048 .f32) (x3 : Vec Ideal S512x1 .i32) (x4 : Vec Ideal S8x128 .f32) (x5 : Vec Ideal S8x128 .f32) (x6 : Vec Ideal S2048x6400 .bf16) (x7 : Vec Ideal S1x1024 .f32) (x8 : Vec Ideal S8x128x128 .f32) (x9 : Vec Ideal S8x128x128 .f32) (x10 : Vec Ideal S1x1024 .f32) (x11 : Vec Ideal S2x128 .f32) (hT : x5 = tabI) : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11).2.2.2.2.1, ∀ y : p.1.shape.Idx,
    p.2 y = qv (k0_pay2 (View.ld x0 (Rect.unit ![0, 0] ![512, 2048] inb_S512x2048_S512x2048_0_0)) (View.ld x2 (Rect.unit ![0, 0] ![1, 2048] inb_S1x2048_S1x2048_0_0)) (View.ld x1 (Rect.unit ![0, 4, 0] ![1, 1, 2048] inb_S1x9x2048_S1x1x2048_0_4_0)) (View.ld x1 (Rect.unit ![0, 3, 0] ![1, 1, 2048] inb_S1x9x2048_S1x1x2048_0_3_0))) x6 x3 (p.1.emb y) := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, read_h]
  generalize k0_pay2 (F := Ideal) _ _ _ _ = H
  simp only [read_w, harg1.read_unread, harg2.read_unread, harg3.read_unread, harg4.read_unread, harg5.read_unread, harg6.read_unread, harg7.read_unread, harg8.read_unread, harg9.read_unread, harg10.read_unread, harg11.read_unread, harg12.read_unread, List.forall_mem_cons]
  refine ⟨pieceQ _ _ _ _ ?_, pieceQ _ _ _ _ ?_, pieceQ _ _ _ _ ?_, pieceQ _ _ _ _ ?_, pieceQ _ _ _ _ ?_, pieceQ _ _ _ _ ?_, pieceQ _ _ _ _ ?_, pieceQ _ _ _ _ ?_, pieceQ _ _ _ _ ?_, pieceQ _ _ _ _ ?_, pieceQ _ _ _ _ ?_, pieceQ _ _ _ _ ?_, pieceQ _ _ _ _ ?_, pieceQ _ _ _ _ ?_, pieceQ _ _ _ _ ?_, pieceQ _ _ _ _ ?_, fun x hx => absurd hx List.not_mem_nil⟩
  · exact fun y0 c r => q_piece H x6 x3 x5 hT _ _ _ _ 5632 384 64 15 (by decide) (by decide) (by decide) (by decide) (by decide) (by decide) _ _ _ _ y0 c r
  · exact fun y0 c r => q_piece H x6 x3 x5 hT _ _ _ _ 5632 384 0 14 (by decide) (by decide) (by decide) (by decide) (by decide) (by decide) _ _ _ _ y0 c r
  · exact fun y0 c r => q_piece H x6 x3 x5 hT _ _ _ _ 5632 256 64 13 (by decide) (by decide) (by decide) (by decide) (by decide) (by decide) _ _ _ _ y0 c r
  · exact fun y0 c r => q_piece H x6 x3 x5 hT _ _ _ _ 5632 256 0 12 (by decide) (by decide) (by decide) (by decide) (by decide) (by decide) _ _ _ _ y0 c r
  · exact fun y0 c r => q_piece H x6 x3 x5 hT _ _ _ _ 5632 128 64 11 (by decide) (by decide) (by decide) (by decide) (by decide) (by decide) _ _ _ _ y0 c r
  · exact fun y0 c r => q_piece H x6 x3 x5 hT _ _ _ _ 5632 128 0 10 (by decide) (by decide) (by decide) (by decide) (by decide) (by decide) _ _ _ _ y0 c r
  · exact fun y0 c r => q_piece H x6 x3 x5 hT _ _ _ _ 5632 0 64 9 (by decide) (by decide) (by decide) (by decide) (by decide) (by decide) _ _ _ _ y0 c r
  · exact fun y0 c r => q_piece H x6 x3 x5 hT _ _ _ _ 5632 0 0 8 (by decide) (by decide) (by decide) (by decide) (by decide) (by decide) _ _ _ _ y0 c r
  · exact fun y0 c r => q_piece H x6 x3 x5 hT _ _ _ _ 5120 384 64 7 (by decide) (by decide) (by decide) (by decide) (by decide) (by decide) _ _ _ _ y0 c r
  · exact fun y0 c r => q_piece H x6 x3 x5 hT _ _ _ _ 5120 384 0 6 (by decide) (by decide) (by decide) (by decide) (by decide) (by decide) _ _ _ _ y0 c r
  · exact fun y0 c r => q_piece H x6 x3 x5 hT _ _ _ _ 5120 256 64 5 (by decide) (by decide) (by decide) (by decide) (by decide) (by decide) _ _ _ _ y0 c r
  · exact fun y0 c r => q_piece H x6 x3 x5 hT _ _ _ _ 5120 256 0 4 (by decide) (by decide) (by decide) (by decide) (by decide) (by decide) _ _ _ _ y0 c r
  · exact fun y0 c r => q_piece H x6 x3 x5 hT _ _ _ _ 5120 128 64 3 (by decide) (by decide) (by decide) (by decide) (by decide) (by decide) _ _ _ _ y0 c r
  · exact fun y0 c r => q_piece H x6 x3 x5 hT _ _ _ _ 5120 128 0 2 (by decide) (by decide) (by decide) (by decide) (by decide) (by decide) _ _ _ _ y0 c r
  · exact fun y0 c r => q_piece H x6 x3 x5 hT _ _ _ _ 5120 0 64 1 (by decide) (by decide) (by decide) (by decide) (by decide) (by decide) _ _ _ _ y0 c r
  · exact fun y0 c r => q_piece H x6 x3 x5 hT _ _ _ _ 5120 0 0 0 (by decide) (by decide) (by decide) (by decide) (by decide) (by decide) _ _ _ _ y0 c r

end Cert.Kernel2Ideal.Proj
-- ==== Proof.RopeResult.lean ====
module

public import proofs.«01_k».proof.Proof.RopePieces
public import proofs.«01_k».proof.Proof.ProjResult

@[expose] public section

set_option maxRecDepth 16384

noncomputable section

namespace Cert.Kernel2Ideal.Proj

open Cert.Kernel2Ideal Cert.Kernel2Ideal.Gen Idealize.ShloMosaic Idealize.ShloMosaic.TcCoe Idealize.SL.Sem
open Idealize.ShloMosaic.Pipeline (Dat)

/-- Column `n` of the projection of a row. -/
def pc (X : FVec Ideal S4x4096x2048 .f32) (M : FVec Ideal S4x18432 .f32) (G : FVec Ideal S1x2048 .f32) (W : FVec Ideal S1x2048x6224 .f32) (R : Fin 16384) (n : ℕ) : EReal :=
  pj X M G W R ⟨n % 6224, Nat.mod_lt _ (by decide)⟩

/-- A row's position, as a number. -/
def pz (P : Vec Ideal S4x4096 .i32) (R : Fin 16384) : EReal := FloatOps.sitofp (F := Ideal) .f32 (P (ix2 (bat R) (pos R)))

/-- One entry of the keys: the head normed, times the gain, rotated by the row's position. -/
def rk (X : FVec Ideal S4x4096x2048 .f32) (M : FVec Ideal S4x18432 .f32) (G : FVec Ideal S1x2048 .f32) (P : Vec Ideal S4x4096 .i32) (W : FVec Ideal S1x2048x6224 .f32) (K : FVec Ideal S1x128 .f32) (R : Fin 16384) (n : ℕ) : EReal :=
  rop 16 frB (pz P R) (fun j => nrm (fun k => pc X M G W R (3072 + 128 * (n / 128) + k.val)) (fun k => K (ix2 0 k)) ⟨j % 128, Nat.mod_lt _ (by decide)⟩) (n % 128)

/-- One entry of the index queries (`b` the first column of the head) or the index keys: the head rotated by the row's position. -/
def ri (X : FVec Ideal S4x4096x2048 .f32) (M : FVec Ideal S4x18432 .f32) (G : FVec Ideal S1x2048 .f32) (P : Vec Ideal S4x4096 .i32) (W : FVec Ideal S1x2048x6224 .f32) (R : Fin 16384) (b l : ℕ) : EReal :=
  rop 8 frI (pz P R) (fun j => pc X M G W R (b + j)) l

/-- What a point leaves in the keys' block. -/
theorem o14  (c : Dev nD) (i : grid0.Coords) (arg1 : Memref sig .tc .vmem S512x2048 .f32) (harg1 : arg1.IsWhole) (arg2 : Memref sig .tc .vmem S1x9x2048 .f32) (harg2 : arg2.IsWhole) (arg3 : Memref sig .tc .vmem S1x2048 .f32) (harg3 : arg3.IsWhole) (arg4 : Memref sig .tc .vmem S512x1 .i32) (harg4 : arg4.IsWhole) (arg5 : Memref sig .tc .vmem S8x128 .f32) (harg5 : arg5.IsWhole) (arg6 : Memref sig .tc .vmem S8x128 .f32) (harg6 : arg6.IsWhole) (arg7 : Memref sig .tc .vmem S2048x6400 .bf16) (harg7 : arg7.IsWhole) (arg8 : Memref sig .tc .vmem S1x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S1x1024 .f32) (harg11 : arg11.IsWhole) (arg12 : Memref sig .tc .vmem S2x128 .f32) (harg12 : arg12.IsWhole) (arg13 : Memref sig .tc .vmem S512x1024 .bf16) (harg13 : arg13.IsWhole) (arg14 : Memref sig .tc .vmem S1024x512 .bf16) (harg14 : arg14.IsWhole) (arg15 : Memref sig .tc .vmem S512x1024 .bf16) (harg15 : arg15.IsWhole) (arg16 : Memref sig .tc .vmem S2x1024x256 .bf16) (harg16 : arg16.IsWhole) (arg17 : Memref sig .tc .vmem S16x64x512 .bf16) (harg17 : arg17.IsWhole) (arg18 : Memref sig .tc .vmem S512x64 .bf16) (harg18 : arg18.IsWhole) (arg19 : Memref sig .tc .vmem S16x512 .f32) (harg19 : arg19.IsWhole) (arg20 : Memref sig .tc .vmem S512x2048 .bf16) (harg20 : arg20.IsWhole)
    (x0 : Vec Ideal S512x2048 .f32) (x1 : Vec Ideal S1x9x2048 .f32) (x2 : Vec Ideal S1x2048 .f32) (x3 : Vec Ideal S512x1 .i32) (x4 : Vec Ideal S8x128 .f32) (x5 : Vec Ideal S8x128 .f32) (x6 : Vec Ideal S2048x6400 .bf16) (x7 : Vec Ideal S1x1024 .f32) (x8 : Vec Ideal S8x128x128 .f32) (x9 : Vec Ideal S8x128x128 .f32) (x10 : Vec Ideal S1x1024 .f32) (x11 : Vec Ideal S2x128 .f32) (hT : x4 = tabB) (y : S512x1024.Idx) :
    (out0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11) y = kv (k0_pay2 (View.ld x0 (Rect.unit ![0, 0] ![512, 2048] inb_S512x2048_S512x2048_0_0)) (View.ld x2 (Rect.unit ![0, 0] ![1, 2048] inb_S1x2048_S1x2048_0_0)) (View.ld x1 (Rect.unit ![0, 4, 0] ![1, 1, 2048] inb_S1x9x2048_S1x1x2048_0_4_0)) (View.ld x1 (Rect.unit ![0, 3, 0] ![1, 1, 2048] inb_S1x9x2048_S1x1x2048_0_3_0))) x6 x3 x11 y := by
  unfold out0_A_14
  rw [View.read_writes_eq_canon _ _ _ (cover0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11)]
  exact View.canon_apply_of_pieces _ _ (t14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 hT) y (cover0_A_14 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 y)

/-- What a point leaves in the index queries' block. -/
theorem o16  (c : Dev nD) (i : grid0.Coords) (arg1 : Memref sig .tc .vmem S512x2048 .f32) (harg1 : arg1.IsWhole) (arg2 : Memref sig .tc .vmem S1x9x2048 .f32) (harg2 : arg2.IsWhole) (arg3 : Memref sig .tc .vmem S1x2048 .f32) (harg3 : arg3.IsWhole) (arg4 : Memref sig .tc .vmem S512x1 .i32) (harg4 : arg4.IsWhole) (arg5 : Memref sig .tc .vmem S8x128 .f32) (harg5 : arg5.IsWhole) (arg6 : Memref sig .tc .vmem S8x128 .f32) (harg6 : arg6.IsWhole) (arg7 : Memref sig .tc .vmem S2048x6400 .bf16) (harg7 : arg7.IsWhole) (arg8 : Memref sig .tc .vmem S1x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S1x1024 .f32) (harg11 : arg11.IsWhole) (arg12 : Memref sig .tc .vmem S2x128 .f32) (harg12 : arg12.IsWhole) (arg13 : Memref sig .tc .vmem S512x1024 .bf16) (harg13 : arg13.IsWhole) (arg14 : Memref sig .tc .vmem S1024x512 .bf16) (harg14 : arg14.IsWhole) (arg15 : Memref sig .tc .vmem S512x1024 .bf16) (harg15 : arg15.IsWhole) (arg16 : Memref sig .tc .vmem S2x1024x256 .bf16) (harg16 : arg16.IsWhole) (arg17 : Memref sig .tc .vmem S16x64x512 .bf16) (harg17 : arg17.IsWhole) (arg18 : Memref sig .tc .vmem S512x64 .bf16) (harg18 : arg18.IsWhole) (arg19 : Memref sig .tc .vmem S16x512 .f32) (harg19 : arg19.IsWhole) (arg20 : Memref sig .tc .vmem S512x2048 .bf16) (harg20 : arg20.IsWhole)
    (x0 : Vec Ideal S512x2048 .f32) (x1 : Vec Ideal S1x9x2048 .f32) (x2 : Vec Ideal S1x2048 .f32) (x3 : Vec Ideal S512x1 .i32) (x4 : Vec Ideal S8x128 .f32) (x5 : Vec Ideal S8x128 .f32) (x6 : Vec Ideal S2048x6400 .bf16) (x7 : Vec Ideal S1x1024 .f32) (x8 : Vec Ideal S8x128x128 .f32) (x9 : Vec Ideal S8x128x128 .f32) (x10 : Vec Ideal S1x1024 .f32) (x11 : Vec Ideal S2x128 .f32) (hT : x5 = tabI) (y : S16x64x512.Idx) :
    (out0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11) y = qv (k0_pay2 (View.ld x0 (Rect.unit ![0, 0] ![512, 2048] inb_S512x2048_S512x2048_0_0)) (View.ld x2 (Rect.unit ![0, 0] ![1, 2048] inb_S1x2048_S1x2048_0_0)) (View.ld x1 (Rect.unit ![0, 4, 0] ![1, 1, 2048] inb_S1x9x2048_S1x1x2048_0_4_0)) (View.ld x1 (Rect.unit ![0, 3, 0] ![1, 1, 2048] inb_S1x9x2048_S1x1x2048_0_3_0))) x6 x3 y := by
  unfold out0_A_16
  rw [View.read_writes_eq_canon _ _ _ (cover0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11)]
  exact View.canon_apply_of_pieces _ _ (t16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 hT) y (cover0_A_16 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 y)

/-- What a point leaves in the index keys' block. -/
theorem o17  (c : Dev nD) (i : grid0.Coords) (arg1 : Memref sig .tc .vmem S512x2048 .f32) (harg1 : arg1.IsWhole) (arg2 : Memref sig .tc .vmem S1x9x2048 .f32) (harg2 : arg2.IsWhole) (arg3 : Memref sig .tc .vmem S1x2048 .f32) (harg3 : arg3.IsWhole) (arg4 : Memref sig .tc .vmem S512x1 .i32) (harg4 : arg4.IsWhole) (arg5 : Memref sig .tc .vmem S8x128 .f32) (harg5 : arg5.IsWhole) (arg6 : Memref sig .tc .vmem S8x128 .f32) (harg6 : arg6.IsWhole) (arg7 : Memref sig .tc .vmem S2048x6400 .bf16) (harg7 : arg7.IsWhole) (arg8 : Memref sig .tc .vmem S1x1024 .f32) (harg8 : arg8.IsWhole) (arg9 : Memref sig .tc .vmem S8x128x128 .f32) (harg9 : arg9.IsWhole) (arg10 : Memref sig .tc .vmem S8x128x128 .f32) (harg10 : arg10.IsWhole) (arg11 : Memref sig .tc .vmem S1x1024 .f32) (harg11 : arg11.IsWhole) (arg12 : Memref sig .tc .vmem S2x128 .f32) (harg12 : arg12.IsWhole) (arg13 : Memref sig .tc .vmem S512x1024 .bf16) (harg13 : arg13.IsWhole) (arg14 : Memref sig .tc .vmem S1024x512 .bf16) (harg14 : arg14.IsWhole) (arg15 : Memref sig .tc .vmem S512x1024 .bf16) (harg15 : arg15.IsWhole) (arg16 : Memref sig .tc .vmem S2x1024x256 .bf16) (harg16 : arg16.IsWhole) (arg17 : Memref sig .tc .vmem S16x64x512 .bf16) (harg17 : arg17.IsWhole) (arg18 : Memref sig .tc .vmem S512x64 .bf16) (harg18 : arg18.IsWhole) (arg19 : Memref sig .tc .vmem S16x512 .f32) (harg19 : arg19.IsWhole) (arg20 : Memref sig .tc .vmem S512x2048 .bf16) (harg20 : arg20.IsWhole)
    (x0 : Vec Ideal S512x2048 .f32) (x1 : Vec Ideal S1x9x2048 .f32) (x2 : Vec Ideal S1x2048 .f32) (x3 : Vec Ideal S512x1 .i32) (x4 : Vec Ideal S8x128 .f32) (x5 : Vec Ideal S8x128 .f32) (x6 : Vec Ideal S2048x6400 .bf16) (x7 : Vec Ideal S1x1024 .f32) (x8 : Vec Ideal S8x128x128 .f32) (x9 : Vec Ideal S8x128x128 .f32) (x10 : Vec Ideal S1x1024 .f32) (x11 : Vec Ideal S2x128 .f32) (hT : x5 = tabI) (y : S512x64.Idx) :
    (out0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11) y = iv (k0_pay2 (View.ld x0 (Rect.unit ![0, 0] ![512, 2048] inb_S512x2048_S512x2048_0_0)) (View.ld x2 (Rect.unit ![0, 0] ![1, 2048] inb_S1x2048_S1x2048_0_0)) (View.ld x1 (Rect.unit ![0, 4, 0] ![1, 1, 2048] inb_S1x9x2048_S1x1x2048_0_4_0)) (View.ld x1 (Rect.unit ![0, 3, 0] ![1, 1, 2048] inb_S1x9x2048_S1x1x2048_0_3_0))) x6 x3 y := by
  unfold out0_A_17
  rw [View.read_writes_eq_canon _ _ _ (cover0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11)]
  exact View.canon_apply_of_pieces _ _ (t17 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 hT) y (cover0_A_17 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 x9 x10 x11 y)

variable (m : (ℓ : Loc nD τ sig) → Buf (Elt Ideal) ℓ)

/-- The block indices of the windows of the rotation: the tables and the gains stay, the rows move with the point. -/
theorem idxR : ∀ t : Fin cfg0.N, win0_3.index t = ![t.val, 0] ∧ win0_4.index t = ![0, 0] ∧ win0_5.index t = ![0, 0] ∧ win0_11.index t = ![0, 0]
    ∧ win0_14.index t = ![t.val, 0] ∧ win0_16.index t = ![0, 0, t.val] ∧ win0_17.index t = ![t.val, 0] :=
  (by decide +kernel : ∀ t : Fin grid0.N, _)

/-- The block of the positions at a point. -/
theorem blk_p (c : Dev nD) (t : Fin cfg0.N) (r : Fin 512) :
    (iblk m c 3 t : Vec Ideal S512x1 .i32) (ix2 r 0) = (m ((c : Thread nD τ).loc main_arg3) : Vec Ideal S4x4096 .i32) (ix2 (bat (row t.val r)) (pos (row t.val r))) := by
  have ht : t.val < 32 := lt_of_lt_of_eq t.isLt N_0
  blk_simp [iblk, idxR t]
  entry_read
  pointwise
  blk_ext [idxR t, bat, pos, row]

/-- The block of the keys' table is the table. -/
theorem blk_tb (c : Dev nD) (t : Fin cfg0.N) : (iblk m c 4 t : Vec Ideal S8x128 .f32) = tabB := by
  funext z
  idx_vars z
  unfold tabB
  blk_simp [iblk, idxR t]
  entry_read
  pointwise
  have hw : win0_4.index t = ![0, 0] := (idxR t).2.1
  have e0 : (((View.whole main_cst).slice (win0_4.rect t)).emb (ix2 z0 z1) 0).val = win0_4.index t (0 : Fin 2) * 8 + 1 * (z0 : Fin 8).val := rfl
  have e1 : (((View.whole main_cst).slice (win0_4.rect t)).emb (ix2 z0 z1) 1).val = win0_4.index t (1 : Fin 2) * 128 + 1 * (z1 : Fin 128).val := rfl
  rw [hw] at e0 e1
  have e : ((View.whole main_cst).slice (win0_4.rect t)).emb (ix2 z0 z1) = ix2 z0 z1 := by
    funext k
    match k with
    | ⟨0, _⟩ => exact Fin.ext (e0.trans (by show 0 * 8 + 1 * (z0 : Fin 8).val = (z0 : Fin 8).val; omega))
    | ⟨1, _⟩ => exact Fin.ext (e1.trans (by show 0 * 128 + 1 * (z1 : Fin 128).val = (z1 : Fin 128).val; omega))
  exact congrArg (fun q => Ideal.ofBits .f32 (lit0 (S8x128.rowMajor q))) e

/-- The block of the index heads' table is the table. -/
theorem blk_ti (c : Dev nD) (t : Fin cfg0.N) : (iblk m c 5 t : Vec Ideal S8x128 .f32) = tabI := by
  funext z
  idx_vars z
  unfold tabI
  blk_simp [iblk, idxR t]
  entry_read
  pointwise
  have hw : win0_5.index t = ![0, 0] := (idxR t).2.2.1
  have e0 : (((View.whole main_cst_0).slice (win0_5.rect t)).emb (ix2 z0 z1) 0).val = win0_5.index t (0 : Fin 2) * 8 + 1 * (z0 : Fin 8).val := rfl
  have e1 : (((View.whole main_cst_0).slice (win0_5.rect t)).emb (ix2 z0 z1) 1).val = win0_5.index t (1 : Fin 2) * 128 + 1 * (z1 : Fin 128).val := rfl
  rw [hw] at e0 e1
  have e : ((View.whole main_cst_0).slice (win0_5.rect t)).emb (ix2 z0 z1) = ix2 z0 z1 := by
    funext k
    match k with
    | ⟨0, _⟩ => exact Fin.ext (e0.trans (by show 0 * 8 + 1 * (z0 : Fin 8).val = (z0 : Fin 8).val; omega))
    | ⟨1, _⟩ => exact Fin.ext (e1.trans (by show 0 * 128 + 1 * (z1 : Fin 128).val = (z1 : Fin 128).val; omega))
  exact congrArg (fun q => Ideal.ofBits .f32 (lit1 (S8x128.rowMajor q))) e

/-- The block of the gains holds the keys' gain in its second row. -/
theorem blk_kg (c : Dev nD) (t : Fin cfg0.N) (l : Fin 128) :
    (iblk m c 11 t : Vec Ideal S2x128 .f32) (ix2 1 l) = (m ((c : Thread nD τ).loc main_arg10) : FVec Ideal S1x128 .f32) (ix2 0 l) := by
  blk_simp [iblk, idxR t]
  entry_read
  pointwise
  have hw : win0_11.index t = ![0, 0] := (idxR t).2.2.2.1
  have e0 : (((View.whole main_v22).slice (win0_11.rect t)).emb (ix2 1 l) 0).val = win0_11.index t (0 : Fin 2) * 2 + 1 * (1 : Fin 2).val := rfl
  have e1 : (((View.whole main_v22).slice (win0_11.rect t)).emb (ix2 1 l) 1).val = win0_11.index t (1 : Fin 2) * 128 + 1 * (l : Fin 128).val := rfl
  rw [hw] at e0 e1
  have e : ((View.whole main_v22).slice (win0_11.rect t)).emb (ix2 1 l) = ix2 1 l := by
    funext k
    match k with
    | ⟨0, _⟩ => exact Fin.ext (e0.trans (by show 0 * 2 + 1 * (1 : Fin 2).val = (1 : Fin 2).val; omega))
    | ⟨1, _⟩ => exact Fin.ext (e1.trans (by show 0 * 128 + 1 * (l : Fin 128).val = (l : Fin 128).val; omega))
  rw [e]
  rfl

/-- A column of the projection of a row block, as that of the row. -/
theorem col_eq (c : Dev nD) (t : Fin cfg0.N) (r : Fin 512) (n : ℕ) (R : Fin 16384) (n' : ℕ) (hR : row t.val r = R) (hn : n = n') (h : n' < 6224) :
    col (k0_pay2 (View.ld (iblk m c 0 t) (Rect.unit ![0, 0] ![512, 2048] inb_S512x2048_S512x2048_0_0)) (View.ld (iblk m c 2 t) (Rect.unit ![0, 0] ![1, 2048] inb_S1x2048_S1x2048_0_0)) (View.ld (iblk m c 1 t) (Rect.unit ![0, 4, 0] ![1, 1, 2048] inb_S1x9x2048_S1x1x2048_0_4_0)) (View.ld (iblk m c 1 t) (Rect.unit ![0, 3, 0] ![1, 1, 2048] inb_S1x9x2048_S1x1x2048_0_3_0))) (iblk m c 6 t) r n = pc (m ((c : Thread nD τ).loc main_arg0)) (m ((c : Thread nD τ).loc main_arg1)) (m ((c : Thread nD τ).loc main_arg2)) (m ((c : Thread nD τ).loc main_arg4)) R n' := by
  subst hn
  exact prj_eq m c t r _ R _ hR (by show n % 6400 = n % 6224; omega)

/-- A row's position, read from its block. -/
theorem pz_eq (c : Dev nD) (t : Fin cfg0.N) (r : Fin 512) (R : Fin 16384) (hR : row t.val r = R) :
    FloatOps.sitofp (F := Ideal) .f32 ((iblk m c 3 t : Vec Ideal S512x1 .i32) (ix2 r 0)) = pz (m ((c : Thread nD τ).loc main_arg3)) R := by
  subst hR
  exact congrArg (FloatOps.sitofp (F := Ideal) .f32) (blk_p m c t r)

/-- What the array of the keys ends with, as a function of the arguments. -/
def F14 (c : Dev nD) (z : S16384x1024.Idx) : EReal := rk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg10)) (z 0) (z 1).val

/-- What the array of the index queries ends with, as a function of the arguments. -/
def F16 (c : Dev nD) (z : S16x64x16384.Idx) : EReal := ri (m ((c : Thread nD τ).loc main_arg0)) (m ((c : Thread nD τ).loc main_arg1)) (m ((c : Thread nD τ).loc main_arg2)) (m ((c : Thread nD τ).loc main_arg3)) (m ((c : Thread nD τ).loc main_arg4)) (z 2) (5120 + 64 * (z 0).val) (z 1).val

/-- What the array of the index keys ends with, as a function of the arguments. -/
def F17 (c : Dev nD) (z : S16384x64.Idx) : EReal := ri (m ((c : Thread nD τ).loc main_arg0)) (m ((c : Thread nD τ).loc main_arg1)) (m ((c : Thread nD τ).loc main_arg2)) (m ((c : Thread nD τ).loc main_arg3)) (m ((c : Thread nD τ).loc main_arg4)) (z 0) 6144 (z 1).val

/-- The array of the keys the call leaves. -/
theorem final14 (c : Dev nD) : (dats m 0 c).arrAt 14 cfg0.N = F14 m c := by
  refine (dats m 0 c).arrAt_eq_of_covers 14 _ (by decide +kernel) fun t _ y => ?_
  have ht : t.val < 32 := lt_of_lt_of_eq t.isLt N_0
  have hw : win0_14.index t = ![t.val, 0] := (idxR t).2.2.2.2.1
  have e0 : (((View.whole main_v23_2).slice (win0_14.rect t)).emb y 0).val = win0_14.index t (0 : Fin 2) * 512 + 1 * (y 0).val := rfl
  have e1 : (((View.whole main_v23_2).slice (win0_14.rect t)).emb y 1).val = win0_14.index t (1 : Fin 2) * 1024 + 1 * (y 1).val := rfl
  rw [hw] at e0 e1
  have f0 : (((View.whole main_v23_2).slice (win0_14.rect t)).emb y 0).val = t.val * 512 + (y 0).val := e0.trans (by show t.val * 512 + 1 * (y 0).val = t.val * 512 + (y 0).val; omega)
  have f1 : (((View.whole main_v23_2).slice (win0_14.rect t)).emb y 1).val = 0 * 1024 + (y 1).val := e1.trans (by show 0 * 1024 + 1 * (y 1).val = 0 * 1024 + (y 1).val; omega)
  have y0 : (y 0).val < 512 := (y 0).isLt
  have y1 : (y 1).val < 1024 := (y 1).isLt
  blk_simp
  rw [after0_14]
  unfold outsAt0
  dsimp only
  rw [o14 (hT := blk_tb m c t)]
  have hR : row t.val (y 0).val = (((View.whole main_v23_2).slice (win0_14.rect t)).emb y 0) := Fin.ext (by show (t.val * 512 + (y 0).val) % 16384 = (((View.whole main_v23_2).slice (win0_14.rect t)).emb y 0).val; omega)
  have hn : (y 1).val = (((View.whole main_v23_2).slice (win0_14.rect t)).emb y 1).val := by omega
  unfold kv
  show _ = rk _ _ _ _ _ _ (((View.whole main_v23_2).slice (win0_14.rect t)).emb y 0) (((View.whole main_v23_2).slice (win0_14.rect t)).emb y 1).val
  rw [← hn]
  unfold rk
  rw [pz_eq m c t (y 0) _ hR]
  refine rop_congr 128 (by decide) (Nat.mod_lt _ (by decide)) fun j _ => ?_
  have hc (k : Fin 128) := col_eq m c t (y 0) (3072 + 128 * ((y 1).val / 128) + k.val) _ _ hR rfl (by omega)
  have hg := blk_kg m c t
  unfold nrm
  exact Ideal.mul_congr (Ideal.mul_congr (hc ⟨j % 128, Nat.mod_lt _ (by decide)⟩) (congrArg Ideal.rsqrt (Ideal.add_congr (congrArg₂ Ideal.div (Finset.sum_congr rfl fun k _ => Ideal.mul_congr (hc k) (hc k)) rfl) rfl))) (hg _)

/-- The array of the index queries the call leaves. -/
theorem final16 (c : Dev nD) : (dats m 0 c).arrAt 16 cfg0.N = F16 m c := by
  refine (dats m 0 c).arrAt_eq_of_covers 16 _ (by decide +kernel) fun t _ y => ?_
  have ht : t.val < 32 := lt_of_lt_of_eq t.isLt N_0
  have hw : win0_16.index t = ![0, 0, t.val] := (idxR t).2.2.2.2.2.1
  have e0 : (((View.whole main_v23_4).slice (win0_16.rect t)).emb y 0).val = win0_16.index t (0 : Fin 3) * 16 + 1 * (y 0).val := rfl
  have e1 : (((View.whole main_v23_4).slice (win0_16.rect t)).emb y 1).val = win0_16.index t (1 : Fin 3) * 64 + 1 * (y 1).val := rfl
  have e2 : (((View.whole main_v23_4).slice (win0_16.rect t)).emb y 2).val = win0_16.index t (2 : Fin 3) * 512 + 1 * (y 2).val := rfl
  rw [hw] at e0 e1 e2
  have f0 : (((View.whole main_v23_4).slice (win0_16.rect t)).emb y 0).val = 0 * 16 + (y 0).val := e0.trans (by show 0 * 16 + 1 * (y 0).val = 0 * 16 + (y 0).val; omega)
  have f1 : (((View.whole main_v23_4).slice (win0_16.rect t)).emb y 1).val = 0 * 64 + (y 1).val := e1.trans (by show 0 * 64 + 1 * (y 1).val = 0 * 64 + (y 1).val; omega)
  have f2 : (((View.whole main_v23_4).slice (win0_16.rect t)).emb y 2).val = t.val * 512 + (y 2).val := e2.trans (by show t.val * 512 + 1 * (y 2).val = t.val * 512 + (y 2).val; omega)
  have y0 : (y 0).val < 16 := (y 0).isLt
  have y1 : (y 1).val < 64 := (y 1).isLt
  have y2 : (y 2).val < 512 := (y 2).isLt
  blk_simp
  rw [after0_16]
  unfold outsAt0
  dsimp only
  rw [o16 (hT := blk_ti m c t)]
  have hR : row t.val (y 2).val = (((View.whole main_v23_4).slice (win0_16.rect t)).emb y 2) := Fin.ext (by show (t.val * 512 + (y 2).val) % 16384 = (((View.whole main_v23_4).slice (win0_16.rect t)).emb y 2).val; omega)
  have h0 : (y 0).val = (((View.whole main_v23_4).slice (win0_16.rect t)).emb y 0).val := by omega
  have h1 : (y 1).val = (((View.whole main_v23_4).slice (win0_16.rect t)).emb y 1).val := by omega
  unfold qv
  show _ = ri _ _ _ _ _ (((View.whole main_v23_4).slice (win0_16.rect t)).emb y 2) (5120 + 64 * (((View.whole main_v23_4).slice (win0_16.rect t)).emb y 0).val) (((View.whole main_v23_4).slice (win0_16.rect t)).emb y 1).val
  rw [← h0, ← h1]
  unfold ri
  rw [pz_eq m c t (y 2) _ hR]
  exact rop_congr 64 (by decide) y1 fun j hj => col_eq m c t (y 2) _ _ _ hR rfl (by omega)

/-- The array of the index keys the call leaves. -/
theorem final17 (c : Dev nD) : (dats m 0 c).arrAt 17 cfg0.N = F17 m c := by
  refine (dats m 0 c).arrAt_eq_of_covers 17 _ (by decide +kernel) fun t _ y => ?_
  have ht : t.val < 32 := lt_of_lt_of_eq t.isLt N_0
  have hw : win0_17.index t = ![t.val, 0] := (idxR t).2.2.2.2.2.2
  have e0 : (((View.whole main_v23_5).slice (win0_17.rect t)).emb y 0).val = win0_17.index t (0 : Fin 2) * 512 + 1 * (y 0).val := rfl
  have e1 : (((View.whole main_v23_5).slice (win0_17.rect t)).emb y 1).val = win0_17.index t (1 : Fin 2) * 64 + 1 * (y 1).val := rfl
  rw [hw] at e0 e1
  have f0 : (((View.whole main_v23_5).slice (win0_17.rect t)).emb y 0).val = t.val * 512 + (y 0).val := e0.trans (by show t.val * 512 + 1 * (y 0).val = t.val * 512 + (y 0).val; omega)
  have f1 : (((View.whole main_v23_5).slice (win0_17.rect t)).emb y 1).val = 0 * 64 + (y 1).val := e1.trans (by show 0 * 64 + 1 * (y 1).val = 0 * 64 + (y 1).val; omega)
  have y0 : (y 0).val < 512 := (y 0).isLt
  have y1 : (y 1).val < 64 := (y 1).isLt
  blk_simp
  rw [after0_17]
  unfold outsAt0
  dsimp only
  rw [o17 (hT := blk_ti m c t)]
  have hR : row t.val (y 0).val = (((View.whole main_v23_5).slice (win0_17.rect t)).emb y 0) := Fin.ext (by show (t.val * 512 + (y 0).val) % 16384 = (((View.whole main_v23_5).slice (win0_17.rect t)).emb y 0).val; omega)
  have h1 : (y 1).val = (((View.whole main_v23_5).slice (win0_17.rect t)).emb y 1).val := by omega
  unfold iv
  show _ = ri _ _ _ _ _ (((View.whole main_v23_5).slice (win0_17.rect t)).emb y 0) 6144 (((View.whole main_v23_5).slice (win0_17.rect t)).emb y 1).val
  rw [← h1]
  unfold ri
  rw [pz_eq m c t (y 0) _ hR]
  exact rop_congr 64 (by decide) y1 fun j hj => col_eq m c t (y 0) _ _ _ hR rfl (by omega)

end Cert.Kernel2Ideal.Proj
-- ==== Proof.RopeRef.lean ====
module

public import proofs.«01_k».proof.Proof.RopeResult
public import proofs.«01_k».proof.Proof.ProjRef

@[expose] public section

set_option maxRecDepth 16384

noncomputable section

namespace Cert.Reference2Ideal.Proj

open Cert.Reference2Ideal Cert.Reference2Ideal.Gen Cert.Reference2Ideal.Value Idealize.ShloMosaic Idealize.ShloMosaic.TcCoe Idealize.SL.Sem
open Cert.Kernel2Ideal.Proj (bat pos pj rop nrm frB frI pc pz rk ri)

variable (V : Valuation τ sig (Elt Ideal))

/-- The reference's words for the heads of 128 channels are the table's first words. -/
theorem wordsB : ∀ j : Fin 16, lit0 j = Cert.Kernel2Ideal.lit0 ⟨j.val, by omega⟩ := by decide +kernel
/-- The reference's words for the index queries are the table's first words. -/
theorem wordsQ : ∀ j : Fin 8, lit1 j = Cert.Kernel2Ideal.lit1 ⟨j.val, by omega⟩ := by decide +kernel
/-- The reference's words for the index keys are the table's first words. -/
theorem wordsI : ∀ j : Fin 8, lit2 j = Cert.Kernel2Ideal.lit1 ⟨j.val, by omega⟩ := by decide +kernel

/-- A frequency of the heads of 128 channels is its word. -/
theorem frB_word (j : ℕ) (h : j < 16) : frB j = Ideal.ofBits .f32 (lit0 ⟨j, h⟩) := by
  rw [wordsB]
  refine (Cert.Kernel2Ideal.Proj.tabB_apply 0 _).trans (congrArg (fun q => Ideal.ofBits .f32 (Cert.Kernel2Ideal.lit0 q)) (Fin.ext ?_))
  show 128 * 0 + j % 128 = j
  omega
/-- A frequency of the index queries is its word. -/
theorem frI_word (j : ℕ) (h : j < 8) : frI j = Ideal.ofBits .f32 (lit1 ⟨j, h⟩) := by
  rw [wordsQ]
  refine (Cert.Kernel2Ideal.Proj.tabI_apply 0 _).trans (congrArg (fun q => Ideal.ofBits .f32 (Cert.Kernel2Ideal.lit1 q)) (Fin.ext ?_))
  show 128 * 0 + j % 128 = j
  omega
/-- A frequency of the index keys is its word. -/
theorem frI_word' (j : ℕ) (h : j < 8) : frI j = Ideal.ofBits .f32 (lit2 ⟨j, h⟩) := by
  rw [wordsI]
  refine (Cert.Kernel2Ideal.Proj.tabI_apply 0 _).trans (congrArg (fun q => Ideal.ofBits .f32 (Cert.Kernel2Ideal.lit1 q)) (Fin.ext ?_))
  show 128 * 0 + j % 128 = j
  omega

/-- The rotation, place by place. -/
theorem rop_eq {half : ℕ} {w : ℕ → EReal} {p : EReal} {x : ℕ → EReal} {j : ℕ} {e : EReal}
    (h1 : j < half → e = x j * Ideal.cos (p * w j) - x (j + half) * Ideal.sin (p * w j))
    (h2 : half ≤ j → j < 2 * half → e = x j * Ideal.cos (p * w (j - half)) + x (j - half) * Ideal.sin (p * w (j - half)))
    (h3 : 2 * half ≤ j → e = x j) : e = rop half w p x j := by
  unfold rop
  split
  · exact h1 ‹_›
  · split
    · exact h2 (by omega) ‹_›
    · exact h3 (by omega)

/-- The angles of the keys. -/
theorem v142_apply (b : Fin 4) (s : Fin 4096) (j : Fin 16) (R : Fin 16384) (hb : bat R = b) (hs : pos R = s) :
    (res_main_v142 V : FVec Ideal S4x4096x16 .f32) (ix3 b s j) = pz (V (Proc.devRef .tc main_arg3)) R * frB j.val := by
  subst hb hs
  rw [frB_word j.val j.isLt]
  pointwise [res_main_v142, pz]
  exact Ideal.mul_congr rfl (congrArg (fun q => Ideal.ofBits .f32 (lit0 q)) (Fin.ext (Shape.rowMajor_val_one _)))
/-- The angles of the index queries. -/
theorem v169_apply (b : Fin 4) (s : Fin 4096) (j : Fin 8) (R : Fin 16384) (hb : bat R = b) (hs : pos R = s) :
    (res_main_v169 V : FVec Ideal S4x4096x8 .f32) (ix3 b s j) = pz (V (Proc.devRef .tc main_arg3)) R * frI j.val := by
  subst hb hs
  rw [frI_word j.val j.isLt]
  pointwise [res_main_v169, pz]
  exact Ideal.mul_congr rfl (congrArg (fun q => Ideal.ofBits .f32 (lit1 q)) (Fin.ext (Shape.rowMajor_val_one _)))
/-- The angles of the index keys. -/
theorem v196_apply (b : Fin 4) (s : Fin 4096) (j : Fin 8) (R : Fin 16384) (hb : bat R = b) (hs : pos R = s) :
    (res_main_v196 V : FVec Ideal S4x4096x8 .f32) (ix3 b s j) = pz (V (Proc.devRef .tc main_arg3)) R * frI j.val := by
  subst hb hs
  rw [frI_word' j.val j.isLt]
  pointwise [res_main_v196, pz]
  exact Ideal.mul_congr rfl (congrArg (fun q => Ideal.ofBits .f32 (lit2 q)) (Fin.ext (Shape.rowMajor_val_one _)))

/-- The projection's columns, numbered. -/
theorem v25_pc (b : Fin 4) (s : Fin 4096) (n : Fin 6224) (R : Fin 16384) (hb : bat R = b) (hs : pos R = s) (n' : ℕ) (hn : n.val = n') :
    (res_main_v25 V : FVec Ideal S4x4096x6224 .f32) (ix3 b s n)
      = pc (V (Proc.devRef .tc main_arg0)) (V (Proc.devRef .tc main_arg1)) (V (Proc.devRef .tc main_arg2)) (V (Proc.devRef .tc main_arg4)) R n' := by
  subst hn
  exact (v25_apply V b s n R hb hs).trans (congrArg (pj _ _ _ _ R) (Fin.ext (by show n.val = n.val % 6224; omega)))

/-- The keys' channels, by head. -/
theorem v122_apply (b : Fin 4) (s : Fin 4096) (h : Fin 8) (l : Fin 128) (R : Fin 16384) (hb : bat R = b) (hs : pos R = s) :
    (res_main_v122 V : FVec Ideal S4x4096x8x128 .f32) (ix4 b s h l)
      = pc (V (Proc.devRef .tc main_arg0)) (V (Proc.devRef .tc main_arg1)) (V (Proc.devRef .tc main_arg2)) (V (Proc.devRef .tc main_arg4)) R (3072 + 128 * h.val + l.val) := by
  pointwise [res_main_v122]
  exact v25_pc V b s _ R hb hs _ (by show 3072 + (h.val * 128 + l.val) = 3072 + 128 * h.val + l.val; omega)

/-- The keys normed, by head. -/
theorem v136_apply (b : Fin 4) (s : Fin 4096) (h : Fin 8) (l : Fin 128) (R : Fin 16384) (hb : bat R = b) (hs : pos R = s) :
    (res_main_v136 V : FVec Ideal S4x4096x8x128 .f32) (ix4 b s h l)
      = nrm (fun k => pc (V (Proc.devRef .tc main_arg0)) (V (Proc.devRef .tc main_arg1)) (V (Proc.devRef .tc main_arg2)) (V (Proc.devRef .tc main_arg4)) R (3072 + 128 * h.val + k.val))
          (fun k => (V (Proc.devRef .tc main_arg10) : FVec Ideal S1x128 .f32) (ix2 0 k)) l := by
  have hv (k : Fin 128) := v122_apply V b s h k R hb hs
  pointwise [res_main_v136]
  unfold nrm
  exact Ideal.mul_congr (Ideal.mul_congr (hv l) (congrArg Ideal.rsqrt (Ideal.add_congr (congrArg₂ Ideal.div (Finset.sum_congr rfl fun k _ => Ideal.mul_congr (hv k) (hv k)) rfl) rfl))) rfl

/-- The index queries' channels, by head. -/
theorem v163_apply (b : Fin 4) (s : Fin 4096) (h : Fin 16) (l : Fin 64) (R : Fin 16384) (hb : bat R = b) (hs : pos R = s) :
    (res_main_v163 V : FVec Ideal S4x4096x16x64 .f32) (ix4 b s h l)
      = pc (V (Proc.devRef .tc main_arg0)) (V (Proc.devRef .tc main_arg1)) (V (Proc.devRef .tc main_arg2)) (V (Proc.devRef .tc main_arg4)) R (5120 + 64 * h.val + l.val) := by
  pointwise [res_main_v163]
  exact v25_pc V b s _ R hb hs _ (by show 5120 + (h.val * 64 + l.val) = 5120 + 64 * h.val + l.val; omega)

/-- The index keys' channels. -/
theorem v190_apply (b : Fin 4) (s : Fin 4096) (l : Fin 64) (R : Fin 16384) (hb : bat R = b) (hs : pos R = s) :
    (res_main_v190 V : FVec Ideal S4x4096x1x64 .f32) (ix4 b s 0 l)
      = pc (V (Proc.devRef .tc main_arg0)) (V (Proc.devRef .tc main_arg1)) (V (Proc.devRef .tc main_arg2)) (V (Proc.devRef .tc main_arg4)) R (6144 + l.val) := by
  pointwise [res_main_v190]
  exact v25_pc V b s _ R hb hs _ rfl

/-- The reference's rotation of the keys. -/
def refKr : FVec Ideal S4x4096x8x128 .f32 :=
  concatenate S4x4096x8x128 3 [⟨S4x4096x8x32, (concatenate S4x4096x8x32 3 [⟨S4x4096x8x16, (subf (mulf (res_main_v148 V) (broadcastInDim S4x4096x8x16 ![0, 1, 2, 3] bcast_S4x4096x1x16_S4x4096x8x16_0_1_2_3 (res_main_v144 V))) (mulf (res_main_v149 V) (broadcastInDim S4x4096x8x16 ![0, 1, 2, 3] bcast_S4x4096x1x16_S4x4096x8x16_0_1_2_3 (res_main_v146 V))))⟩, ⟨S4x4096x8x16, (addf (mulf (res_main_v149 V) (broadcastInDim S4x4096x8x16 ![0, 1, 2, 3] bcast_S4x4096x1x16_S4x4096x8x16_0_1_2_3 (res_main_v144 V))) (mulf (res_main_v148 V) (broadcastInDim S4x4096x8x16 ![0, 1, 2, 3] bcast_S4x4096x1x16_S4x4096x8x16_0_1_2_3 (res_main_v146 V))))⟩] concatenates_S4x4096x8x16_S4x4096x8x16_S4x4096x8x32_d3)⟩, ⟨S4x4096x8x96, (extractStridedSlice S4x4096x8x96 ![0, 0, 0, 32] (res_main_v136 V) slices_S4x4096x8x128_S4x4096x8x96_0_0_0_32)⟩] concatenates_S4x4096x8x32_S4x4096x8x96_S4x4096x8x128_d3

/-- The reference's rotation of the keys, entry by entry. -/
theorem refKr_apply (b : Fin 4) (s : Fin 4096) (h : Fin 8) (l : Fin 128) (R : Fin 16384) (hb : bat R = b) (hs : pos R = s) :
    refKr V (ix4 b s h l) = rk (V (Proc.devRef .tc main_arg0)) (V (Proc.devRef .tc main_arg1)) (V (Proc.devRef .tc main_arg2)) (V (Proc.devRef .tc main_arg3)) (V (Proc.devRef .tc main_arg4)) (V (Proc.devRef .tc main_arg10)) R (128 * h.val + l.val) := by
  have hl := l.isLt
  have e1 : (128 * h.val + l.val) % 128 = l.val := by omega
  have e2 : 128 * ((128 * h.val + l.val) / 128) = 128 * h.val := by omega
  unfold rk
  rw [e1, e2]
  have hx (k : Fin 128) (j : ℕ) (hj : k.val = j) := (v136_apply V b s h k R hb hs).trans (congrArg (nrm _ _) (Fin.ext (by show k.val = j % 128; omega) : k = ⟨j % 128, Nat.mod_lt _ (by decide)⟩))
  have hw (j : Fin 16) := v142_apply V b s j R hb hs
  refine rop_eq (fun h1 => ?_) (fun h1 h2 => ?_) (fun h1 => ?_)
  · pointwise [refKr, res_main_v148, res_main_v149, res_main_v147, res_main_v144, res_main_v146]
    rw [dif_pos (by omega), dif_pos h1]
    exact congrArg₂ (fun a b : EReal => a - b) (Ideal.mul_congr (hx _ _ rfl) (congrArg Ideal.cos (hw _))) (Ideal.mul_congr (hx _ _ (Nat.add_comm 16 _)) (congrArg Ideal.sin (hw _)))
  · pointwise [refKr, res_main_v148, res_main_v149, res_main_v147, res_main_v144, res_main_v146]
    rw [dif_pos (by omega), dif_neg (by omega)]
    exact Ideal.add_congr (Ideal.mul_congr (hx _ _ (Nat.add_sub_cancel' h1)) (congrArg Ideal.cos (hw _))) (Ideal.mul_congr (hx _ _ rfl) (congrArg Ideal.sin (hw _)))
  · pointwise [refKr, res_main_v148, res_main_v149, res_main_v147, res_main_v144, res_main_v146]
    rw [dif_neg (by omega)]
    exact hx _ _ (Nat.add_sub_cancel' h1)

/-- The reference's rotation of the index queries. -/
def refQr : FVec Ideal S4x4096x16x64 .f32 :=
  concatenate S4x4096x16x64 3 [⟨S4x4096x16x16, (concatenate S4x4096x16x16 3 [⟨S4x4096x16x8, (subf (mulf (res_main_v175 V) (broadcastInDim S4x4096x16x8 ![0, 1, 2, 3] bcast_S4x4096x1x8_S4x4096x16x8_0_1_2_3 (res_main_v171 V))) (mulf (res_main_v176 V) (broadcastInDim S4x4096x16x8 ![0, 1, 2, 3] bcast_S4x4096x1x8_S4x4096x16x8_0_1_2_3 (res_main_v173 V))))⟩, ⟨S4x4096x16x8, (addf (mulf (res_main_v176 V) (broadcastInDim S4x4096x16x8 ![0, 1, 2, 3] bcast_S4x4096x1x8_S4x4096x16x8_0_1_2_3 (res_main_v171 V))) (mulf (res_main_v175 V) (broadcastInDim S4x4096x16x8 ![0, 1, 2, 3] bcast_S4x4096x1x8_S4x4096x16x8_0_1_2_3 (res_main_v173 V))))⟩] concatenates_S4x4096x16x8_S4x4096x16x8_S4x4096x16x16_d3)⟩, ⟨S4x4096x16x48, (extractStridedSlice S4x4096x16x48 ![0, 0, 0, 16] (res_main_v163 V) slices_S4x4096x16x64_S4x4096x16x48_0_0_0_16)⟩] concatenates_S4x4096x16x16_S4x4096x16x48_S4x4096x16x64_d3

/-- The reference's rotation of the index queries, entry by entry. -/
theorem refQr_apply (b : Fin 4) (s : Fin 4096) (h : Fin 16) (l : Fin 64) (R : Fin 16384) (hb : bat R = b) (hs : pos R = s) :
    refQr V (ix4 b s h l) = ri (V (Proc.devRef .tc main_arg0)) (V (Proc.devRef .tc main_arg1)) (V (Proc.devRef .tc main_arg2)) (V (Proc.devRef .tc main_arg3)) (V (Proc.devRef .tc main_arg4)) R (5120 + 64 * h.val) l.val := by
  have hl := l.isLt
  unfold ri
  have hx (k : Fin 64) (j : ℕ) (hj : k.val = j) := (v163_apply V b s h k R hb hs).trans (congrArg (fun j => pc (V (Proc.devRef .tc main_arg0)) (V (Proc.devRef .tc main_arg1)) (V (Proc.devRef .tc main_arg2)) (V (Proc.devRef .tc main_arg4)) R (5120 + 64 * h.val + j)) hj)
  have hw (j : Fin 8) := v169_apply V b s j R hb hs
  refine rop_eq (fun h1 => ?_) (fun h1 h2 => ?_) (fun h1 => ?_)
  · pointwise [refQr, res_main_v175, res_main_v176, res_main_v174, res_main_v171, res_main_v173]
    rw [dif_pos (by omega), dif_pos h1]
    exact congrArg₂ (fun a b : EReal => a - b) (Ideal.mul_congr (hx _ _ rfl) (congrArg Ideal.cos (hw _))) (Ideal.mul_congr (hx _ _ (Nat.add_comm 8 _)) (congrArg Ideal.sin (hw _)))
  · pointwise [refQr, res_main_v175, res_main_v176, res_main_v174, res_main_v171, res_main_v173]
    rw [dif_pos (by omega), dif_neg (by omega)]
    exact Ideal.add_congr (Ideal.mul_congr (hx _ _ (Nat.add_sub_cancel' h1)) (congrArg Ideal.cos (hw _))) (Ideal.mul_congr (hx _ _ rfl) (congrArg Ideal.sin (hw _)))
  · pointwise [refQr, res_main_v175, res_main_v176, res_main_v174, res_main_v171, res_main_v173]
    rw [dif_neg (by omega)]
    exact hx _ _ (Nat.add_sub_cancel' h1)

/-- The reference's rotation of the index keys. -/
def refIr : FVec Ideal S4x4096x1x64 .f32 :=
  concatenate S4x4096x1x64 3 [⟨S4x4096x1x16, (concatenate S4x4096x1x16 3 [⟨S4x4096x1x8, (subf (mulf (res_main_v202 V) (res_main_v198 V)) (mulf (res_main_v203 V) (res_main_v200 V)))⟩, ⟨S4x4096x1x8, (addf (mulf (res_main_v203 V) (res_main_v198 V)) (mulf (res_main_v202 V) (res_main_v200 V)))⟩] concatenates_S4x4096x1x8_S4x4096x1x8_S4x4096x1x16_d3)⟩, ⟨S4x4096x1x48, (extractStridedSlice S4x4096x1x48 ![0, 0, 0, 16] (res_main_v190 V) slices_S4x4096x1x64_S4x4096x1x48_0_0_0_16)⟩] concatenates_S4x4096x1x16_S4x4096x1x48_S4x4096x1x64_d3

/-- The reference's rotation of the index keys, entry by entry. -/
theorem refIr_apply (b : Fin 4) (s : Fin 4096) (l : Fin 64) (R : Fin 16384) (hb : bat R = b) (hs : pos R = s) :
    refIr V (ix4 b s 0 l) = ri (V (Proc.devRef .tc main_arg0)) (V (Proc.devRef .tc main_arg1)) (V (Proc.devRef .tc main_arg2)) (V (Proc.devRef .tc main_arg3)) (V (Proc.devRef .tc main_arg4)) R 6144 l.val := by
  have hl := l.isLt
  unfold ri
  have hx (k : Fin 64) (j : ℕ) (hj : k.val = j) := (v190_apply V b s k R hb hs).trans (congrArg (fun j => pc (V (Proc.devRef .tc main_arg0)) (V (Proc.devRef .tc main_arg1)) (V (Proc.devRef .tc main_arg2)) (V (Proc.devRef .tc main_arg4)) R (6144 + j)) hj)
  have hw (j : Fin 8) := v196_apply V b s j R hb hs
  refine rop_eq (fun h1 => ?_) (fun h1 h2 => ?_) (fun h1 => ?_)
  · pointwise [refIr, res_main_v202, res_main_v203, res_main_v201, res_main_v198, res_main_v200]
    rw [dif_pos (by omega), dif_pos h1]
    exact congrArg₂ (fun a b : EReal => a - b) (Ideal.mul_congr (hx _ _ rfl) (congrArg Ideal.cos (hw _))) (Ideal.mul_congr (hx _ _ (Nat.add_comm 8 _)) (congrArg Ideal.sin (hw _)))
  · pointwise [refIr, res_main_v202, res_main_v203, res_main_v201, res_main_v198, res_main_v200]
    rw [dif_pos (by omega), dif_neg (by omega)]
    exact Ideal.add_congr (Ideal.mul_congr (hx _ _ (Nat.add_sub_cancel' h1)) (congrArg Ideal.cos (hw _))) (Ideal.mul_congr (hx _ _ rfl) (congrArg Ideal.sin (hw _)))
  · pointwise [refIr, res_main_v202, res_main_v203, res_main_v201, res_main_v198, res_main_v200]
    rw [dif_neg (by omega)]
    exact hx _ _ (Nat.add_sub_cancel' h1)

/-- The reference's keys. -/
def refK : FVec Ideal S16384x1024 .bf16 := truncf .bf16 (shapeCast _ (refKr V) shapeCasts_S4x4096x8x128_S16384x1024) bitsLt_bf16_f32

/-- The reference's keys, entry by entry. -/
theorem k_apply (R : Fin 16384) (n : Fin 1024) : refK V (ix2 R n) = rk (V (Proc.devRef .tc main_arg0)) (V (Proc.devRef .tc main_arg1)) (V (Proc.devRef .tc main_arg2)) (V (Proc.devRef .tc main_arg3)) (V (Proc.devRef .tc main_arg4)) (V (Proc.devRef .tc main_arg10)) R n.val := by
  unfold refK
  pointwise
  exact (refKr_apply V _ _ _ _ R rfl rfl).trans (congrArg (rk (V (Proc.devRef .tc main_arg0)) (V (Proc.devRef .tc main_arg1)) (V (Proc.devRef .tc main_arg2)) (V (Proc.devRef .tc main_arg3)) (V (Proc.devRef .tc main_arg4)) (V (Proc.devRef .tc main_arg10)) R) (by show 128 * (n.val / 128) + n.val % 128 = n.val; omega))

/-- The reference's transposed index queries. -/
def refQ : FVec Ideal S16x64x16384 .bf16 := truncf .bf16 (transpose S16x64x16384 [1, 2, 0] (shapeCast _ (refQr V) shapeCasts_S4x4096x16x64_S16384x16x64) transposes_S16384x16x64_S16x64x16384_1_2_0) bitsLt_bf16_f32

/-- The reference's transposed index queries, entry by entry. -/
theorem qit_apply (h : Fin 16) (l : Fin 64) (R : Fin 16384) : refQ V (ix3 h l R) = ri (V (Proc.devRef .tc main_arg0)) (V (Proc.devRef .tc main_arg1)) (V (Proc.devRef .tc main_arg2)) (V (Proc.devRef .tc main_arg3)) (V (Proc.devRef .tc main_arg4)) R (5120 + 64 * h.val) l.val := by
  unfold refQ
  pointwise
  exact refQr_apply V _ _ h l R rfl rfl

/-- The reference's index keys. -/
def refX : FVec Ideal S16384x64 .bf16 := truncf .bf16 (shapeCast _ (shapeCast _ (refIr V) shapeCasts_S4x4096x1x64_S4x4096x64) shapeCasts_S4x4096x64_S16384x64) bitsLt_bf16_f32

/-- The reference's index keys, entry by entry. -/
theorem ki_apply (R : Fin 16384) (l : Fin 64) : refX V (ix2 R l) = ri (V (Proc.devRef .tc main_arg0)) (V (Proc.devRef .tc main_arg1)) (V (Proc.devRef .tc main_arg2)) (V (Proc.devRef .tc main_arg3)) (V (Proc.devRef .tc main_arg4)) R 6144 l.val := by
  unfold refX
  pointwise
  exact refIr_apply V _ _ l R rfl rfl

end Cert.Reference2Ideal.Proj
-- ==== Proof.Out.lean ====
module

public import proofs.«01_k».proof.Proof.Gen.Kernel3Ideal.Value
public import proofs.«01_k».proof.Proof.Gen.Reference3Ideal.Run
public import Idealize.ShloMosaic.Lib.Pipeline.ValueKit
public import Idealize.ShloMosaic.Lib.Pointwise
public import Idealize.ShloMosaic.Lib.Claim

@[expose] public section

set_option maxRecDepth 16384

noncomputable section

namespace Cert.Kernel3Ideal.Out

open Cert.Kernel3Ideal Cert.Kernel3Ideal.Gen Idealize.ShloMosaic Idealize.ShloMosaic.TcCoe Idealize.SL.Sem
open Idealize.ShloMosaic.Pipeline (Dat)

/-- Row `r` of row block `q`, among the 16384 rows. -/
def row (q r : ℕ) : Fin 16384 := ⟨(q * 512 + r) % 16384, Nat.mod_lt _ (by decide)⟩
/-- The sequence a row lies in. -/
def bat (R : Fin 16384) : Fin 4 := ⟨R / 4096, by omega⟩
/-- The place of a row in its sequence. -/
def pos (R : Fin 16384) : Fin 4096 := ⟨R % 4096, by omega⟩

/-- The stream after the mixer: the row plus the gated projection of the two head groups. -/
def mix (X : FVec Ideal S4x4096x2048 .f32) (M : FVec Ideal S4x18432 .f32) (GA GB : FVec Ideal S16384x1024 .f32) (W : FVec Ideal S1x2048x2048 .f32) (R : Fin 16384) (d : Fin 2048) : EReal :=
  X (ix3 (bat R) (pos R) d) + M (ix2 (bat R) ⟨10240 + d, by omega⟩)
    * (∑ k : Fin 1024, GA (ix2 R k) * W (ix3 0 ⟨k, by omega⟩ d) + ∑ k : Fin 1024, GB (ix2 R k) * W (ix3 0 ⟨1024 + k, by omega⟩ d))

variable (m : (ℓ : Loc nD τ sig) → Buf (Elt Ideal) ℓ)

/-- The block each window shows at each grid point. -/
theorem idx : ∀ t : Fin cfg0.N, win0_0.index t = ![t.val, 0] ∧ win0_1.index t = ![t.val / 8, 0, 0] ∧ win0_2.index t = ![t.val, 0]
    ∧ win0_3.index t = ![t.val, 0] ∧ win0_4.index t = ![0, 0] ∧ win0_5.index t = ![t.val, 0] :=
  (by decide +kernel : ∀ t : Fin grid0.N, _)

/-- The block of the stream at a point, as rows of the input. -/
theorem blk_x (c : Dev nD) (t : Fin cfg0.N) (r : Fin 512) (d : Fin 2048) :
    (iblk m c 0 t : FVec Ideal S512x2048 .f32) (ix2 r d) = (m ((c : Thread nD τ).loc main_arg0) : FVec Ideal S4x4096x2048 .f32) (ix3 (bat (row t.val r)) (pos (row t.val r)) d) := by
  have ht : t.val < 32 := lt_of_lt_of_eq t.isLt N_0
  blk_simp [iblk, idx t]
  entry_read
  pointwise
  blk_ext [idx t, bat, pos, row]

/-- The modulation block at a point: the sixth row of its sequence is the gate. -/
theorem blk_m (c : Dev nD) (t : Fin cfg0.N) (r : Fin 512) (d : Fin 2048) :
    (iblk m c 1 t : FVec Ideal S1x9x2048 .f32) (ix3 0 5 d) = (m ((c : Thread nD τ).loc main_arg1) : FVec Ideal S4x18432 .f32) (ix2 (bat (row t.val r)) ⟨10240 + d, by omega⟩) := by
  have ht : t.val < 32 := lt_of_lt_of_eq t.isLt N_0
  blk_simp [iblk, idx t]
  entry_read
  pointwise
  blk_ext [idx t, bat, pos, row]

/-- The first head group's block at a point. -/
theorem blk_a (c : Dev nD) (t : Fin cfg0.N) (r : Fin 512) (k : Fin 1024) :
    (iblk m c 2 t : FVec Ideal S512x1024 .bf16) (ix2 r k) = (m ((c : Thread nD τ).loc main_arg2) : FVec Ideal S16384x1024 .f32) (ix2 (row t.val r) k) := by
  have ht : t.val < 32 := lt_of_lt_of_eq t.isLt N_0
  blk_simp [iblk, idx t]
  entry_read
  pointwise
  blk_ext [idx t, bat, pos, row]

/-- The second head group's block at a point. -/
theorem blk_b (c : Dev nD) (t : Fin cfg0.N) (r : Fin 512) (k : Fin 1024) :
    (iblk m c 3 t : FVec Ideal S512x1024 .bf16) (ix2 r k) = (m ((c : Thread nD τ).loc main_arg3) : FVec Ideal S16384x1024 .f32) (ix2 (row t.val r) k) := by
  have ht : t.val < 32 := lt_of_lt_of_eq t.isLt N_0
  blk_simp [iblk, idx t]
  entry_read
  pointwise
  blk_ext [idx t, bat, pos, row]

/-- The weight block is the weight. -/
theorem blk_w (c : Dev nD) (t : Fin cfg0.N) (k d : Fin 2048) :
    (iblk m c 4 t : FVec Ideal S2048x2048 .bf16) (ix2 k d) = (m ((c : Thread nD τ).loc main_arg4) : FVec Ideal S1x2048x2048 .f32) (ix3 0 k d) := by
  have ht : t.val < 32 := lt_of_lt_of_eq t.isLt N_0
  blk_simp [iblk, idx t]
  entry_read
  pointwise
  blk_ext [idx t, bat, pos, row]

/-- What a point stores, entry by entry. -/
theorem point (c : Dev nD) (t : Fin cfg0.N) (r : Fin 512) (d : Fin 2048) :
    (out0_5 (iblk m c 0 t) (iblk m c 1 t) (iblk m c 2 t) (iblk m c 3 t) (iblk m c 4 t) : FVec Ideal S512x2048 .f32) (ix2 r d)
      = mix (m ((c : Thread nD τ).loc main_arg0)) (m ((c : Thread nD τ).loc main_arg1)) (m ((c : Thread nD τ).loc main_arg2)) (m ((c : Thread nD τ).loc main_arg3)) (m ((c : Thread nD τ).loc main_arg4)) (row t.val r) d := by
  frame_out
  pointwise [k0_pay1]
  unfold mix
  refine Ideal.add_congr (blk_x m c t r d) (Ideal.mul_congr (blk_m m c t r d) (Ideal.add_congr ?_ ?_))
  · exact Finset.sum_congr rfl fun k _ => Ideal.mul_congr (blk_a m c t r k) (blk_w m c t ⟨k, by omega⟩ d)
  · exact Finset.sum_congr rfl fun k _ => Ideal.mul_congr (blk_b m c t r k) (blk_w m c t ⟨1024 + k, by omega⟩ d)

/-- The array the call leaves, entry by entry. -/
theorem final (c : Dev nD) : (dats m 0 c).arrAt 5 cfg0.N = fun z : S16384x2048.Idx => mix (m ((c : Thread nD τ).loc main_arg0)) (m ((c : Thread nD τ).loc main_arg1)) (m ((c : Thread nD τ).loc main_arg2)) (m ((c : Thread nD τ).loc main_arg3)) (m ((c : Thread nD τ).loc main_arg4)) (z 0) (z 1) := by
  refine (dats m 0 c).arrAt_eq_of_covers 5 _ (by decide +kernel) fun t _ y => ?_
  have ht : t.val < 32 := lt_of_lt_of_eq t.isLt N_0
  blk_simp
  rw [after0_5]
  idx_vars y
  refine (point m c t _ _).trans ?_
  have hw : win0_5.index t = ![t.val, 0] := (idx t).2.2.2.2.2
  have e0 : (((View.whole main_v6).slice (win0_5.rect t)).emb (ix2 y0 y1) 0).val = win0_5.index t (0 : Fin 2) * 512 + 1 * y0.val := rfl
  have e1 : (((View.whole main_v6).slice (win0_5.rect t)).emb (ix2 y0 y1) 1).val = win0_5.index t (1 : Fin 2) * 2048 + 1 * y1.val := rfl
  rw [hw] at e0 e1
  refine congrArg₂ (fun R d => mix _ _ _ _ _ R d) (Fin.ext ?_) (Fin.ext ?_)
  · refine Eq.trans ?_ e0.symm
    show (t.val * 512 + y0.val) % 16384 = t.val * 512 + 1 * y0.val
    omega
  · refine Eq.trans ?_ e1.symm
    show y1.val = 0 * 2048 + 1 * y1.val
    omega

end Cert.Kernel3Ideal.Out

namespace Cert.Reference3Ideal.Out

open Cert.Reference3Ideal Cert.Reference3Ideal.Gen Idealize.ShloMosaic Idealize.ShloMosaic.TcCoe Idealize.SL.Sem

/-- The reference's composed term, entry by entry. -/
theorem ref_apply (X : FVec Ideal S4x4096x2048 .f32) (M : FVec Ideal S4x18432 .f32) (GA GB : FVec Ideal S16384x1024 .f32) (W : FVec Ideal S1x2048x2048 .f32) (R : Fin 16384) (d : Fin 2048) :
    (shapeCast S16384x2048 (addf X (mulf (broadcastInDim S4x4096x2048 ![0, 1, 2] bcast_S4x1x2048_S4x4096x2048_0_1_2 (broadcastInDim S4x1x2048 ![0, 2] bcast_S4x2048_S4x1x2048_0_2 (extractStridedSlice S4x2048 ![0, 10240] M slices_S4x18432_S4x2048_0_10240))) (Host.dotGeneral dot_S4x4096x2048_S2048x2048_S4x4096x2048_2_0_01_1_n_n none (shapeCast _ (concatenate S4x4096x16x128 2 [⟨S4x4096x8x128, (shapeCast _ GA shapeCasts_S16384x1024_S4x4096x8x128)⟩, ⟨S4x4096x8x128, (shapeCast _ GB shapeCasts_S16384x1024_S4x4096x8x128)⟩] concatenates_S4x4096x8x128_S4x4096x8x128_S4x4096x16x128_d2) shapeCasts_S4x4096x16x128_S4x4096x2048) (shapeCast _ W shapeCasts_S1x2048x2048_S2048x2048)))) shapeCasts_S4x4096x2048_S16384x2048 : FVec Ideal S16384x2048 .f32) (ix2 R d)
      = Cert.Kernel3Ideal.Out.mix X M GA GB W R d := by
  unfold Cert.Kernel3Ideal.Out.mix Cert.Kernel3Ideal.Out.bat Cert.Kernel3Ideal.Out.pos
  pointwise
  rw [Fin.sum_univ_two_halves 1024 1024 rfl]
  refine Ideal.add_congr rfl (Ideal.mul_congr rfl (Ideal.add_congr ?_ ?_))
  · refine Finset.sum_congr rfl fun k _ => ?_
    rw [dif_pos (show k.val / 128 < 8 by omega)]
    refine Ideal.mul_congr (congrArg (fun j => GA (ix2 R j)) (Fin.ext ?_)) rfl
    show k.val / 128 * 128 + k.val % 128 = k.val
    omega
  · refine Finset.sum_congr rfl fun k _ => ?_
    rw [dif_neg (show ¬(1024 + k.val) / 128 < 8 by omega)]
    refine Ideal.mul_congr (congrArg (fun j => GB (ix2 R j)) (Fin.ext ?_)) rfl
    show ((1024 + k.val) / 128 - 8) * 128 + (1024 + k.val) % 128 = k.val
    omega

end Cert.Reference3Ideal.Out
-- ==== Proof.Ada.lean ====
module

public import proofs.«01_k».proof.Proof.Gen.Kernel4Ideal.Frame
public import proofs.«01_k».proof.Proof.Gen.Reference4Ideal.Run
public import Idealize.ShloMosaic.Lib.Pipeline.ValueKit
public import Idealize.ShloMosaic.Lib.Pointwise
public import Idealize.ShloMosaic.Lib.Claim
public import Idealize.ShloMosaic.Lib.Routing.OpsSet

@[expose] public section

set_option maxRecDepth 16384

noncomputable section

namespace Cert.Kernel4Ideal.Ada

open Cert.Kernel4Ideal Cert.Kernel4Ideal.Gen Idealize.ShloMosaic Idealize.ShloMosaic.TcCoe Idealize.SL.Sem
open Idealize.ShloMosaic.Pipeline (Dat)

/-- One modulation entry: the activated conditioning row times a weight column, plus the bias. -/
def ada (C : FVec Ideal S4x2048 .f32) (W : FVec Ideal S1x2048x18432 .f32) (B : FVec Ideal S1x18432 .f32) (r : Fin 4) (n : Fin 18432) : EReal :=
  (∑ k : Fin 2048, (C (ix2 r k) * Ideal.logistic (C (ix2 r k))) * W (ix3 0 k n)) + B (ix2 0 n)

/-- The conditioning rows laid over the first rows of an eight-row array of zeros, as the call's host lines do it. -/
def pad (C : FVec Ideal S4x2048 .f32) : FVec Ideal S8x2048 .f32 :=
  Host.scatter scatter_S8x2048_S1_S4x2048_01_n_0_0 (fun _ b => b) (broadcastInDim S8x2048 ![] bcast_S_S8x2048 (constant S_ .f32 0x00000000#32)) (broadcastInDim S1 ![] bcast_S_S1 (constantI S_ 32 0#32)) C

/-- The first index word of the padding is zero, so an update keeps its row and its column. -/
theorem lands (idx : IVec S1 32) (hidx : idx (ix1 0) = 0#32) (r' : Fin 4) (k' : Fin 2048) (r : Fin 8) (k : Fin 2048) :
    scatter_S8x2048_S1_S4x2048_01_n_0_0.resultIdx? (ix2 r' k') idx = some (ix2 r k) ↔ r'.val = r.val ∧ k' = k := by
  have hstart1 : scatter_S8x2048_S1_S4x2048_01_n_0_0.start (ix2 r' k') idx 1 = 0 := by
    unfold ScatterDims.start
    rw [dif_neg (by decide)]
  have hstart0 : scatter_S8x2048_S1_S4x2048_01_n_0_0.start (ix2 r' k') idx 0 = 0 := by
    unfold ScatterDims.start
    rw [dif_pos (by decide)]
    have q : ∀ j : S1.Idx, (idx j).toInt = 0 := fun j => by
      obtain rfl : j = ix1 0 := by
        funext b
        match b with
        | ⟨0, _⟩ => exact Subsingleton.elim (α := Fin 1) _ _
      rw [hidx]
      rfl
    exact q _
  have hwin0 : scatter_S8x2048_S1_S4x2048_01_n_0_0.window (ix2 r' k') 0 = r'.val := by
    unfold ScatterDims.window
    rw [dif_pos (by decide)]
    rfl
  have hwin1 : scatter_S8x2048_S1_S4x2048_01_n_0_0.window (ix2 r' k') 1 = k'.val := by
    unfold ScatterDims.window
    rw [dif_pos (by decide)]
    rfl
  rw [Fin.ext_iff]
  refine (Routing.resultIdx?_ix2 scatter_S8x2048_S1_S4x2048_01_n_0_0 (ix2 r' k') idx r k).trans ?_
  rw [hstart0, hwin0, hstart1, hwin1]
  omega

/-- The first four padded rows are the conditioning rows. -/
theorem pad_apply (C : FVec Ideal S4x2048 .f32) (r : Fin 8) (r' : Fin 4) (hr : r'.val = r.val) (k : Fin 2048) : pad C (ix2 r k) = C (ix2 r' k) := by
  unfold pad
  refine Routing.scatter_set_hit _ _ _ C _ _ (fun j hj => ?_) (ix2 r' k) ((lands _ rfl r' k r k).2 ⟨hr, rfl⟩)
  obtain ⟨a, b, rfl⟩ : ∃ (a : Fin 4) (b : Fin 2048), j = ix2 a b := by
    idx_vars j
    exact ⟨_, _, rfl⟩
  obtain ⟨h1, rfl⟩ := (lands _ rfl a b r k).1 hj
  obtain rfl : a = r' := Fin.ext (h1.trans hr.symm)
  rfl

/-- The same over all eight padded rows. -/
def ada8 (C : FVec Ideal S4x2048 .f32) (W : FVec Ideal S1x2048x18432 .f32) (B : FVec Ideal S1x18432 .f32) (r : Fin 8) (n : Fin 18432) : EReal :=
  (∑ k : Fin 2048, (pad C (ix2 r k) * Ideal.logistic (pad C (ix2 r k))) * W (ix3 0 k n)) + B (ix2 0 n)

/-- On the first four rows the padding is not seen. -/
theorem ada8_eq (C : FVec Ideal S4x2048 .f32) (W : FVec Ideal S1x2048x18432 .f32) (B : FVec Ideal S1x18432 .f32) (r : Fin 8) (r' : Fin 4) (hr : r'.val = r.val) (n : Fin 18432) :
    ada8 C W B r n = ada C W B r' n := by
  unfold ada8 ada
  simp only [pad_apply C r r' hr]

variable (m : (ℓ : Loc nD τ sig) → Buf (Elt Ideal) ℓ)

/-- The block each window shows at each grid point. -/
theorem idx : ∀ t : Fin cfg0.N, win0_0.index t = ![0, 0] ∧ win0_1.index t = ![0, t.val] ∧ win0_2.index t = ![0, t.val] ∧ win0_3.index t = ![0, t.val] :=
  (by decide +kernel : ∀ t : Fin grid0.N, _)

/-- The padded rows as the call meets them. -/
def V_v2 (c : Dev nD) : FVec Ideal S8x2048 .f32 :=
  StableHlo.after (List.flatten [hostOps0 (F := Ideal)]) (fun b => m (c, b)) (Proc.tc.devRef main_v2)

/-- They are the padding of the argument. -/
theorem V_v2_eq (c : Dev nD) : V_v2 m c = pad (m ((c : Thread nD τ).loc main_arg0)) := by
  unfold V_v2 pad
  simp only [hostOps0, List.flatten_cons, List.flatten_nil, List.append_nil]
  after_results <;> rfl

/-- The weight as the call meets it. -/
theorem V_v3_eq (c : Dev nD) : (StableHlo.after (List.flatten [hostOps0 (F := Ideal)]) (fun b => m (c, b)) (Proc.tc.devRef main_v3) : FVec Ideal S2048x18432 .f32)
    = shapeCast _ (m ((c : Thread nD τ).loc main_arg1) : FVec Ideal S1x2048x18432 .f32) shapeCasts_S1x2048x18432_S2048x18432 := by
  simp only [hostOps0, List.flatten_cons, List.flatten_nil, List.append_nil]
  after_results <;> rfl

/-- The bias as the call meets it. -/
theorem V_v5_eq (c : Dev nD) : (StableHlo.after (List.flatten [hostOps0 (F := Ideal)]) (fun b => m (c, b)) (Proc.tc.devRef main_v5) : FVec Ideal S1x18432 .f32)
    = broadcastInDim S1x18432 ![1] bcast_S18432_S1x18432_1 (shapeCast _ (m ((c : Thread nD τ).loc main_arg2) : FVec Ideal S1x18432 .f32) shapeCasts_S1x18432_S18432) := by
  simp only [hostOps0, List.flatten_cons, List.flatten_nil, List.append_nil]
  after_results <;> rfl

/-- The weight without its leading axis. -/
theorem cast_w (W : FVec Ideal S1x2048x18432 .f32) (k : Fin 2048) (n : Fin 18432) : shapeCast S2048x18432 W shapeCasts_S1x2048x18432_S2048x18432 (ix2 k n) = W (ix3 0 k n) := by
  pointwise

/-- The bias flattened and laid as a row again. -/
theorem cast_b (B : FVec Ideal S1x18432 .f32) (n : Fin 18432) : broadcastInDim S1x18432 ![1] bcast_S18432_S1x18432_1 (shapeCast S18432 B shapeCasts_S1x18432_S18432) (ix2 0 n) = B (ix2 0 n) := by
  pointwise

/-- The weight block at a point. -/
theorem blk_w (c : Dev nD) (t : Fin cfg0.N) (k : Fin 2048) (n : Fin 1024) (n' : Fin 18432) (hn : n'.val = t.val * 1024 + n.val) :
    (iblk m c 1 t : FVec Ideal S2048x1024 .f32) (ix2 k n) = (m ((c : Thread nD τ).loc main_arg1) : FVec Ideal S1x2048x18432 .f32) (ix3 0 k n') := by
  have ht : t.val < 18 := lt_of_lt_of_eq t.isLt N_0
  have hlt : t.val * 1024 + n.val < 18432 := by
    clear hn
    omega
  obtain rfl : n' = ⟨t.val * 1024 + n.val, hlt⟩ := Fin.ext hn
  have e : (iblk m c 1 t : FVec Ideal S2048x1024 .f32) (ix2 k n) = (StableHlo.after (List.flatten [hostOps0 (F := Ideal)]) (fun b => m (c, b)) (Proc.tc.devRef main_v3) : FVec Ideal S2048x18432 .f32) (ix2 k ⟨t.val * 1024 + n.val, hlt⟩) := by
    blk_simp [iblk, idx t]
    blk_ext [idx t]
  rw [e, V_v3_eq]
  exact cast_w _ k _

/-- The bias block at a point. -/
theorem blk_b (c : Dev nD) (t : Fin cfg0.N) (n : Fin 1024) (n' : Fin 18432) (hn : n'.val = t.val * 1024 + n.val) :
    (iblk m c 2 t : FVec Ideal S1x1024 .f32) (ix2 0 n) = (m ((c : Thread nD τ).loc main_arg2) : FVec Ideal S1x18432 .f32) (ix2 0 n') := by
  have ht : t.val < 18 := lt_of_lt_of_eq t.isLt N_0
  have hlt : t.val * 1024 + n.val < 18432 := by
    clear hn
    omega
  obtain rfl : n' = ⟨t.val * 1024 + n.val, hlt⟩ := Fin.ext hn
  have e : (iblk m c 2 t : FVec Ideal S1x1024 .f32) (ix2 0 n) = (StableHlo.after (List.flatten [hostOps0 (F := Ideal)]) (fun b => m (c, b)) (Proc.tc.devRef main_v5) : FVec Ideal S1x18432 .f32) (ix2 0 ⟨t.val * 1024 + n.val, hlt⟩) := by
    blk_simp [iblk, idx t]
    blk_ext [idx t]
  rw [e, V_v5_eq]
  exact cast_b _ _

/-- The block of padded rows at a point is all of them. -/
theorem blk_c (c : Dev nD) (t : Fin cfg0.N) (r : Fin 8) (k : Fin 2048) :
    (iblk m c 0 t : FVec Ideal S8x2048 .f32) (ix2 r k) = pad (m ((c : Thread nD τ).loc main_arg0)) (ix2 r k) := by
  have ht : t.val < 18 := lt_of_lt_of_eq t.isLt N_0
  have e : (iblk m c 0 t : FVec Ideal S8x2048 .f32) (ix2 r k) = V_v2 m c (ix2 r k) := by
    unfold V_v2
    blk_simp [iblk, idx t]
    blk_ext [idx t]
  rw [e, V_v2_eq]

/-- The body's value, entry by entry, whatever its blocks hold. -/
theorem body (X : FVec Ideal S8x2048 .f32) (Y : FVec Ideal S2048x1024 .f32) (Z : FVec Ideal S1x1024 .f32) (r : Fin 8) (n : Fin 1024) :
    (out0_3 (F := Ideal) X Y Z) (ix2 r n) = (∑ k : Fin 2048, (X (ix2 r k) * Ideal.logistic (X (ix2 r k))) * Y (ix2 k n)) + Z (ix2 0 n) := by
  frame_out
  pointwise [k0_pay1]

/-- What a point stores, entry by entry. -/
theorem point (c : Dev nD) (t : Fin cfg0.N) (r : Fin 8) (n : Fin 1024) (n' : Fin 18432) (hn : n'.val = t.val * 1024 + n.val) :
    (out0_3 (iblk m c 0 t) (iblk m c 1 t) (iblk m c 2 t) : FVec Ideal S8x1024 .f32) (ix2 r n)
      = ada8 (m ((c : Thread nD τ).loc main_arg0)) (m ((c : Thread nD τ).loc main_arg1)) (m ((c : Thread nD τ).loc main_arg2)) r n' := by
  refine (body _ _ _ r n).trans ?_
  unfold ada8
  refine Ideal.add_congr ?_ (blk_b m c t n n' hn)
  refine Finset.sum_congr rfl fun k _ => Ideal.mul_congr (Ideal.mul_congr (blk_c m c t r k) (congrArg Ideal.logistic (blk_c m c t r k))) (blk_w m c t k n n' hn)

/-- The array the pipeline leaves, all eight rows of it. -/
theorem final (c : Dev nD) :
    (dats m 0 c).arrAt 3 cfg0.N = (fun z : S8x18432.Idx => ada8 (m ((c : Thread nD τ).loc main_arg0)) (m ((c : Thread nD τ).loc main_arg1)) (m ((c : Thread nD τ).loc main_arg2)) (z 0) (z 1)) := by
  refine (dats m 0 c).arrAt_eq_of_covers 3 _ (by decide +kernel) fun t _ y => ?_
  obtain ⟨r, n, rfl⟩ : ∃ (r : Fin 8) (n : Fin 1024), y = ix2 r n := by
    idx_vars y
    exact ⟨_, _, rfl⟩
  have ht : t.val < 18 := lt_of_lt_of_eq t.isLt N_0
  blk_simp
  rw [after0_3]
  have hw : win0_3.index t = ![0, t.val] := (idx t).2.2.2
  have e0 : (((View.whole main_v6).slice (win0_3.rect t)).emb (ix2 r n) 0).val = win0_3.index t (0 : Fin 2) * 8 + 1 * r.val := rfl
  have e1 : (((View.whole main_v6).slice (win0_3.rect t)).emb (ix2 r n) 1).val = win0_3.index t (1 : Fin 2) * 1024 + 1 * n.val := rfl
  rw [hw] at e0 e1
  have hlt : t.val * 1024 + n.val < 18432 := by omega
  refine (point m c t r n ⟨t.val * 1024 + n.val, hlt⟩ rfl).trans ?_
  refine congrArg₂ (fun R d => ada8 _ _ _ R d) (Fin.ext ?_) (Fin.ext ?_)
  · refine Eq.trans ?_ e0.symm
    show r.val = 0 * 8 + 1 * r.val
    omega
  · refine Eq.trans ?_ e1.symm
    show t.val * 1024 + n.val = t.val * 1024 + 1 * n.val
    omega

/-- The call runs to its end, leaves its arguments as they were, and its result is the modulation. -/
theorem run (ρ : Dev nD → PrngReg) : θ_run (defs (F := Ideal)) (onTc (τ := τ) (main (F := Ideal))) ⟨m, fun _ => 0, ρ⟩ fun r => ∀ c : Dev nD,
      r.2.mem ((c : Thread nD τ).loc main_v7) = (fun z : S4x18432.Idx => ada (m ((c : Thread nD τ).loc main_arg0)) (m ((c : Thread nD τ).loc main_arg1)) (m ((c : Thread nD τ).loc main_arg2)) (z 0) (z 1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun r h c => ⟨((h c).2 main_v7 (Pipeline.mem_restRefs_of main_v7 (by decide) (by decide))).trans ?_,
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).2 main_arg2 (Pipeline.mem_restRefs_of main_arg2 (by decide) (by decide))).trans (W_main_arg2 m (dats m) c)⟩) (run_main m ρ)
  unfold Pipeline.afterTail₀
  simp only [hostOps1, List.flatten_cons, List.flatten_nil, List.append_nil]
  after_results
  have e : (Pipeline.withArrays (cfgs 0).spec c (V0 m c) (fun w => (dats m 0 c).arrAt w (cfgs 0).N) (Proc.tc.devRef main_v6) : FVec Ideal S8x18432 .f32)
      = fun z : S8x18432.Idx => ada8 (m ((c : Thread nD τ).loc main_arg0)) (m ((c : Thread nD τ).loc main_arg1)) (m ((c : Thread nD τ).loc main_arg2)) (z 0) (z 1) :=
    (Pipeline.withArrays_arr (cfgs 0).spec (by decide +kernel) c (V0 m c) (fun w => (dats m 0 c).arrAt w (cfgs 0).N) 3).trans (final m c)
  refine (congrArg (fun Y : FVec Ideal S8x18432 .f32 => extractStridedSlice S4x18432 ![0, 0] Y slices_S8x18432_S4x18432_0_0) e).trans ?_
  funext z
  obtain ⟨r', n, rfl⟩ : ∃ (r' : Fin 4) (n : Fin 18432), z = ix2 r' n := by
    idx_vars z
    exact ⟨_, _, rfl⟩
  pointwise
  exact ada8_eq _ _ _ _ r' rfl n

end Cert.Kernel4Ideal.Ada

namespace Cert.Reference4Ideal.Ada

open Cert.Reference4Ideal Cert.Reference4Ideal.Gen Idealize.ShloMosaic Idealize.ShloMosaic.TcCoe Idealize.SL.Sem

/-- The reference's composed term, entry by entry. -/
theorem ref_apply (C : FVec Ideal S4x2048 .f32) (W : FVec Ideal S1x2048x18432 .f32) (B : FVec Ideal S1x18432 .f32) (r : Fin 4) (n : Fin 18432) :
    (addf (Host.dotGeneral dot_S4x2048_S2048x18432_S4x18432_1_0_0_1_n_n none (mulf C (Host.divf (broadcastInDim S4x2048 ![] bcast_S_S4x2048 (constant S_ .f32 0x3F800000#32)) (addf (broadcastInDim S4x2048 ![] bcast_S_S4x2048 (constant S_ .f32 0x3F800000#32)) (Host.exp (Host.negf C))))) (shapeCast _ W shapeCasts_S1x2048x18432_S2048x18432)) (broadcastInDim S4x18432 ![0, 1] bcast_S1x18432_S4x18432_0_1 (broadcastInDim S1x18432 ![1] bcast_S18432_S1x18432_1 (shapeCast _ B shapeCasts_S1x18432_S18432))) : FVec Ideal S4x18432 .f32) (ix2 r n)
      = Cert.Kernel4Ideal.Ada.ada C W B r n := by
  unfold Cert.Kernel4Ideal.Ada.ada
  pointwise
  refine Ideal.add_congr (Finset.sum_congr rfl fun k _ => Ideal.mul_congr (Ideal.mul_congr rfl ?_) rfl) rfl
  rfl

end Cert.Reference4Ideal.Ada
-- ==== Proof.lean ====
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.FfnRef
public import proofs.«01_k».proof.Proof.ProjRef
public import proofs.«01_k».proof.Proof.RopeRef
public import proofs.«01_k».proof.Proof.Out
public import proofs.«01_k».proof.Proof.Ada
public import Idealize.ShloMosaic.Lib.Pointwise
public import Idealize.ShloMosaic.Adequacy
public import Idealize.ShloMosaic.Init
public import Idealize.ShloMosaic.Lib.Quiescent
public import Idealize.ShloMosaic.Lib.Tactic.ValueTie

@[expose] public section

set_option maxRecDepth 16384

noncomputable section

namespace Cert.Proof

open Idealize.ShloMosaic Idealize.SL.Sem

/-- The idealized feed-forward reference runs to its end, leaves its arguments as they were and every counter at zero. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The feed-forward call: the array the idealized call leaves is the idealized reference's, entry by entry. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  funext z
  obtain ⟨R, d, rfl⟩ : ∃ (R : Fin 16384) (d : Fin 2048), z = ix2 R d := by
    idx_vars z
    exact ⟨_, _, rfl⟩
  refine (Cert.ReferenceIdeal.Ffn.ref_apply m' c R d).trans (Eq.trans ?_ (Cert.KernelIdeal.Ffn.G6_apply m c R d).symm)
  simp only [hagree c]

/-- The idealized input-projection reference runs to its end, leaves its arguments as they were and every counter at zero. -/
theorem quiescent_Reference2Ideal : quiescent_Reference2Ideal := fun m ρ _ =>
  (θ_run Cert.Reference2Ideal.defs _ _).mono (fun r h => ⟨fun c => (h c).2.2.2.2.2.2, sem_eq_zero_of_no_sems (by decide) r.2⟩)
    (Cert.Reference2Ideal.Value.run (F := Ideal) m ρ)

/-- The idealized output-projection reference runs to its end, leaves its arguments as they were and every counter at zero. -/
theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The idealized modulation reference runs to its end, leaves its arguments as they were and every counter at zero. -/
theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The projection call: the gated mix, the transposed values and the index weights the idealized call leaves are the
    idealized reference's, entry by entry. -/
theorem algebraic_Kernel2Ideal_Reference2Ideal : algebraic_Kernel2Ideal_Reference2Ideal := by
  intro m ρ m' ρ' _ hagree
  have e0 (c) : StableHlo.launchContents m' c (Proc.devRef .tc Cert.Reference2Ideal.main_arg0) = m ((c.tc : Thread Cert.Kernel2Ideal.nD Cert.Kernel2Ideal.τ).loc Cert.Kernel2Ideal.main_arg0) := (hagree c).1
  have e1 (c) : StableHlo.launchContents m' c (Proc.devRef .tc Cert.Reference2Ideal.main_arg1) = m ((c.tc : Thread Cert.Kernel2Ideal.nD Cert.Kernel2Ideal.τ).loc Cert.Kernel2Ideal.main_arg1) := (hagree c).2.1
  have e2 (c) : StableHlo.launchContents m' c (Proc.devRef .tc Cert.Reference2Ideal.main_arg2) = m ((c.tc : Thread Cert.Kernel2Ideal.nD Cert.Kernel2Ideal.τ).loc Cert.Kernel2Ideal.main_arg2) := (hagree c).2.2.1
  have e3 (c) : StableHlo.launchContents m' c (Proc.devRef .tc Cert.Reference2Ideal.main_arg3) = m ((c.tc : Thread Cert.Kernel2Ideal.nD Cert.Kernel2Ideal.τ).loc Cert.Kernel2Ideal.main_arg3) := (hagree c).2.2.2.1
  have e4 (c) : StableHlo.launchContents m' c (Proc.devRef .tc Cert.Reference2Ideal.main_arg4) = m ((c.tc : Thread Cert.Kernel2Ideal.nD Cert.Kernel2Ideal.τ).loc Cert.Kernel2Ideal.main_arg4) := (hagree c).2.2.2.2.1
  have e5 (c) : StableHlo.launchContents m' c (Proc.devRef .tc Cert.Reference2Ideal.main_arg5) = m ((c.tc : Thread Cert.Kernel2Ideal.nD Cert.Kernel2Ideal.τ).loc Cert.Kernel2Ideal.main_arg5) := (hagree c).2.2.2.2.2.1
  have e6 (c) : StableHlo.launchContents m' c (Proc.devRef .tc Cert.Reference2Ideal.main_arg6) = m ((c.tc : Thread Cert.Kernel2Ideal.nD Cert.Kernel2Ideal.τ).loc Cert.Kernel2Ideal.main_arg6) := (hagree c).2.2.2.2.2.2.1
  have e7 (c) : StableHlo.launchContents m' c (Proc.devRef .tc Cert.Reference2Ideal.main_arg7) = m ((c.tc : Thread Cert.Kernel2Ideal.nD Cert.Kernel2Ideal.τ).loc Cert.Kernel2Ideal.main_arg7) := (hagree c).2.2.2.2.2.2.2.1
  have e8 (c) : StableHlo.launchContents m' c (Proc.devRef .tc Cert.Reference2Ideal.main_arg8) = m ((c.tc : Thread Cert.Kernel2Ideal.nD Cert.Kernel2Ideal.τ).loc Cert.Kernel2Ideal.main_arg8) := (hagree c).2.2.2.2.2.2.2.2.1
  have e10 (c) : StableHlo.launchContents m' c (Proc.devRef .tc Cert.Reference2Ideal.main_arg10) = m ((c.tc : Thread Cert.Kernel2Ideal.nD Cert.Kernel2Ideal.τ).loc Cert.Kernel2Ideal.main_arg10) := (hagree c).2.2.2.2.2.2.2.2.2.2
  refine ⟨Cert.Kernel2Ideal.Proj.F12 m, Cert.Kernel2Ideal.Proj.F15 m, Cert.Kernel2Ideal.Proj.F18 m, Cert.Kernel2Ideal.Proj.F14 m, Cert.Kernel2Ideal.Proj.F16 m, Cert.Kernel2Ideal.Proj.F17 m,
    (θ_run Cert.Kernel2Ideal.defs _ _).mono (fun _ h c => ⟨(h c).1.trans (Cert.Kernel2Ideal.Proj.final12 m c),
      (h c).2.2.2.1.trans (Cert.Kernel2Ideal.Proj.final15 m c), (h c).2.2.2.2.2.2.1.trans (Cert.Kernel2Ideal.Proj.final18 m c),
      (h c).2.2.1.trans (Cert.Kernel2Ideal.Proj.final14 m c), (h c).2.2.2.2.1.trans (Cert.Kernel2Ideal.Proj.final16 m c), (h c).2.2.2.2.2.1.trans (Cert.Kernel2Ideal.Proj.final17 m c),
      (h c).2.2.2.2.2.2.2⟩) (Cert.Kernel2Ideal.Value.run_blocks (F := Ideal) m ρ), ?_⟩
  refine (θ_run Cert.Reference2Ideal.defs _ _).mono (fun _ h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩)
    (Cert.Reference2Ideal.Value.run (F := Ideal) m' ρ')
  · funext z
    obtain ⟨R, n, rfl⟩ : ∃ (R : Fin 16384) (n : Fin 1024), z = ix2 R n := by
      idx_vars z
      exact ⟨_, _, rfl⟩
    have key := Cert.Reference2Ideal.Proj.ga_apply (StableHlo.launchContents m' c) R n
    rw [e0, e1, e2, e4, e5, e6, e7, e8] at key
    unfold Cert.Reference2Ideal.Proj.refA at key
    rw [e8]
    exact key
  · funext z
    obtain ⟨k, d, j, rfl⟩ : ∃ (k : Fin 64) (d : Fin 1024) (j : Fin 256), z = ix3 k d j := by
      idx_vars z
      exact ⟨_, _, _, rfl⟩
    have key := Cert.Reference2Ideal.Proj.vt_apply (StableHlo.launchContents m' c) k d j
    rw [e0, e1, e2, e4] at key
    unfold Cert.Reference2Ideal.Proj.refT at key
    exact key
  · funext z
    obtain ⟨a, R, rfl⟩ : ∃ (a : Fin 16) (R : Fin 16384), z = ix2 a R := by
      idx_vars z
      exact ⟨_, _, rfl⟩
    have key := Cert.Reference2Ideal.Proj.wt_apply (StableHlo.launchContents m' c) a R
    rw [e0, e1, e2, e4] at key
    unfold Cert.Reference2Ideal.Proj.refI at key
    exact key
  · funext z
    obtain ⟨R, n, rfl⟩ : ∃ (R : Fin 16384) (n : Fin 1024), z = ix2 R n := by
      idx_vars z
      exact ⟨_, _, rfl⟩
    have key := Cert.Reference2Ideal.Proj.k_apply (StableHlo.launchContents m' c) R n
    rw [e0, e1, e2, e3, e4, e10] at key
    exact key
  · funext z
    obtain ⟨a, l, R, rfl⟩ : ∃ (a : Fin 16) (l : Fin 64) (R : Fin 16384), z = ix3 a l R := by
      idx_vars z
      exact ⟨_, _, _, rfl⟩
    have key := Cert.Reference2Ideal.Proj.qit_apply (StableHlo.launchContents m' c) a l R
    rw [e0, e1, e2, e3, e4] at key
    exact key
  · funext z
    obtain ⟨R, l, rfl⟩ : ∃ (R : Fin 16384) (l : Fin 64), z = ix2 R l := by
      idx_vars z
      exact ⟨_, _, rfl⟩
    have key := Cert.Reference2Ideal.Proj.ki_apply (StableHlo.launchContents m' c) R l
    rw [e0, e1, e2, e3, e4] at key
    exact key

/-- The output projection: the array the idealized call leaves is the idealized reference's, entry by entry. -/
theorem algebraic_Kernel3Ideal_Reference3Ideal : algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  rw [(h c).1, Cert.Kernel3Ideal.Out.final m c]
  obtain ⟨h0, h1, h2, h3, h4⟩ := hagree c
  rw [h0, h1, h2, h3, h4]
  funext z
  obtain ⟨R, d, rfl⟩ : ∃ R d, z = ix2 R d := by
    idx_vars z
    exact ⟨_, _, rfl⟩
  exact Cert.Reference3Ideal.Out.ref_apply _ _ _ _ _ R d

/-- The modulation: the array the idealized call leaves is the idealized reference's, entry by entry. -/
theorem algebraic_Kernel4Ideal_Reference4Ideal : algebraic_Kernel4Ideal_Reference4Ideal := by
  intro m ρ m' ρ' _ hagree
  refine ⟨_, Cert.Kernel4Ideal.Ada.run m ρ, ?_⟩
  refine (θ_run Cert.Reference4Ideal.defs _ _).mono (fun _ h c => ⟨?_, (h c).2⟩) (Cert.Reference4Ideal.Value.run (F := Ideal) m' ρ')
  rw [(h c).1]
  obtain ⟨h0, h1, h2⟩ := hagree c
  rw [h0, h1, h2]
  funext z
  obtain ⟨r, n, rfl⟩ : ∃ (r : Fin 4) (n : Fin 18432), z = ix2 r n := by
    idx_vars z
    exact ⟨_, _, rfl⟩
  exact Cert.Reference4Ideal.Ada.ref_apply _ _ _ r n

/-- All the claims of the four calls. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  fun m ρ _ => Cert.Kernel.Gen.frame m ρ, fun m ρ _ => Cert.KernelIdeal.Gen.frame m ρ, quiescent_ReferenceIdeal,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  (trivial : preserves_Kernel_KernelIdeal), algebraic_KernelIdeal_ReferenceIdeal,
  (trivial : preserves_Kernel2_Kernel2Ideal), algebraic_Kernel2Ideal_Reference2Ideal,
  (trivial : preserves_Kernel3_Kernel3Ideal), algebraic_Kernel3Ideal_Reference3Ideal,
  (trivial : preserves_Kernel4_Kernel4Ideal), algebraic_Kernel4Ideal_Reference4Ideal⟩

end Cert.Proof

end
